-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v15)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v15) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v7) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v5) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v5) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn {F : FTy → Type} [FloatOps F] (main_arg0 : FVec F S8192x8x64 .f32) (main_arg1 : FVec F S8192x8x64 .f32) (main_arg2 : FVec F S8192x8x64 .f32) (main_arg3 : FVec F S8192x8x64 .f32) (main_arg4 : FVec F S8192x8 .f32) : IVec S8192x8x64 1 × IVec S8192x8x64 1 × IVec S8192x8x64 1 × IVec S8192x8x64 1 × IVec S8192x8 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8x64 .f32 := Host.absf main_arg3
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_v12 : FVec F S8192x8 .f32 := Host.absf main_arg4
  let main_cst_3 : FVec F S_ .f32 := constant S_ .f32 0x7F800000#32
  let main_v13 : FVec F S8192x8 .f32 := broadcastInDim S8192x8 ![] bcast_S_S8192x8 main_cst_3
  let main_v14 : IVec S8192x8 1 := cmpf .olt main_v12 main_v13
  (main_v2, main_v5, main_v8, main_v11, main_v14)
-- ==== Kernel.lean ====
abbrev S8192x8x64 : Shape := ⟨3, ![8192, 8, 64]⟩
abbrev S8192x8 : Shape := ⟨2, ![8192, 8]⟩
abbrev S2048x4x8x64 : Shape := ⟨4, ![2048, 4, 8, 64]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S2048x4x8 : Shape := ⟨3, ![2048, 4, 8]⟩
abbrev S3x8192x512 : Shape := ⟨3, ![3, 8192, 512]⟩
abbrev S8192x512 : Shape := ⟨2, ![8192, 512]⟩
abbrev S1x8192x512 : Shape := ⟨3, ![1, 8192, 512]⟩
abbrev S6x8192x512 : Shape := ⟨3, ![6, 8192, 512]⟩
abbrev S8192x8x1 : Shape := ⟨3, ![8192, 8, 1]⟩
abbrev S3x2048x2048 : Shape := ⟨3, ![3, 2048, 2048]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 81
  | .vmem => 24
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8x64, .f32⟩
  | .hbm, ⟨4, _⟩ => ⟨S8192x8, .f32⟩
  | .hbm, ⟨5, _⟩ => ⟨S2048x4x8x64, .f32⟩
  | .hbm, ⟨6, _⟩ => ⟨S2048x4x8x64, .f32⟩
  | .hbm, ⟨7, _⟩ => ⟨S4x8x2048x2048, .f32⟩
  | .hbm, ⟨8, _⟩ => ⟨S_, .f32⟩
  | .hbm, ⟨9, _⟩ => ⟨S4x8x2048x2048, .f32⟩
  | .hbm, ⟨10, _⟩ => ⟨S4x8x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .f32⟩
  | .hbm, ⟨41, _⟩ => ⟨S2048x4x8x64, .f32⟩
  | .hbm, ⟨42, _⟩ => ⟨S4x8x64x2048, .f32⟩
  | .hbm, ⟨43, _⟩ => ⟨S2048x4x8x64, .f32⟩
  | .hbm, ⟨44, _⟩ => ⟨S4x8x2048x1, .f32⟩
  | .hbm, ⟨45, _⟩ => ⟨S4x8x2048x1, .f32⟩
  | .hbm, ⟨46, _⟩ => ⟨S4x8x2048, .f32⟩
  | .hbm, ⟨47, _⟩ => ⟨S8192x8x64, .f32⟩
  | .hbm, ⟨48, _⟩ => ⟨S2048x4x8, .f32⟩
  | .hbm, ⟨49, _⟩ => ⟨S8192x8, .f32⟩
  | .hbm, ⟨50, _⟩ => ⟨S8192x8x64, .f32⟩
  | .hbm, ⟨51, _⟩ => ⟨S_, .f32⟩
  | .hbm, ⟨52, _⟩ => ⟨S8192x8, .f32⟩
  | .hbm, ⟨53, _⟩ => ⟨S8192x8, .f32⟩
  | .hbm, ⟨54, _⟩ => ⟨S_, .bf16⟩
  | .hbm, ⟨55, _⟩ => ⟨S3x8192x512, .bf16⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S1x8192x512, .f32⟩
  | .hbm, ⟨60, _⟩ => ⟨S1x8192x512, .f32⟩
  | .hbm, ⟨61, _⟩ => ⟨S1x8192x512, .f32⟩
  | .hbm, ⟨62, _⟩ => ⟨S3x8192x512, .f32⟩
  | .hbm, ⟨63, _⟩ => ⟨S3x8192x512, .bf16⟩
  | .hbm, ⟨64, _⟩ => ⟨S6x8192x512, .bf16⟩
  | .hbm, ⟨65, _⟩ => ⟨S8192x512, .f32⟩
  | .hbm, ⟨66, _⟩ => ⟨S8192x512, .bf16⟩
  | .hbm, ⟨67, _⟩ => ⟨S8192x8x1, .f32⟩
  | .hbm, ⟨68, _⟩ => ⟨S8192x8x64, .f32⟩
  | .hbm, ⟨69, _⟩ => ⟨S8192x512, .f32⟩
  | .hbm, ⟨70, _⟩ => ⟨S8192x8x1, .f32⟩
  | .hbm, ⟨71, _⟩ => ⟨S8192x8x64, .f32⟩
  | .hbm, ⟨72, _⟩ => ⟨S8192x512, .f32⟩
  | .hbm, ⟨73, _⟩ => ⟨S3x8192x512, .bf16⟩
  | .hbm, ⟨74, _⟩ => ⟨S3x2048x2048, .bf16⟩
  | .hbm, ⟨75, _⟩ => ⟨S2048x2048, .bf16⟩
  | .hbm, ⟨76, _⟩ => ⟨S2048x2048, .f32⟩
  | .hbm, ⟨77, _⟩ => ⟨S2048x2048, .f32⟩
  | .hbm, ⟨78, _⟩ => ⟨S2048x2048, .bf16⟩
  | .hbm, ⟨79, _⟩ => ⟨S2048x2048, .bf16⟩
  | .hbm, ⟨80, _⟩ => ⟨S2048x2048, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .f32⟩
  | .local _ .vmem, ⟨23, _⟩ => ⟨S128x512, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32 : BitVec 32 := 16#32
  let v0 : BitVec 1 := Scalar.cmpi .slt arg1 c16_i32
  let v141 : BitVec 32 := Scalar.extui v0
  let c0_i32_63 : BitVec 32 := 0#32
  let v142 : BitVec 1 := Scalar.cmpi .ne v141 c0_i32_63
  v142

def k0_cond3 (i : grid0.Coords) : BitVec 1 :=
  let arg1 : BitVec 32 := BitVec.ofNat 32 (i 1).val
  let c16_i32 : BitVec 32 := 16#32
  let v0 : BitVec 1 := Scalar.cmpi .slt arg1 c16_i32
  let v279 : BitVec 32 := Scalar.extui v0
  let c0_i32_138 : BitVec 32 := 0#32
  let v280 : BitVec 1 := Scalar.cmpi .ne v279 c0_i32_138
  v280

def k0_cond4 (i : grid0.Coords) : BitVec 1 :=
  let arg1 : BitVec 32 := BitVec.ofNat 32 (i 1).val
  let c16_i32 : BitVec 32 := 16#32
  let v0 : BitVec 1 := Scalar.cmpi .slt arg1 c16_i32
  let v417 : BitVec 32 := Scalar.extui v0
  let c0_i32_213 : BitVec 32 := 0#32
  let v418 : BitVec 1 := Scalar.cmpi .ne v417 c0_i32_213
  v418

def k0_cond5 (i : grid0.Coords) : BitVec 1 :=
  let arg1 : BitVec 32 := BitVec.ofNat 32 (i 1).val
  let c16_i32 : BitVec 32 := 16#32
  let v0 : BitVec 1 := Scalar.cmpi .slt arg1 c16_i32
  let v555 : BitVec 32 := Scalar.extui v0
  let c0_i32_288 : BitVec 32 := 0#32
  let v556 : BitVec 1 := Scalar.cmpi .ne v555 c0_i32_288
  v556

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![c0_i32.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let c0_i32 : BitVec 32 := 0#32
  ![c1_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c2_i32 : BitVec 32 := 2#32
  let c0_i32 : BitVec 32 := 0#32
  ![c2_i32.toNat, v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8x64 : Shape := ⟨3, ![8192, 8, 64]⟩
abbrev S8192x8 : Shape := ⟨2, ![8192, 8]⟩
abbrev S2048x4x8x64 : Shape := ⟨4, ![2048, 4, 8, 64]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S2048x4x8 : Shape := ⟨3, ![2048, 4, 8]⟩
abbrev S4x8x2048x64 : Shape := ⟨4, ![4, 8, 2048, 64]⟩

abbrev nBuf : Space → Nat
  | .hbm => 116
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8x64, .f32⟩
  | .hbm, ⟨4, _⟩ => ⟨S8192x8, .f32⟩
  | .hbm, ⟨5, _⟩ => ⟨S2048x4x8x64, .f32⟩
  | .hbm, ⟨6, _⟩ => ⟨S2048x4x8x64, .f32⟩
  | .hbm, ⟨7, _⟩ => ⟨S4x8x2048x2048, .f32⟩
  | .hbm, ⟨8, _⟩ => ⟨S_, .f32⟩
  | .hbm, ⟨9, _⟩ => ⟨S4x8x2048x2048, .f32⟩
  | .hbm, ⟨10, _⟩ => ⟨S4x8x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .i1⟩
  | .hbm, ⟨37, _⟩ => ⟨S4x8x2048x2048, .f32⟩
  | .hbm, ⟨38, _⟩ => ⟨S_, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S4x8x2048, .f32⟩
  | .hbm, ⟨46, _⟩ => ⟨S4x8x2048x1, .f32⟩
  | .hbm, ⟨47, _⟩ => ⟨S4x8x2048x2048, .f32⟩
  | .hbm, ⟨48, _⟩ => ⟨S4x8x2048x2048, .f32⟩
  | .hbm, ⟨49, _⟩ => ⟨S4x8x2048x1, .f32⟩
  | .hbm, ⟨50, _⟩ => ⟨S_, .f32⟩
  | .hbm, ⟨51, _⟩ => ⟨S4x8x2048x1, .f32⟩
  | .hbm, ⟨52, _⟩ => ⟨S4x8x2048x1, .f32⟩
  | .hbm, ⟨53, _⟩ => ⟨S2048x4x8x64, .f32⟩
  | .hbm, ⟨54, _⟩ => ⟨S4x8x64x2048, .f32⟩
  | .hbm, ⟨55, _⟩ => ⟨S2048x4x8x64, .f32⟩
  | .hbm, ⟨56, _⟩ => ⟨S4x8x2048x1, .f32⟩
  | .hbm, ⟨57, _⟩ => ⟨S4x8x2048x1, .f32⟩
  | .hbm, ⟨58, _⟩ => ⟨S4x8x2048, .f32⟩
  | .hbm, ⟨59, _⟩ => ⟨S8192x8x64, .f32⟩
  | .hbm, ⟨60, _⟩ => ⟨S2048x4x8, .f32⟩
  | .hbm, ⟨61, _⟩ => ⟨S8192x8, .f32⟩
  | .hbm, ⟨62, _⟩ => ⟨S2048x4x8, .f32⟩
  | .hbm, ⟨63, _⟩ => ⟨S4x8x2048, .f32⟩
  | .hbm, ⟨64, _⟩ => ⟨S2048x4x8x64, .f32⟩
  | .hbm, ⟨65, _⟩ => ⟨S4x8x2048x1, .f32⟩
  | .hbm, ⟨66, _⟩ => ⟨S4x8x2048x1, .f32⟩
  | .hbm, ⟨67, _⟩ => ⟨S4x8x64x2048, .f32⟩
  | .hbm, ⟨68, _⟩ => ⟨S4x8x2048x2048, .f32⟩
  | .hbm, ⟨69, _⟩ => ⟨S4x8x64x2048, .f32⟩
  | .hbm, ⟨70, _⟩ => ⟨S2048x4x8x64, .f32⟩
  | .hbm, ⟨71, _⟩ => ⟨S8192x8x64, .f32⟩
  | .hbm, ⟨72, _⟩ => ⟨S4x8x2048x2048, .f32⟩
  | .hbm, ⟨73, _⟩ => ⟨S4x8x2048x2048, .f32⟩
  | .hbm, ⟨74, _⟩ => ⟨S4x8x2048x2048, .f32⟩
  | .hbm, ⟨75, _⟩ => ⟨S_, .f32⟩
  | .hbm, ⟨76, _⟩ => ⟨S4x8x2048, .f32⟩
  | .hbm, ⟨77, _⟩ => ⟨S4x8x2048x1, .f32⟩
  | .hbm, ⟨78, _⟩ => ⟨S4x8x2048x1, .f32⟩
  | .hbm, ⟨79, _⟩ => ⟨S4x8x2048x1, .f32⟩
  | .hbm, ⟨80, _⟩ => ⟨S4x8x2048x2048, .f32⟩
  | .hbm, ⟨81, _⟩ => ⟨S4x8x2048x2048, .f32⟩
  | .hbm, ⟨82, _⟩ => ⟨S_, .f32⟩
  | .hbm, ⟨83, _⟩ => ⟨S4x8x2048, .f32⟩
  | .hbm, ⟨84, _⟩ => ⟨S4x8x2048x2048, .f32⟩
  | .hbm, ⟨85, _⟩ => ⟨S4x8x2048x2048, .f32⟩
  | .hbm, ⟨86, _⟩ => ⟨S4x8x2048x2048, .f32⟩
  | .hbm, ⟨87, _⟩ => ⟨S4x8x2048x2048, .f32⟩
  | .hbm, ⟨88, _⟩ => ⟨S_, .f32⟩
  | .hbm, ⟨89, _⟩ => ⟨S4x8x2048, .f32⟩
  | .hbm, ⟨90, _⟩ => ⟨S4x8x2048x1, .f32⟩
  | .hbm, ⟨91, _⟩ => ⟨S4x8x2048x1, .f32⟩
  | .hbm, ⟨92, _⟩ => ⟨S_, .f32⟩
  | .hbm, ⟨93, _⟩ => ⟨S4x8x2048, .f32⟩
  | .hbm, ⟨94, _⟩ => ⟨S4x8x2048, .f32⟩
  | .hbm, ⟨95, _⟩ => ⟨S4x8x2048x2048, .f32⟩
  | .hbm, ⟨96, _⟩ => ⟨S4x8x2048x2048, .f32⟩
  | .hbm, ⟨97, _⟩ => ⟨S4x8x2048x2048, .f32⟩
  | .hbm, ⟨98, _⟩ => ⟨S_, .f32⟩
  | .hbm, ⟨99, _⟩ => ⟨S4x8x2048x2048, .f32⟩
  | .hbm, ⟨100, _⟩ => ⟨S4x8x2048x2048, .f32⟩
  | .hbm, ⟨101, _⟩ => ⟨S_, .f32⟩
  | .hbm, ⟨102, _⟩ => ⟨S4x8x2048x2048, .f32⟩
  | .hbm, ⟨103, _⟩ => ⟨S4x8x2048x2048, .f32⟩
  | .hbm, ⟨104, _⟩ => ⟨S4x8x2048x64, .f32⟩
  | .hbm, ⟨105, _⟩ => ⟨S2048x4x8x64, .f32⟩
  | .hbm, ⟨106, _⟩ => ⟨S4x8x2048x64, .f32⟩
  | .hbm, ⟨107, _⟩ => ⟨S2048x4x8x64, .f32⟩
  | .hbm, ⟨108, _⟩ => ⟨S8192x8x64, .f32⟩
  | .hbm, ⟨109, _⟩ => ⟨S8192x8x64, .f32⟩
  | .hbm, ⟨110, _⟩ => ⟨S2048x2048, .f32⟩
  | .hbm, ⟨111, _⟩ => ⟨S2048x2048, .bf16⟩
  | .hbm, ⟨112, _⟩ => ⟨S2048x2048, .f32⟩
  | .hbm, ⟨113, _⟩ => ⟨S2048x2048, .bf16⟩
  | .hbm, ⟨114, _⟩ => ⟨S2048x2048, .f32⟩
  | .hbm, ⟨115, _⟩ => ⟨S2048x2048, .bf16⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_v17_1 : Ref sig .tc := ⟨.hbm, 27, rfl⟩
abbrev main_call0_v2 : Ref sig .tc := ⟨.hbm, 28, rfl⟩
abbrev main_v17_0 : Ref sig .tc := ⟨.hbm, 29, rfl⟩
abbrev main_call0_cst : Ref sig .tc := ⟨.hbm, 30, rfl⟩
abbrev main_v17_2 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_cst_10 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]
-- ==== Kernel2.lean ====
abbrev S8192x8192 : Shape := ⟨2, ![8192, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S8192x8192, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x2048, .bf16⟩
  | .hbm, ⟨9, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S8192x8192 : Shape := ⟨2, ![8192, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .bf16⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x2048, .bf16⟩
  | .hbm, ⟨4, _⟩ => ⟨S8192x8192, .bf16⟩
  | .hbm, ⟨5, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩
abbrev S2048x8x1024 : Shape := ⟨3, ![2048, 8, 1024]⟩
abbrev S8x2048x1024 : Shape := ⟨3, ![8, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | .hbm, ⟨8, _⟩ => ⟨S8x2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .hbm, ⟨3, _⟩ => ⟨S8192x2048, .bf16⟩
  | .hbm, ⟨4, _⟩ => ⟨S4096x2048, .bf16⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .hbm, ⟨3, _⟩ => ⟨S8192x2048, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S8192x4096 : Shape := ⟨2, ![8192, 4096]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .hbm, ⟨3, _⟩ => ⟨S8192x4096, .bf16⟩
  | .hbm, ⟨4, _⟩ => ⟨S8192x2048, .bf16⟩
  | .hbm, ⟨5, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x4096 : Shape := ⟨2, ![8192, 4096]⟩
abbrev S4096x2048 : Shape := ⟨2, ![4096, 2048]⟩
abbrev S8192x2048 : Shape := ⟨2, ![8192, 2048]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .hbm, ⟨3, _⟩ => ⟨S8192x2048, .f32⟩
  | .hbm, ⟨4, _⟩ => ⟨S2048x4096, .f32⟩
  | .hbm, ⟨5, _⟩ => ⟨S4096x2048, .f32⟩
  | .hbm, ⟨6, _⟩ => ⟨S4096x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x2048 : Shape := ⟨2, ![8192, 2048]⟩
abbrev S2048x10304 : Shape := ⟨2, ![2048, 10304]⟩
abbrev S8192x10304 : Shape := ⟨2, ![8192, 10304]⟩
abbrev S_ : Shape := ⟨0, ![]⟩
abbrev S8192x10368 : Shape := ⟨2, ![8192, 10368]⟩
abbrev S2048x10368 : Shape := ⟨2, ![2048, 10368]⟩
abbrev S1024x3456 : Shape := ⟨2, ![1024, 3456]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S8192x10304, .f32⟩
  | .hbm, ⟨3, _⟩ => ⟨S_, .i32⟩
  | .hbm, ⟨4, _⟩ => ⟨S_, .f32⟩
  | .hbm, ⟨5, _⟩ => ⟨S8192x10368, .f32⟩
  | .hbm, ⟨6, _⟩ => ⟨S8192x10368, .bf16⟩
  | .hbm, ⟨7, _⟩ => ⟨S_, .i32⟩
  | .hbm, ⟨8, _⟩ => ⟨S_, .f32⟩
  | .hbm, ⟨9, _⟩ => ⟨S2048x10368, .f32⟩
  | .hbm, ⟨10, _⟩ => ⟨S2048x10368, .bf16⟩
  | .hbm, ⟨11, _⟩ => ⟨S8192x2048, .f32⟩
  | .local _ .vmem, ⟨0, _⟩ => ⟨S1024x3456, .bf16⟩
  | .local _ .vmem, ⟨1, _⟩ => ⟨S1024x3456, .bf16⟩
  | .local _ .vmem, ⟨2, _⟩ => ⟨S1024x3456, .bf16⟩
  | .local _ .vmem, ⟨3, _⟩ => ⟨S1024x3456, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x10304 : Shape := ⟨2, ![2048, 10304]⟩
abbrev S8192x10304 : Shape := ⟨2, ![8192, 10304]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S8192x10304, .f32⟩
  | .hbm, ⟨3, _⟩ => ⟨S8192x10304, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x10304 : Shape := ⟨2, ![2048, 10304]⟩
abbrev S8192x10304 : Shape := ⟨2, ![8192, 10304]⟩
abbrev S_ : Shape := ⟨0, ![]⟩
abbrev S8192x10368 : Shape := ⟨2, ![8192, 10368]⟩
abbrev S2048x10368 : Shape := ⟨2, ![2048, 10368]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S8192x10304, .f32⟩
  | .hbm, ⟨3, _⟩ => ⟨S8192x2048, .bf16⟩
  | .hbm, ⟨4, _⟩ => ⟨S_, .i32⟩
  | .hbm, ⟨5, _⟩ => ⟨S_, .f32⟩
  | .hbm, ⟨6, _⟩ => ⟨S8192x10368, .f32⟩
  | .hbm, ⟨7, _⟩ => ⟨S8192x10368, .bf16⟩
  | .hbm, ⟨8, _⟩ => ⟨S2048x10368, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x10304 : Shape := ⟨2, ![2048, 10304]⟩
abbrev S8192x10304 : Shape := ⟨2, ![8192, 10304]⟩
abbrev S10304x2048 : Shape := ⟨2, ![10304, 2048]⟩
abbrev S_ : Shape := ⟨0, ![]⟩
abbrev S2048x10368 : Shape := ⟨2, ![2048, 10368]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S8192x10304, .f32⟩
  | .hbm, ⟨3, _⟩ => ⟨S8192x10304, .f32⟩
  | .hbm, ⟨4, _⟩ => ⟨S10304x2048, .f32⟩
  | .hbm, ⟨5, _⟩ => ⟨S2048x10304, .f32⟩
  | .hbm, ⟨6, _⟩ => ⟨S_, .i32⟩
  | .hbm, ⟨7, _⟩ => ⟨S_, .f32⟩
  | .hbm, ⟨8, _⟩ => ⟨S2048x10368, .f32⟩
  | .hbm, ⟨9, _⟩ => ⟨S2048x10368, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | .hbm, ⟨4, _⟩ => ⟨S1024x2048, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x2048 : Shape := ⟨2, ![8192, 2048]⟩
abbrev S2048x5120 : Shape := ⟨2, ![2048, 5120]⟩
abbrev S8192x5120 : Shape := ⟨2, ![8192, 5120]⟩
abbrev S8192x4608 : Shape := ⟨2, ![8192, 4608]⟩
abbrev S8192x3x3x512 : Shape := ⟨4, ![8192, 3, 3, 512]⟩
abbrev S3x3x8192x512 : Shape := ⟨4, ![3, 3, 8192, 512]⟩
abbrev S9x8192x512 : Shape := ⟨3, ![9, 8192, 512]⟩
abbrev S8192x512 : Shape := ⟨2, ![8192, 512]⟩
abbrev S1x8192x512 : Shape := ⟨3, ![1, 8192, 512]⟩
abbrev S10x8192x512 : Shape := ⟨3, ![10, 8192, 512]⟩
abbrev S2048x4608 : Shape := ⟨2, ![2048, 4608]⟩
abbrev S2048x3x3x512 : Shape := ⟨4, ![2048, 3, 3, 512]⟩
abbrev S2048x512 : Shape := ⟨2, ![2048, 512]⟩
abbrev S5x1024x512 : Shape := ⟨3, ![5, 1024, 512]⟩
abbrev S1024x2560 : Shape := ⟨2, ![1024, 2560]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 19
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x4608, .f32⟩
  | .hbm, ⟨4, _⟩ => ⟨S8192x3x3x512, .f32⟩
  | .hbm, ⟨5, _⟩ => ⟨S3x3x8192x512, .f32⟩
  | .hbm, ⟨6, _⟩ => ⟨S9x8192x512, .f32⟩
  | .hbm, ⟨7, _⟩ => ⟨S8192x512, .f32⟩
  | .hbm, ⟨8, _⟩ => ⟨S1x8192x512, .f32⟩
  | .hbm, ⟨9, _⟩ => ⟨S10x8192x512, .f32⟩
  | .hbm, ⟨10, _⟩ => ⟨S10x8192x512, .bf16⟩
  | .hbm, ⟨11, _⟩ => ⟨S2048x4608, .f32⟩
  | .hbm, ⟨12, _⟩ => ⟨S2048x3x3x512, .f32⟩
  | .hbm, ⟨13, _⟩ => ⟨S2048x3x3x512, .f32⟩
  | .hbm, ⟨14, _⟩ => ⟨S2048x4608, .f32⟩
  | .hbm, ⟨15, _⟩ => ⟨S2048x512, .f32⟩
  | .hbm, ⟨16, _⟩ => ⟨S2048x5120, .f32⟩
  | .hbm, ⟨17, _⟩ => ⟨S2048x5120, .bf16⟩
  | .hbm, ⟨18, _⟩ => ⟨S8192x2048, .f32⟩
  | .local _ .vmem, ⟨0, _⟩ => ⟨S5x1024x512, .bf16⟩
  | .local _ .vmem, ⟨1, _⟩ => ⟨S5x1024x512, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v34 : BitVec 1 := Scalar.cmpi .eq arg2 c1_i32
  let v35 : BitVec 32 := Scalar.extui v34
  let c0_i32_11 : BitVec 32 := 0#32
  let v36 : BitVec 1 := Scalar.cmpi .ne v35 c0_i32_11
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S5x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x5120 : Shape := ⟨2, ![2048, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x5120, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8192x2048 : Shape := ⟨2, ![8192, 2048]⟩
abbrev S2048x5120 : Shape := ⟨2, ![2048, 5120]⟩
abbrev S8192x5120 : Shape := ⟨2, ![8192, 5120]⟩
abbrev S8192x4608 : Shape := ⟨2, ![8192, 4608]⟩
abbrev S8192x3x3x512 : Shape := ⟨4, ![8192, 3, 3, 512]⟩
abbrev S3x3x8192x512 : Shape := ⟨4, ![3, 3, 8192, 512]⟩
abbrev S9x8192x512 : Shape := ⟨3, ![9, 8192, 512]⟩
abbrev S8192x512 : Shape := ⟨2, ![8192, 512]⟩
abbrev S1x8192x512 : Shape := ⟨3, ![1, 8192, 512]⟩
abbrev S10x8192x512 : Shape := ⟨3, ![10, 8192, 512]⟩
abbrev S2048x1024 : Shape := ⟨2, ![2048, 1024]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 13
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x2048, .bf16⟩
  | .hbm, ⟨4, _⟩ => ⟨S8192x4608, .f32⟩
  | .hbm, ⟨5, _⟩ => ⟨S8192x3x3x512, .f32⟩
  | .hbm, ⟨6, _⟩ => ⟨S3x3x8192x512, .f32⟩
  | .hbm, ⟨7, _⟩ => ⟨S9x8192x512, .f32⟩
  | .hbm, ⟨8, _⟩ => ⟨S8192x512, .f32⟩
  | .hbm, ⟨9, _⟩ => ⟨S1x8192x512, .f32⟩
  | .hbm, ⟨10, _⟩ => ⟨S10x8192x512, .f32⟩
  | .hbm, ⟨11, _⟩ => ⟨S10x8192x512, .bf16⟩
  | .hbm, ⟨12, _⟩ => ⟨S2048x5120, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 1 := Scalar.cmpi .slt arg1 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32_3 : BitVec 32 := 3#32
  let v11 : BitVec 32 := Scalar.muli c3_i32_3 v10
  let c3_i32_4 : BitVec 32 := 3#32
  let v12 : BitVec 32 := Scalar.divsi arg1 c3_i32_4
  let c0_i32_5 : BitVec 32 := 0#32
  let v13 : BitVec 1 := Scalar.cmpi .sgt arg1 c0_i32_5
  let v14 : BitVec 32 := Scalar.extui v13
  let c0_i32_6 : BitVec 32 := 0#32
  let v15 : BitVec 1 := Scalar.cmpi .slt arg1 c0_i32_6
  let v16 : BitVec 32 := Scalar.extui v15
  let v17 : BitVec 32 := Scalar.subi v14 v16
  let c0_i32_7 : BitVec 32 := 0#32
  let v18 : BitVec 1 := Scalar.cmpi .sgt c3_i32_4 c0_i32_7
  let v19 : BitVec 32 := Scalar.extui v18
  let c0_i32_8 : BitVec 32 := 0#32
  let v20 : BitVec 1 := Scalar.cmpi .slt c3_i32_4 c0_i32_8
  let v21 : BitVec 32 := Scalar.extui v20
  let v22 : BitVec 32 := Scalar.subi v19 v21
  let v23 : BitVec 1 := Scalar.cmpi .ne v17 v22
  let v24 : BitVec 32 := Scalar.remsi arg1 c3_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let c9_i32_11 : BitVec 32 := 9#32
  let v30 : BitVec 32 := Scalar.select v0 v29 c9_i32_11
  let c0_i32_12 : BitVec 32 := 0#32
  let c0_i32_13 : BitVec 32 := 0#32
  ![v30.toNat, arg2.toNat, c0_i32_12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x5120 : Shape := ⟨2, ![2048, 5120]⟩
abbrev S8192x5120 : Shape := ⟨2, ![8192, 5120]⟩
abbrev S5120x2048 : Shape := ⟨2, ![5120, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x5120, .f32⟩
  | .hbm, ⟨4, _⟩ => ⟨S5120x2048, .f32⟩
  | .hbm, ⟨5, _⟩ => ⟨S2048x5120, .f32⟩
  | .hbm, ⟨6, _⟩ => ⟨S2048x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel15.lean ====
abbrev S8192x8192 : Shape := ⟨2, ![8192, 8192]⟩
abbrev S8192x2048 : Shape := ⟨2, ![8192, 2048]⟩
abbrev S2048 : Shape := ⟨1, ![2048]⟩
abbrev S_ : Shape := ⟨0, ![]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x2048, .bf16⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S8192x8192 : Shape := ⟨2, ![8192, 8192]⟩
abbrev S8192x2048 : Shape := ⟨2, ![8192, 2048]⟩
abbrev S2048 : Shape := ⟨1, ![2048]⟩
abbrev S_ : Shape := ⟨0, ![]⟩
abbrev S1x2048 : Shape := ⟨2, ![1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel16.lean ====
abbrev S8192x2048 : Shape := ⟨2, ![8192, 2048]⟩
abbrev S2048x10304 : Shape := ⟨2, ![2048, 10304]⟩
abbrev S_ : Shape := ⟨0, ![]⟩
abbrev S2048x10368 : Shape := ⟨2, ![2048, 10368]⟩
abbrev S8192x10368 : Shape := ⟨2, ![8192, 10368]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S8192x2048, .bf16⟩
  | .hbm, ⟨3, _⟩ => ⟨S_, .i32⟩
  | .hbm, ⟨4, _⟩ => ⟨S_, .f32⟩
  | .hbm, ⟨5, _⟩ => ⟨S2048x10368, .f32⟩
  | .hbm, ⟨6, _⟩ => ⟨S2048x10368, .bf16⟩
  | .hbm, ⟨7, _⟩ => ⟨S8192x10368, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x10304 : Shape := ⟨2, ![2048, 10304]⟩
abbrev S8192x10304 : Shape := ⟨2, ![8192, 10304]⟩
abbrev S_ : Shape := ⟨0, ![]⟩
abbrev S8192x10368 : Shape := ⟨2, ![8192, 10368]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S8192x10304, .f32⟩
  | .hbm, ⟨3, _⟩ => ⟨S_, .i32⟩
  | .hbm, ⟨4, _⟩ => ⟨S_, .f32⟩
  | .hbm, ⟨5, _⟩ => ⟨S8192x10368, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel17.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S8192x4096, .bf16⟩
  | .hbm, ⟨5, _⟩ => ⟨S4096x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel18.lean ====
abbrev S8192x2048 : Shape := ⟨2, ![8192, 2048]⟩
abbrev S2048x5120 : Shape := ⟨2, ![2048, 5120]⟩
abbrev S10x8192x512 : Shape := ⟨3, ![10, 8192, 512]⟩
abbrev S1024x2048 : Shape := ⟨2, ![1024, 2048]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x2048, .bf16⟩
  | .hbm, ⟨3, _⟩ => ⟨S2048x5120, .bf16⟩
  | .hbm, ⟨4, _⟩ => ⟨S10x8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 1 := Scalar.cmpi .slt arg1 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32_3 : BitVec 32 := 3#32
  let v11 : BitVec 32 := Scalar.muli c3_i32_3 v10
  let c3_i32_4 : BitVec 32 := 3#32
  let v12 : BitVec 32 := Scalar.divsi arg1 c3_i32_4
  let c0_i32_5 : BitVec 32 := 0#32
  let v13 : BitVec 1 := Scalar.cmpi .sgt arg1 c0_i32_5
  let v14 : BitVec 32 := Scalar.extui v13
  let c0_i32_6 : BitVec 32 := 0#32
  let v15 : BitVec 1 := Scalar.cmpi .slt arg1 c0_i32_6
  let v16 : BitVec 32 := Scalar.extui v15
  let v17 : BitVec 32 := Scalar.subi v14 v16
  let c0_i32_7 : BitVec 32 := 0#32
  let v18 : BitVec 1 := Scalar.cmpi .sgt c3_i32_4 c0_i32_7
  let v19 : BitVec 32 := Scalar.extui v18
  let c0_i32_8 : BitVec 32 := 0#32
  let v20 : BitVec 1 := Scalar.cmpi .slt c3_i32_4 c0_i32_8
  let v21 : BitVec 32 := Scalar.extui v20
  let v22 : BitVec 32 := Scalar.subi v19 v21
  let v23 : BitVec 1 := Scalar.cmpi .ne v17 v22
  let v24 : BitVec 32 := Scalar.remsi arg1 c3_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let c9_i32_11 : BitVec 32 := 9#32
  let v30 : BitVec 32 := Scalar.select v0 v29 c9_i32_11
  let c0_i32_12 : BitVec 32 := 0#32
  let c0_i32_13 : BitVec 32 := 0#32
  ![v30.toNat, arg0.toNat, c0_i32_12.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x5120 : Shape := ⟨2, ![2048, 5120]⟩
abbrev S8192x5120 : Shape := ⟨2, ![8192, 5120]⟩
abbrev S8192x4608 : Shape := ⟨2, ![8192, 4608]⟩
abbrev S8192x3x3x512 : Shape := ⟨4, ![8192, 3, 3, 512]⟩
abbrev S3x3x8192x512 : Shape := ⟨4, ![3, 3, 8192, 512]⟩
abbrev S9x8192x512 : Shape := ⟨3, ![9, 8192, 512]⟩
abbrev S8192x512 : Shape := ⟨2, ![8192, 512]⟩
abbrev S1x8192x512 : Shape := ⟨3, ![1, 8192, 512]⟩
abbrev S10x8192x512 : Shape := ⟨3, ![10, 8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x4608, .f32⟩
  | .hbm, ⟨4, _⟩ => ⟨S8192x3x3x512, .f32⟩
  | .hbm, ⟨5, _⟩ => ⟨S3x3x8192x512, .f32⟩
  | .hbm, ⟨6, _⟩ => ⟨S9x8192x512, .f32⟩
  | .hbm, ⟨7, _⟩ => ⟨S8192x512, .f32⟩
  | .hbm, ⟨8, _⟩ => ⟨S1x8192x512, .f32⟩
  | .hbm, ⟨9, _⟩ => ⟨S10x8192x512, .f32⟩
  | .hbm, ⟨10, _⟩ => ⟨S10x8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel19.lean ====
abbrev S8192x1024 : Shape := ⟨2, ![8192, 1024]⟩
abbrev S1024x2048 : Shape := ⟨2, ![1024, 2048]⟩
abbrev S8192x2048 : Shape := ⟨2, ![8192, 2048]⟩
abbrev S2048 : Shape := ⟨1, ![2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S2048, .f32⟩
  | .hbm, ⟨4, _⟩ => ⟨S8192x1024, .bf16⟩
  | .hbm, ⟨5, _⟩ => ⟨S1024x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S8192x1024 : Shape := ⟨2, ![8192, 1024]⟩
abbrev S1024x2048 : Shape := ⟨2, ![1024, 2048]⟩
abbrev S8192x2048 : Shape := ⟨2, ![8192, 2048]⟩
abbrev S2048 : Shape := ⟨1, ![2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.AttnPoints.lean ====
/-
  The body's five branch conditions in closed form over the points of the grid, and the memrefs the body is called on.
-/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 17) — by arithmetic of the point. -/
theorem hcond0_0 : ∀ t : Fin cfg0.N, cond0_0 (grid0.coords t) ↔ t.val % 17 = 0 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 15 — decided over the grid. -/
theorem hcond0_1 : ∀ t : Fin cfg0.N, cond0_1 (grid0.coords t) ↔ t.val % 17 ≤ 15 :=
  (by decide +kernel : ∀ t : Fin grid0.N, cond0_1 (grid0.coords t) ↔ t.val % 17 ≤ 15)

/-- The condition of the body's `scf.if` 2 (`k0_h3`), from the grid coordinates (the skeleton's scalar
    chain substituted). -/
abbrev cond0_2 (i : grid0.Coords) : Prop := k0_cond3 i = 1#1
/-- It holds at the points whose coordinates have i1 ≤ 15 — decided over the grid. -/
theorem hcond0_2 : ∀ t : Fin cfg0.N, cond0_2 (grid0.coords t) ↔ t.val % 17 ≤ 15 :=
  (by decide +kernel : ∀ t : Fin grid0.N, cond0_2 (grid0.coords t) ↔ t.val % 17 ≤ 15)

/-- The condition of the body's `scf.if` 3 (`k0_h4`), from the grid coordinates (the skeleton's scalar
    chain substituted). -/
abbrev cond0_3 (i : grid0.Coords) : Prop := k0_cond4 i = 1#1
/-- It holds at the points whose coordinates have i1 ≤ 15 — decided over the grid. -/
theorem hcond0_3 : ∀ t : Fin cfg0.N, cond0_3 (grid0.coords t) ↔ t.val % 17 ≤ 15 :=
  (by decide +kernel : ∀ t : Fin grid0.N, cond0_3 (grid0.coords t) ↔ t.val % 17 ≤ 15)

/-- The condition of the body's `scf.if` 4 (`k0_h5`), from the grid coordinates (the skeleton's scalar
    chain substituted). -/
abbrev cond0_4 (i : grid0.Coords) : Prop := k0_cond5 i = 1#1
/-- It holds at the points whose coordinates have i1 ≤ 15 — decided over the grid. -/
theorem hcond0_4 : ∀ t : Fin cfg0.N, cond0_4 (grid0.coords t) ↔ t.val % 17 ≤ 15 :=
  (by decide +kernel : ∀ t : Fin grid0.N, cond0_4 (grid0.coords t) ↔ t.val % 17 ≤ 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x512 .f32 := Memref.whole cc0_scratch0
abbrev scM0_1 : Memref sig .tc .vmem S128x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.AttnBlock.lean ====
/-
  One block of the backward pass as a function of the blocks the body loads. A block of 512 columns holds eight heads, two to each
  slab of 128 columns; `probs` is the block of attention weights of one head, `dscores` the gradient of its scores, and
  `dqSlab`, `dkSlab`, `dvSlab` what one slab contributes to the gradients of the queries, keys and values.
-/
module

public import proofs.«01_k».proof.Proof.AttnPoints
public import Idealize.ShloMosaic.Lib.WritesUnit
public import Idealize.ShloMosaic.Lib.VecWindow
public import Idealize.ShloMosaic.Lib.ValueIdxCore
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Slabs of 128 columns -/

/-- The slab a column lies in. -/
def slabOf (y : S128x512.Idx) : Fin 4 := ⟨(y 1).val / 128, by have := (y 1).isLt; simp [S128x512] at this; omega⟩

/-- The place of an index within its slab. -/
def inSlab (y : S128x512.Idx) : S128x128.Idx :=
  ValueIdx.ix2 (⟨(y 0).val, (y 0).isLt⟩ : Fin 128) (⟨(y 1).val % 128, Nat.mod_lt _ (by decide)⟩ : Fin 128)

/-- Four slabs side by side. -/
def slabs {α : Type} (W : Fin 4 → S128x128.Idx → α) : S128x512.Idx → α := fun y => W (slabOf y) (inSlab y)

theorem cut2_inb (p : Fin 4) : ∀ a, (![0, 128 * p.val] : Fin 2 → ℕ) a + (![128, 128] : Fin 2 → ℕ) a ≤ S128x512.size a := by
  revert p; decide
theorem cut3_inb (p : Fin 4) : ∀ a, (![0, 0, 128 * p.val] : Fin 3 → ℕ) a + (![1, 128, 128] : Fin 3 → ℕ) a ≤ S1x128x512.size a := by
  revert p; decide

/-- Slab `p` of a block. -/
def cut2 {e : EltTy} (x : Vec F S128x512 e) (p : Fin 4) : Vec F S128x128 e :=
  VecWindow.window (s := S128x512) x ![0, 128 * p.val] ![128, 128] (cut2_inb p)
/-- Slab `p` of a block with a leading unit axis. -/
def cut3 {e : EltTy} (x : Vec F S1x128x512 e) (p : Fin 4) : Vec F S1x128x128 e :=
  VecWindow.window (s := S1x128x512) x ![0, 0, 128 * p.val] ![1, 128, 128] (cut3_inb p)

/-- A load of slab `p` of a whole buffer holding `x` is slab `p` of `x`. -/
theorem load2 {e : EltTy} {arg : Memref sig .tc .vmem S128x512 e} (harg : arg.IsWhole) (x : Vec F S128x512 e) (p : Fin 4) :
    arg.view.readAt (Elt F) (Rect.unit (s := S128x512) ![0, 128 * p.val] ![128, 128] (cut2_inb p)).toLoadRect (harg.unread x) = cut2 x p :=
  (View.readAt_unit arg.view _ (cut2_inb p) rfl (cut2_inb p)).trans (by rw [harg.read_unread]; rfl)
theorem load3 {e : EltTy} {arg : Memref sig .tc .vmem S1x128x512 e} (harg : arg.IsWhole) (x : Vec F S1x128x512 e) (p : Fin 4) :
    arg.view.readAt (Elt F) (Rect.unit (s := S1x128x512) ![0, 0, 128 * p.val] ![1, 128, 128] (cut3_inb p)).toLoadRect (harg.unread x) = cut3 x p :=
  (View.readAt_unit arg.view _ (cut3_inb p) rfl (cut3_inb p)).trans (by rw [harg.read_unread]; rfl)

/-- Four stores, one to each slab, over any list of earlier ones, leave the four payloads side by side. -/
theorem read_slabs {κ : Kind} {sp : Space} {e : EltTy} {Val : EltTy → Type} (v : View sig κ sp S128x512 e) (f : v.ty.Contents Val)
    (W : Fin 4 → S128x128.Idx → Val e) (L : List (View.Piece Val S128x512 e))
    (i0 : ∀ a, (![0, 0] : Fin 2 → ℕ) a + (![128, 128] : Fin 2 → ℕ) a ≤ S128x512.size a)
    (i1 : ∀ a, (![0, 128] : Fin 2 → ℕ) a + (![128, 128] : Fin 2 → ℕ) a ≤ S128x512.size a)
    (i2 : ∀ a, (![0, 256] : Fin 2 → ℕ) a + (![128, 128] : Fin 2 → ℕ) a ≤ S128x512.size a)
    (i3 : ∀ a, (![0, 384] : Fin 2 → ℕ) a + (![128, 128] : Fin 2 → ℕ) a ≤ S128x512.size a)
    (w0 w1 w2 w3 : S128x128.Idx → Val e) (h0 : w0 = W 0) (h1 : w1 = W 1) (h2 : w2 = W 2) (h3 : w3 = W 3) :
    v.read Val (v.writes Val f ((⟨Rect.unit (s := S128x512) ![0, 384] ![128, 128] i3, w3⟩ : View.Piece Val S128x512 e)
      :: ⟨Rect.unit (s := S128x512) ![0, 256] ![128, 128] i2, w2⟩ :: ⟨Rect.unit (s := S128x512) ![0, 128] ![128, 128] i1, w1⟩
      :: ⟨Rect.unit (s := S128x512) ![0, 0] ![128, 128] i0, w0⟩ :: L)) = slabs W := by
  subst h0 h1 h2 h3
  funext y
  have hy0 : (y 0).val < 128 := (y 0).isLt
  have hy1 : (y 1).val < 512 := (y 1).isLt
  have key : ∀ (p : Fin 4), (y 1).val / 128 = p.val →
      ∀ a : Fin 2, (y a).val = (![0, 128 * p.val] : Fin 2 → ℕ) a + (inSlab y a).val := by
    intro p hp a
    match a with
    | 0 => simp [inSlab]
    | 1 => simp [inSlab]; omega
  have pick : ∀ p : Fin 4, (y 1).val / 128 = p.val → slabOf y = p := fun p hp => Fin.ext hp
  unfold slabs
  by_cases c3 : 384 ≤ (y 1).val
  · rw [pick 3 (by show _ = 3; omega)]
    exact View.read_writes_cons_unit_of_mem v f i3 _ _ y (inSlab y) rfl (key 3 (by show _ = 3; omega))
  rw [View.read_writes_cons_unit_of_not_mem v f i3 _ _ y rfl 1 (.inl (by show _ < 384; omega))]
  by_cases c2 : 256 ≤ (y 1).val
  · rw [pick 2 (by show _ = 2; omega)]
    exact View.read_writes_cons_unit_of_mem v f i2 _ _ y (inSlab y) rfl (key 2 (by show _ = 2; omega))
  rw [View.read_writes_cons_unit_of_not_mem v f i2 _ _ y rfl 1 (.inl (by show _ < 256; omega))]
  by_cases c1 : 128 ≤ (y 1).val
  · rw [pick 1 (by show _ = 1; omega)]
    exact View.read_writes_cons_unit_of_mem v f i1 _ _ y (inSlab y) rfl (key 1 (by show _ = 1; omega))
  rw [View.read_writes_cons_unit_of_not_mem v f i1 _ _ y rfl 1 (.inl (by show _ < 128; omega))]
  rw [pick 0 (by show _ = 0; omega)]
  exact View.read_writes_cons_unit_of_mem v f i0 _ _ y (inSlab y) rfl (key 0 (by show _ = 0; omega))

/-! ## A slab read back from a buffer filled whole, after stores to the slabs before it -/

section Back

variable {κ : Kind} {sp : Space} (v : View sig κ sp S128x512 .f32) (Z : Vec F S128x512 .f32)

theorem back0 :
    v.readCov ((⟨Rect.unit (s := S128x512) ![0, 0] S128x512.size (by decide), Z⟩ : View.Piece (Elt F) S128x512 .f32) :: []) (Rect.unit (s := S128x512) ![0, 0] ![128, 128] (by decide)).toLoadRect = cut2 Z 0 := by

  exact View.readCov_fill v (by decide) Z [] _ (by decide)
theorem back1 (w0 : S128x128.Idx → Elt F .f32) :
    v.readCov ((⟨Rect.unit (s := S128x512) ![0, 0] ![128, 128] (by decide), w0⟩ : View.Piece (Elt F) S128x512 .f32) :: (⟨Rect.unit (s := S128x512) ![0, 0] S128x512.size (by decide), Z⟩ : View.Piece (Elt F) S128x512 .f32) :: []) (Rect.unit (s := S128x512) ![0, 128] ![128, 128] (by decide)).toLoadRect = cut2 Z 1 := by
  rw [View.readCov_skip _ _ _ _ _ (by decide)]
  exact View.readCov_fill v (by decide) Z [] _ (by decide)
theorem back2 (w0 w1 : S128x128.Idx → Elt F .f32) :
    v.readCov ((⟨Rect.unit (s := S128x512) ![0, 128] ![128, 128] (by decide), w1⟩ : View.Piece (Elt F) S128x512 .f32) :: (⟨Rect.unit (s := S128x512) ![0, 0] ![128, 128] (by decide), w0⟩ : View.Piece (Elt F) S128x512 .f32) :: (⟨Rect.unit (s := S128x512) ![0, 0] S128x512.size (by decide), Z⟩ : View.Piece (Elt F) S128x512 .f32) :: []) (Rect.unit (s := S128x512) ![0, 256] ![128, 128] (by decide)).toLoadRect = cut2 Z 2 := by
  rw [View.readCov_skip _ _ _ _ _ (by decide)]
  rw [View.readCov_skip _ _ _ _ _ (by decide)]
  exact View.readCov_fill v (by decide) Z [] _ (by decide)
theorem back3 (w0 w1 w2 : S128x128.Idx → Elt F .f32) :
    v.readCov ((⟨Rect.unit (s := S128x512) ![0, 256] ![128, 128] (by decide), w2⟩ : View.Piece (Elt F) S128x512 .f32) :: (⟨Rect.unit (s := S128x512) ![0, 128] ![128, 128] (by decide), w1⟩ : View.Piece (Elt F) S128x512 .f32) :: (⟨Rect.unit (s := S128x512) ![0, 0] ![128, 128] (by decide), w0⟩ : View.Piece (Elt F) S128x512 .f32) :: (⟨Rect.unit (s := S128x512) ![0, 0] S128x512.size (by decide), Z⟩ : View.Piece (Elt F) S128x512 .f32) :: []) (Rect.unit (s := S128x512) ![0, 384] ![128, 128] (by decide)).toLoadRect = cut2 Z 3 := by
  rw [View.readCov_skip _ _ _ _ _ (by decide)]
  rw [View.readCov_skip _ _ _ _ _ (by decide)]
  rw [View.readCov_skip _ _ _ _ _ (by decide)]
  exact View.readCov_fill v (by decide) Z [] _ (by decide)
end Back

/-! ## One slab -/

/-- The lanes of the slab's first head, and of its second. -/
def lowLanes : IVec S128x128 1 := k0_pay6
def highLanes : IVec S128x128 1 := xori k0_pay6 (constantI S128x128 1 1#1)

/-- The mask of the block of keys at the queries' own place, and of the block before it. -/
def maskCur (i : grid0.Coords) : IVec S128x128 1 := k0_pay4 i
def maskPrev (i : grid0.Coords) : IVec S128x128 1 := k0_pay5 i

/-- A slab with the lanes of one head kept. -/
def keep (hm : IVec S128x128 1) (x : FVec F S128x128 .bf16) : FVec F S128x128 .bf16 :=
  select hm x (broadcast S128x128 (Scalar.ofBits .bf16 0x0000#16 : F .bf16))

/-- The column of a slab that holds the first head's scalar, and the second's. -/
def lane0 (x : FVec F S128x128 .f32) : FVec F S128x1 .f32 := extractStridedSlice S128x1 ![0, 0] x slices_S128x128_o0_0_S128x1
def lane64 (x : FVec F S128x128 .f32) : FVec F S128x1 .f32 := extractStridedSlice S128x1 ![0, 64] x slices_S128x128_o0_64_S128x1

/-- The product of two slabs over their lanes. -/
def dotNT (x y : FVec F S128x128 .bf16) : FVec F S128x128 .f32 :=
  matmul dot_S128x128_S128x128_S128x128_1_1_0_0_n_n none x y (constant S128x128 .f32 0x00000000#32)
/-- The product of two slabs over the first's lanes and the second's rows. -/
def dotNN (x y : FVec F S128x128 .bf16) : FVec F S128x128 .f32 :=
  matmul dot_S128x128_S128x128_S128x128_1_0_0_1_n_n none x y (constant S128x128 .f32 0x00000000#32)
/-- The product of two slabs over their rows. -/
def dotTN (x y : FVec F S128x128 .bf16) : FVec F S128x128 .f32 :=
  matmul dot_S128x128_S128x128_S128x128_0_0_1_1_n_n none x y (constant S128x128 .f32 0x00000000#32)

/-- The attention weights of one head. -/
def probs (mk hm : IVec S128x128 1) (q k : FVec F S128x128 .bf16) (l : FVec F S128x1 .f32) : FVec F S128x128 .f32 :=
  exp (subf (select mk (mulf (dotNT (keep hm q) k) (broadcast S128x128 (Scalar.ofBits .f32 0x3E000000#32 : F .f32)))
    (broadcast S128x128 (Named.named κ "mask" 0xF149F2CA#32 : F .f32))) (broadcastTo S128x128 l broadcasts_S128x1_S128x128))

/-- The gradient of one head's scores. -/
def dscores (mk hm : IVec S128x128 1) (q k v o : FVec F S128x128 .bf16) (l c : FVec F S128x1 .f32) : FVec F S128x128 .bf16 :=
  truncf .bf16 (mulf (mulf (probs mk hm q k l) (addf (dotNT (keep hm o) v) (broadcastTo S128x128 c broadcasts_S128x1_S128x128)))
    (broadcast S128x128 (Scalar.ofBits .f32 0x3E000000#32 : F .f32))) bitsLt_bf16_f32

/-- One head's gradient of the queries, over both blocks of keys. -/
def dqHead (i : grid0.Coords) (hm : IVec S128x128 1) (q kp kc vp vc o : FVec F S128x128 .bf16) (l c : FVec F S128x1 .f32) : FVec F S128x128 .f32 :=
  addf (dotNN (dscores (maskCur i) hm q kc vc o l c) kc) (dotNN (dscores (maskPrev i) hm q kp vp o l c) kp)

def zeroSq : FVec F S128x128 .f32 := broadcast S128x128 (Scalar.ofBits .f32 0x00000000#32 : F .f32)

/-- A slab's gradient of the queries: each head's on its own lanes. -/
def dqSlab (i : grid0.Coords) (q kp kc vp vc o : FVec F S128x128 .bf16) (l c : FVec F S128x128 .f32) : FVec F S128x128 .bf16 :=
  truncf .bf16 (select highLanes (dqHead i highLanes q kp kc vp vc o (lane64 l) (lane64 c))
    (select lowLanes (dqHead i lowLanes q kp kc vp vc o (lane0 l) (lane0 c)) zeroSq)) bitsLt_bf16_f32

/-- A slab's gradient of one block of keys: the two heads' added, each on its own lanes. -/
def dkSlab (mk : IVec S128x128 1) (q k v o : FVec F S128x128 .bf16) (l c : FVec F S128x128 .f32) : FVec F S128x128 .f32 :=
  addf (addf zeroSq (dotTN (dscores mk lowLanes q k v o (lane0 l) (lane0 c)) (keep lowLanes q)))
    (dotTN (dscores mk highLanes q k v o (lane64 l) (lane64 c)) (keep highLanes q))

/-- A slab's gradient of one block of values. -/
def dvSlab (mk : IVec S128x128 1) (q k o : FVec F S128x128 .bf16) (l : FVec F S128x128 .f32) : FVec F S128x128 .f32 :=
  addf (addf zeroSq (dotTN (truncf .bf16 (probs mk lowLanes q k (lane0 l)) bitsLt_bf16_f32) (keep lowLanes o)))
    (dotTN (truncf .bf16 (probs mk highLanes q k (lane64 l)) bitsLt_bf16_f32) (keep highLanes o))

/-- A loaded slab without its unit axis, and a loaded slab as it is. -/
def sq3 (x : Vec F S1x128x128 .bf16) : FVec F S128x128 .bf16 := shapeCast S128x128 x shapeCasts_S1x128x128_S128x128
def sq2 {e : FTy} (x : FVec F S128x128 e) : FVec F S128x128 e := shapeCast S128x128 x shapeCasts_S128x128_S128x128

/-! ## What the body leaves -/

/-- The gradient of the queries the body stores: slab by slab. -/
def dqOf (i : grid0.Coords) (q kp kc vp vc : Vec F S1x128x128 .bf16) (o : Vec F S128x128 .bf16) (l c : Vec F S128x128 .f32) : Vec F S128x128 .bf16 :=
  dqSlab i (sq3 q) (sq3 kp) (sq3 kc) (sq3 vp) (sq3 vc) (sq2 (e := .bf16) o) (sq2 (e := .f32) l) (sq2 (e := .f32) c)
def dkOf (i : grid0.Coords) (q kp vp : Vec F S1x128x128 .bf16) (o : Vec F S128x128 .bf16) (l c a : Vec F S128x128 .f32) : Vec F S128x128 .bf16 :=
  truncf .bf16 (addf (a : FVec F S128x128 .f32) (dkSlab (maskPrev i) (sq3 q) (sq3 kp) (sq3 vp) (sq2 (e := .bf16) o) (sq2 (e := .f32) l) (sq2 (e := .f32) c))) bitsLt_bf16_f32
def dvOf (i : grid0.Coords) (q kp : Vec F S1x128x128 .bf16) (o : Vec F S128x128 .bf16) (l a : Vec F S128x128 .f32) : Vec F S128x128 .bf16 :=
  truncf .bf16 (addf (a : FVec F S128x128 .f32) (dvSlab (maskPrev i) (sq3 q) (sq3 kp) (sq2 (e := .bf16) o) (sq2 (e := .f32) l))) bitsLt_bf16_f32
def ckOf (i : grid0.Coords) (q kc vc : Vec F S1x128x128 .bf16) (o : Vec F S128x128 .bf16) (l c : Vec F S128x128 .f32) : Vec F S128x128 .f32 :=
  sq2 (e := .f32) (dkSlab (maskCur i) (sq3 q) (sq3 kc) (sq3 vc) (sq2 (e := .bf16) o) (sq2 (e := .f32) l) (sq2 (e := .f32) c))
def cvOf (i : grid0.Coords) (q kc : Vec F S1x128x128 .bf16) (o : Vec F S128x128 .bf16) (l : Vec F S128x128 .f32) : Vec F S128x128 .f32 :=
  sq2 (e := .f32) (dvSlab (maskCur i) (sq3 q) (sq3 kc) (sq2 (e := .bf16) o) (sq2 (e := .f32) l))

/-- The block of the queries' gradient. -/
def outDq (i : grid0.Coords) (x0 x1 x2 x3 x4 : Vec F S1x128x512 .bf16) (x5 : Vec F S128x512 .bf16) (x6 x7 : Vec F S128x512 .f32) : Vec F S128x512 .bf16 :=
  slabs fun p => dqOf i (cut3 x0 p) (cut3 x1 p) (cut3 x2 p) (cut3 x3 p) (cut3 x4 p) (cut2 x5 p) (cut2 x6 p) (cut2 x7 p)
/-- The block of the keys' gradient, `xs` being what the block before left for it; and the values'. -/
def outDk (i : grid0.Coords) (x0 x1 x3 : Vec F S1x128x512 .bf16) (x5 : Vec F S128x512 .bf16) (x6 x7 xs : Vec F S128x512 .f32) : Vec F S128x512 .bf16 :=
  slabs fun p => dkOf i (cut3 x0 p) (cut3 x1 p) (cut3 x3 p) (cut2 x5 p) (cut2 x6 p) (cut2 x7 p) (cut2 xs p)
def outDv (i : grid0.Coords) (x0 x1 : Vec F S1x128x512 .bf16) (x5 : Vec F S128x512 .bf16) (x6 xs : Vec F S128x512 .f32) : Vec F S128x512 .bf16 :=
  slabs fun p => dvOf i (cut3 x0 p) (cut3 x1 p) (cut2 x5 p) (cut2 x6 p) (cut2 xs p)
/-- What a block leaves for the next one. -/
def outCk (i : grid0.Coords) (x0 x2 x4 : Vec F S1x128x512 .bf16) (x5 : Vec F S128x512 .bf16) (x6 x7 : Vec F S128x512 .f32) : Vec F S128x512 .f32 :=
  slabs fun p => ckOf i (cut3 x0 p) (cut3 x2 p) (cut3 x4 p) (cut2 x5 p) (cut2 x6 p) (cut2 x7 p)
def outCv (i : grid0.Coords) (x0 x2 : Vec F S1x128x512 .bf16) (x5 : Vec F S128x512 .bf16) (x6 : Vec F S128x512 .f32) : Vec F S128x512 .f32 :=
  slabs fun p => cvOf i (cut3 x0 p) (cut3 x2 p) (cut2 x5 p) (cut2 x6 p)

end Cert.KernelIdeal.Gen

end
-- ==== Proof.AttnRunA.lean ====
/-
  The run of the body at a point the first of a residue class: the carried blocks start at zero,
  every buffer's contents after it named by the functions of AttnBlock.
-/
module

public import proofs.«01_k».proof.Proof.AttnBlock

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a point the first of a residue class: the carried blocks start at zero. -/
theorem runA (c : Dev nD) (i : grid0.Coords) (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S128x512 .bf16) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .f32) (harg13 : arg13.IsWhole) (arg14 : Memref sig .tc .vmem S128x512 .f32) (harg14 : arg14.IsWhole) (hc0 : cond0_0 i) (hc1 : cond0_1 i) (hc2 : cond0_2 i) (hc3 : cond0_3 i) (hc4 : cond0_4 i)
    (x0 : Vec F S1x128x512 .bf16) (x1 : Vec F S1x128x512 .bf16) (x2 : Vec F S1x128x512 .bf16) (x3 : Vec F S1x128x512 .bf16) (x4 : Vec F S1x128x512 .bf16) (x5 : Vec F S128x512 .bf16) (x6 : Vec F S128x512 .f32) (x7 : Vec F S128x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outDq i x0 x1 x2 x3 x4 x5 x6 x7) ∗ owns (c : Thread nD τ) arg11 fullShare (outDk i x0 x1 x3 x5 x6 x7 k0_pay2) ∗ owns (c : Thread nD τ) arg12 fullShare (outDv i x0 x1 x5 x6 k0_pay3) ∗ owns (c : Thread nD τ) arg13 fullShare (outCk i x0 x2 x4 x5 x6 x7) ∗ owns (c : Thread nD τ) arg14 fullShare (outCv i x0 x2 x5 x6)) -∗ K ⟨⟩))
          ⊢ wp frame (wpE (defs₀ (F := F)) Variants.none c none) E (cc0_attn_bwd_g1 i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_g1_eq_skeleton]; unfold cc0_attn_bwd_g1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine read_slabs _ _ (fun p => dqOf i (cut3 x0 p) (cut3 x1 p) (cut3 x2 p) (cut3 x3 p) (cut3 x4 p) (cut2 x5 p) (cut2 x6 p) (cut2 x7 p)) _ _ _ _ _ _ _ _ _ ?_ ?_ ?_ ?_
    · beta_reduce; rw [← load3 harg2 x0 0, ← load3 harg3 x1 0, ← load3 harg4 x2 0, ← load3 harg5 x3 0, ← load3 harg6 x4 0, ← load2 harg7 x5 0, ← load2 harg8 x6 0, ← load2 harg9 x7 0]; rfl
    · beta_reduce; rw [← load3 harg2 x0 1, ← load3 harg3 x1 1, ← load3 harg4 x2 1, ← load3 harg5 x3 1, ← load3 harg6 x4 1, ← load2 harg7 x5 1, ← load2 harg8 x6 1, ← load2 harg9 x7 1]; rfl
    · beta_reduce; rw [← load3 harg2 x0 2, ← load3 harg3 x1 2, ← load3 harg4 x2 2, ← load3 harg5 x3 2, ← load3 harg6 x4 2, ← load2 harg7 x5 2, ← load2 harg8 x6 2, ← load2 harg9 x7 2]; rfl
    · beta_reduce; rw [← load3 harg2 x0 3, ← load3 harg3 x1 3, ← load3 harg4 x2 3, ← load3 harg5 x3 3, ← load3 harg6 x4 3, ← load2 harg7 x5 3, ← load2 harg8 x6 3, ← load2 harg9 x7 3]; rfl
  isplitl [H9]
  · iexists _; isplitr; swap; · iexact H9
    ipureintro
    refine read_slabs _ _ (fun p => dkOf i (cut3 x0 p) (cut3 x1 p) (cut3 x3 p) (cut2 x5 p) (cut2 x6 p) (cut2 x7 p) (cut2 (k0_pay2 (F := F)) p)) _ _ _ _ _ _ _ _ _ ?_ ?_ ?_ ?_
    · beta_reduce; rw [← load3 harg2 x0 0, ← load3 harg3 x1 0, ← load3 harg5 x3 0, ← load2 harg7 x5 0, ← load2 harg8 x6 0, ← load2 harg9 x7 0]; refine Eq.trans ?_ (congrArg (dkOf i _ _ _ _ _ _) (back0 arg13.view k0_pay2)); rfl
    · beta_reduce; rw [← load3 harg2 x0 1, ← load3 harg3 x1 1, ← load3 harg5 x3 1, ← load2 harg7 x5 1, ← load2 harg8 x6 1, ← load2 harg9 x7 1]; refine Eq.trans ?_ (congrArg (dkOf i _ _ _ _ _ _) (back1 arg13.view k0_pay2 ?_)); rfl
    · beta_reduce; rw [← load3 harg2 x0 2, ← load3 harg3 x1 2, ← load3 harg5 x3 2, ← load2 harg7 x5 2, ← load2 harg8 x6 2, ← load2 harg9 x7 2]; refine Eq.trans ?_ (congrArg (dkOf i _ _ _ _ _ _) (back2 arg13.view k0_pay2 ?_ ?_)); rfl
    · beta_reduce; rw [← load3 harg2 x0 3, ← load3 harg3 x1 3, ← load3 harg5 x3 3, ← load2 harg7 x5 3, ← load2 harg8 x6 3, ← load2 harg9 x7 3]; refine Eq.trans ?_ (congrArg (dkOf i _ _ _ _ _ _) (back3 arg13.view k0_pay2 ?_ ?_ ?_)); rfl
  isplitl [H10]
  · iexists _; isplitr; swap; · iexact H10
    ipureintro
    refine read_slabs _ _ (fun p => dvOf i (cut3 x0 p) (cut3 x1 p) (cut2 x5 p) (cut2 x6 p) (cut2 (k0_pay3 (F := F)) p)) _ _ _ _ _ _ _ _ _ ?_ ?_ ?_ ?_
    · beta_reduce; rw [← load3 harg2 x0 0, ← load3 harg3 x1 0, ← load2 harg7 x5 0, ← load2 harg8 x6 0]; refine Eq.trans ?_ (congrArg (dvOf i _ _ _ _) (back0 arg14.view k0_pay3)); rfl
    · beta_reduce; rw [← load3 harg2 x0 1, ← load3 harg3 x1 1, ← load2 harg7 x5 1, ← load2 harg8 x6 1]; refine Eq.trans ?_ (congrArg (dvOf i _ _ _ _) (back1 arg14.view k0_pay3 ?_)); rfl
    · beta_reduce; rw [← load3 harg2 x0 2, ← load3 harg3 x1 2, ← load2 harg7 x5 2, ← load2 harg8 x6 2]; refine Eq.trans ?_ (congrArg (dvOf i _ _ _ _) (back2 arg14.view k0_pay3 ?_ ?_)); rfl
    · beta_reduce; rw [← load3 harg2 x0 3, ← load3 harg3 x1 3, ← load2 harg7 x5 3, ← load2 harg8 x6 3]; refine Eq.trans ?_ (congrArg (dvOf i _ _ _ _) (back3 arg14.view k0_pay3 ?_ ?_ ?_)); rfl
  isplitl [HS0]
  · iexists _; isplitr; swap; · iexact HS0
    ipureintro
    refine read_slabs _ _ (fun p => ckOf i (cut3 x0 p) (cut3 x2 p) (cut3 x4 p) (cut2 x5 p) (cut2 x6 p) (cut2 x7 p)) _ _ _ _ _ _ _ _ _ ?_ ?_ ?_ ?_
    · beta_reduce; rw [← load3 harg2 x0 0, ← load3 harg4 x2 0, ← load3 harg6 x4 0, ← load2 harg7 x5 0, ← load2 harg8 x6 0, ← load2 harg9 x7 0]; rfl
    · beta_reduce; rw [← load3 harg2 x0 1, ← load3 harg4 x2 1, ← load3 harg6 x4 1, ← load2 harg7 x5 1, ← load2 harg8 x6 1, ← load2 harg9 x7 1]; rfl
    · beta_reduce; rw [← load3 harg2 x0 2, ← load3 harg4 x2 2, ← load3 harg6 x4 2, ← load2 harg7 x5 2, ← load2 harg8 x6 2, ← load2 harg9 x7 2]; rfl
    · beta_reduce; rw [← load3 harg2 x0 3, ← load3 harg4 x2 3, ← load3 harg6 x4 3, ← load2 harg7 x5 3, ← load2 harg8 x6 3, ← load2 harg9 x7 3]; rfl
  · iexists _; isplitr; swap; · iexact HS1
    ipureintro
    refine read_slabs _ _ (fun p => cvOf i (cut3 x0 p) (cut3 x2 p) (cut2 x5 p) (cut2 x6 p)) _ _ _ _ _ _ _ _ _ ?_ ?_ ?_ ?_
    · beta_reduce; rw [← load3 harg2 x0 0, ← load3 harg4 x2 0, ← load2 harg7 x5 0, ← load2 harg8 x6 0]; rfl
    · beta_reduce; rw [← load3 harg2 x0 1, ← load3 harg4 x2 1, ← load2 harg7 x5 1, ← load2 harg8 x6 1]; rfl
    · beta_reduce; rw [← load3 harg2 x0 2, ← load3 harg4 x2 2, ← load2 harg7 x5 2, ← load2 harg8 x6 2]; rfl
    · beta_reduce; rw [← load3 harg2 x0 3, ← load3 harg4 x2 3, ← load2 harg7 x5 3, ← load2 harg8 x6 3]; rfl

end Cert.KernelIdeal.Gen

end
-- ==== Proof.AttnRunB.lean ====
/-
  The run of the body at a point not the first of its class and not past the last,
  every buffer's contents after it named by the functions of AttnBlock.
-/
module

public import proofs.«01_k».proof.Proof.AttnBlock

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a point not the first of its class and not past the last. -/
theorem runB (c : Dev nD) (i : grid0.Coords) (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S128x512 .bf16) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : cond0_2 i) (hc3 : cond0_3 i) (hc4 : cond0_4 i)
    (x0 : Vec F S1x128x512 .bf16) (x1 : Vec F S1x128x512 .bf16) (x2 : Vec F S1x128x512 .bf16) (x3 : Vec F S1x128x512 .bf16) (x4 : Vec F S1x128x512 .bf16) (x5 : Vec F S128x512 .bf16) (x6 : Vec F S128x512 .f32) (x7 : Vec F S128x512 .f32) (xs0 : Vec F S128x512 .f32) (xs1 : Vec F S128x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outDq i x0 x1 x2 x3 x4 x5 x6 x7) ∗ owns (c : Thread nD τ) arg11 fullShare (outDk i x0 x1 x3 x5 x6 x7 xs0) ∗ owns (c : Thread nD τ) arg12 fullShare (outDv i x0 x1 x5 x6 xs1) ∗ owns (c : Thread nD τ) arg13 fullShare (outCk i x0 x2 x4 x5 x6 x7) ∗ owns (c : Thread nD τ) arg14 fullShare (outCv i x0 x2 x5 x6)) -∗ K ⟨⟩))
          ⊢ wp frame (wpE (defs₀ (F := F)) Variants.none c none) E (cc0_attn_bwd_g1 i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_g1_eq_skeleton]; unfold cc0_attn_bwd_g1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine read_slabs _ _ (fun p => dqOf i (cut3 x0 p) (cut3 x1 p) (cut3 x2 p) (cut3 x3 p) (cut3 x4 p) (cut2 x5 p) (cut2 x6 p) (cut2 x7 p)) _ _ _ _ _ _ _ _ _ ?_ ?_ ?_ ?_
    · beta_reduce; rw [← load3 harg2 x0 0, ← load3 harg3 x1 0, ← load3 harg4 x2 0, ← load3 harg5 x3 0, ← load3 harg6 x4 0, ← load2 harg7 x5 0, ← load2 harg8 x6 0, ← load2 harg9 x7 0]; rfl
    · beta_reduce; rw [← load3 harg2 x0 1, ← load3 harg3 x1 1, ← load3 harg4 x2 1, ← load3 harg5 x3 1, ← load3 harg6 x4 1, ← load2 harg7 x5 1, ← load2 harg8 x6 1, ← load2 harg9 x7 1]; rfl
    · beta_reduce; rw [← load3 harg2 x0 2, ← load3 harg3 x1 2, ← load3 harg4 x2 2, ← load3 harg5 x3 2, ← load3 harg6 x4 2, ← load2 harg7 x5 2, ← load2 harg8 x6 2, ← load2 harg9 x7 2]; rfl
    · beta_reduce; rw [← load3 harg2 x0 3, ← load3 harg3 x1 3, ← load3 harg4 x2 3, ← load3 harg5 x3 3, ← load3 harg6 x4 3, ← load2 harg7 x5 3, ← load2 harg8 x6 3, ← load2 harg9 x7 3]; rfl
  isplitl [H9]
  · iexists _; isplitr; swap; · iexact H9
    ipureintro
    refine read_slabs _ _ (fun p => dkOf i (cut3 x0 p) (cut3 x1 p) (cut3 x3 p) (cut2 x5 p) (cut2 x6 p) (cut2 x7 p) (cut2 xs0 p)) _ _ _ _ _ _ _ _ _ ?_ ?_ ?_ ?_
    · beta_reduce; rw [← load3 harg2 x0 0, ← load3 harg3 x1 0, ← load3 harg5 x3 0, ← load2 harg7 x5 0, ← load2 harg8 x6 0, ← load2 harg9 x7 0, ← load2 harg13 xs0 0]; rfl
    · beta_reduce; rw [← load3 harg2 x0 1, ← load3 harg3 x1 1, ← load3 harg5 x3 1, ← load2 harg7 x5 1, ← load2 harg8 x6 1, ← load2 harg9 x7 1, ← load2 harg13 xs0 1]; rfl
    · beta_reduce; rw [← load3 harg2 x0 2, ← load3 harg3 x1 2, ← load3 harg5 x3 2, ← load2 harg7 x5 2, ← load2 harg8 x6 2, ← load2 harg9 x7 2, ← load2 harg13 xs0 2]; rfl
    · beta_reduce; rw [← load3 harg2 x0 3, ← load3 harg3 x1 3, ← load3 harg5 x3 3, ← load2 harg7 x5 3, ← load2 harg8 x6 3, ← load2 harg9 x7 3, ← load2 harg13 xs0 3]; rfl
  isplitl [H10]
  · iexists _; isplitr; swap; · iexact H10
    ipureintro
    refine read_slabs _ _ (fun p => dvOf i (cut3 x0 p) (cut3 x1 p) (cut2 x5 p) (cut2 x6 p) (cut2 xs1 p)) _ _ _ _ _ _ _ _ _ ?_ ?_ ?_ ?_
    · beta_reduce; rw [← load3 harg2 x0 0, ← load3 harg3 x1 0, ← load2 harg7 x5 0, ← load2 harg8 x6 0, ← load2 harg14 xs1 0]; rfl
    · beta_reduce; rw [← load3 harg2 x0 1, ← load3 harg3 x1 1, ← load2 harg7 x5 1, ← load2 harg8 x6 1, ← load2 harg14 xs1 1]; rfl
    · beta_reduce; rw [← load3 harg2 x0 2, ← load3 harg3 x1 2, ← load2 harg7 x5 2, ← load2 harg8 x6 2, ← load2 harg14 xs1 2]; rfl
    · beta_reduce; rw [← load3 harg2 x0 3, ← load3 harg3 x1 3, ← load2 harg7 x5 3, ← load2 harg8 x6 3, ← load2 harg14 xs1 3]; rfl
  isplitl [HS0]
  · iexists _; isplitr; swap; · iexact HS0
    ipureintro
    refine read_slabs _ _ (fun p => ckOf i (cut3 x0 p) (cut3 x2 p) (cut3 x4 p) (cut2 x5 p) (cut2 x6 p) (cut2 x7 p)) _ _ _ _ _ _ _ _ _ ?_ ?_ ?_ ?_
    · beta_reduce; rw [← load3 harg2 x0 0, ← load3 harg4 x2 0, ← load3 harg6 x4 0, ← load2 harg7 x5 0, ← load2 harg8 x6 0, ← load2 harg9 x7 0]; rfl
    · beta_reduce; rw [← load3 harg2 x0 1, ← load3 harg4 x2 1, ← load3 harg6 x4 1, ← load2 harg7 x5 1, ← load2 harg8 x6 1, ← load2 harg9 x7 1]; rfl
    · beta_reduce; rw [← load3 harg2 x0 2, ← load3 harg4 x2 2, ← load3 harg6 x4 2, ← load2 harg7 x5 2, ← load2 harg8 x6 2, ← load2 harg9 x7 2]; rfl
    · beta_reduce; rw [← load3 harg2 x0 3, ← load3 harg4 x2 3, ← load3 harg6 x4 3, ← load2 harg7 x5 3, ← load2 harg8 x6 3, ← load2 harg9 x7 3]; rfl
  · iexists _; isplitr; swap; · iexact HS1
    ipureintro
    refine read_slabs _ _ (fun p => cvOf i (cut3 x0 p) (cut3 x2 p) (cut2 x5 p) (cut2 x6 p)) _ _ _ _ _ _ _ _ _ ?_ ?_ ?_ ?_
    · beta_reduce; rw [← load3 harg2 x0 0, ← load3 harg4 x2 0, ← load2 harg7 x5 0, ← load2 harg8 x6 0]; rfl
    · beta_reduce; rw [← load3 harg2 x0 1, ← load3 harg4 x2 1, ← load2 harg7 x5 1, ← load2 harg8 x6 1]; rfl
    · beta_reduce; rw [← load3 harg2 x0 2, ← load3 harg4 x2 2, ← load2 harg7 x5 2, ← load2 harg8 x6 2]; rfl
    · beta_reduce; rw [← load3 harg2 x0 3, ← load3 harg4 x2 3, ← load2 harg7 x5 3, ← load2 harg8 x6 3]; rfl

end Cert.KernelIdeal.Gen

end
-- ==== Proof.AttnRunC.lean ====
/-
  The run of the body at a point past the last block of the class: nothing of the queries' gradient is stored,
  every buffer's contents after it named by the functions of AttnBlock.
-/
module

public import proofs.«01_k».proof.Proof.AttnBlock

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a point past the last block of the class: nothing of the queries' gradient is stored. -/
theorem runC (c : Dev nD) (i : grid0.Coords) (arg2 : Memref sig .tc .vmem S1x128x512 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S128x512 .bf16) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : ¬cond0_1 i) (hc2 : ¬cond0_2 i) (hc3 : ¬cond0_3 i) (hc4 : ¬cond0_4 i)
    (x0 : Vec F S1x128x512 .bf16) (x1 : Vec F S1x128x512 .bf16) (x2 : Vec F S1x128x512 .bf16) (x3 : Vec F S1x128x512 .bf16) (x4 : Vec F S1x128x512 .bf16) (x5 : Vec F S128x512 .bf16) (x6 : Vec F S128x512 .f32) (x7 : Vec F S128x512 .f32) (xs0 : Vec F S128x512 .f32) (xs1 : Vec F S128x512 .f32) (d8 : Vec F S128x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (outDk i x0 x1 x3 x5 x6 x7 xs0) ∗ owns (c : Thread nD τ) arg12 fullShare (outDv i x0 x1 x5 x6 xs1) ∗ owns (c : Thread nD τ) arg13 fullShare (outCk i x0 x2 x4 x5 x6 x7) ∗ owns (c : Thread nD τ) arg14 fullShare (outCv i x0 x2 x5 x6)) -∗ K ⟨⟩))
          ⊢ wp frame (wpE (defs₀ (F := F)) Variants.none c none) E (cc0_attn_bwd_g1 i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_g1_eq_skeleton]; unfold cc0_attn_bwd_g1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1; obtain rfl := harg10.eq_unread hf8
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine read_slabs _ _ (fun p => dkOf i (cut3 x0 p) (cut3 x1 p) (cut3 x3 p) (cut2 x5 p) (cut2 x6 p) (cut2 x7 p) (cut2 xs0 p)) _ _ _ _ _ _ _ _ _ ?_ ?_ ?_ ?_
    · beta_reduce; rw [← load3 harg2 x0 0, ← load3 harg3 x1 0, ← load3 harg5 x3 0, ← load2 harg7 x5 0, ← load2 harg8 x6 0, ← load2 harg9 x7 0, ← load2 harg13 xs0 0]; rfl
    · beta_reduce; rw [← load3 harg2 x0 1, ← load3 harg3 x1 1, ← load3 harg5 x3 1, ← load2 harg7 x5 1, ← load2 harg8 x6 1, ← load2 harg9 x7 1, ← load2 harg13 xs0 1]; rfl
    · beta_reduce; rw [← load3 harg2 x0 2, ← load3 harg3 x1 2, ← load3 harg5 x3 2, ← load2 harg7 x5 2, ← load2 harg8 x6 2, ← load2 harg9 x7 2, ← load2 harg13 xs0 2]; rfl
    · beta_reduce; rw [← load3 harg2 x0 3, ← load3 harg3 x1 3, ← load3 harg5 x3 3, ← load2 harg7 x5 3, ← load2 harg8 x6 3, ← load2 harg9 x7 3, ← load2 harg13 xs0 3]; rfl
  isplitl [H10]
  · iexists _; isplitr; swap; · iexact H10
    ipureintro
    refine read_slabs _ _ (fun p => dvOf i (cut3 x0 p) (cut3 x1 p) (cut2 x5 p) (cut2 x6 p) (cut2 xs1 p)) _ _ _ _ _ _ _ _ _ ?_ ?_ ?_ ?_
    · beta_reduce; rw [← load3 harg2 x0 0, ← load3 harg3 x1 0, ← load2 harg7 x5 0, ← load2 harg8 x6 0, ← load2 harg14 xs1 0]; rfl
    · beta_reduce; rw [← load3 harg2 x0 1, ← load3 harg3 x1 1, ← load2 harg7 x5 1, ← load2 harg8 x6 1, ← load2 harg14 xs1 1]; rfl
    · beta_reduce; rw [← load3 harg2 x0 2, ← load3 harg3 x1 2, ← load2 harg7 x5 2, ← load2 harg8 x6 2, ← load2 harg14 xs1 2]; rfl
    · beta_reduce; rw [← load3 harg2 x0 3, ← load3 harg3 x1 3, ← load2 harg7 x5 3, ← load2 harg8 x6 3, ← load2 harg14 xs1 3]; rfl
  isplitl [HS0]
  · iexists _; isplitr; swap; · iexact HS0
    ipureintro
    refine read_slabs _ _ (fun p => ckOf i (cut3 x0 p) (cut3 x2 p) (cut3 x4 p) (cut2 x5 p) (cut2 x6 p) (cut2 x7 p)) _ _ _ _ _ _ _ _ _ ?_ ?_ ?_ ?_
    · beta_reduce; rw [← load3 harg2 x0 0, ← load3 harg4 x2 0, ← load3 harg6 x4 0, ← load2 harg7 x5 0, ← load2 harg8 x6 0, ← load2 harg9 x7 0]; rfl
    · beta_reduce; rw [← load3 harg2 x0 1, ← load3 harg4 x2 1, ← load3 harg6 x4 1, ← load2 harg7 x5 1, ← load2 harg8 x6 1, ← load2 harg9 x7 1]; rfl
    · beta_reduce; rw [← load3 harg2 x0 2, ← load3 harg4 x2 2, ← load3 harg6 x4 2, ← load2 harg7 x5 2, ← load2 harg8 x6 2, ← load2 harg9 x7 2]; rfl
    · beta_reduce; rw [← load3 harg2 x0 3, ← load3 harg4 x2 3, ← load3 harg6 x4 3, ← load2 harg7 x5 3, ← load2 harg8 x6 3, ← load2 harg9 x7 3]; rfl
  · iexists _; isplitr; swap; · iexact HS1
    ipureintro
    refine read_slabs _ _ (fun p => cvOf i (cut3 x0 p) (cut3 x2 p) (cut2 x5 p) (cut2 x6 p)) _ _ _ _ _ _ _ _ _ ?_ ?_ ?_ ?_
    · beta_reduce; rw [← load3 harg2 x0 0, ← load3 harg4 x2 0, ← load2 harg7 x5 0, ← load2 harg8 x6 0]; rfl
    · beta_reduce; rw [← load3 harg2 x0 1, ← load3 harg4 x2 1, ← load2 harg7 x5 1, ← load2 harg8 x6 1]; rfl
    · beta_reduce; rw [← load3 harg2 x0 2, ← load3 harg4 x2 2, ← load2 harg7 x5 2, ← load2 harg8 x6 2]; rfl
    · beta_reduce; rw [← load3 harg2 x0 3, ← load3 harg4 x2 3, ← load2 harg7 x5 3, ← load2 harg8 x6 3]; rfl

end Cert.KernelIdeal.Gen

end
-- ==== Proof.AttnFrame.lean ====
/-
  The frame of the attention gradient: what every point leaves in the output windows and in the two carried blocks,
  and the run of the whole call with the final arrays named.
-/
module

public import proofs.«01_k».proof.Proof.AttnRunA
public import proofs.«01_k».proof.Proof.AttnRunB
public import proofs.«01_k».proof.Proof.AttnRunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- The carried part of the key gradient after point `t`: the contribution of `t`'s queries to their own block's keys. -/
def ckAt (c : Dev nD) (t : Fin cfg0.N) : Vec F S128x512 .f32 :=
  outCk (grid0.coords t) (iblk m c 0 t) (iblk m c 2 t) (iblk m c 4 t) (iblk m c 5 t) (iblk m c 6 t) (iblk m c 7 t)

/-- The carried part of the value gradient after point `t`. -/
def cvAt (c : Dev nD) (t : Fin cfg0.N) : Vec F S128x512 .f32 :=
  outCv (grid0.coords t) (iblk m c 0 t) (iblk m c 2 t) (iblk m c 5 t) (iblk m c 6 t)

/-- The point before `t` (the first point's own, where there is none). -/
abbrev pointBefore (t : Fin cfg0.N) : Fin cfg0.N := ⟨t.val - 1, Nat.lt_of_le_of_lt (Nat.sub_le _ _) t.isLt⟩

/-- What the body adds to at point `t`: zero at a row's first point, afterwards what the point before left. -/
def ckBefore (c : Dev nD) (t : Fin cfg0.N) : Vec F S128x512 .f32 :=
  if t.val % 17 = 0 then k0_pay2 else ckAt m c (pointBefore t)

def cvBefore (c : Dev nD) (t : Fin cfg0.N) : Vec F S128x512 .f32 :=
  if t.val % 17 = 0 then k0_pay3 else cvAt m c (pointBefore t)

/-- The point whose query gradient the window holds after point `t`: `t` itself, but at a row's last point, which stores
    none, the one before. -/
def dqPoint (t : Fin cfg0.N) : Fin cfg0.N := if t.val % 17 ≤ 15 then t else pointBefore t

def dqAt (c : Dev nD) (t : Fin cfg0.N) : Vec F S128x512 .bf16 :=
  outDq (grid0.coords t) (iblk m c 0 t) (iblk m c 1 t) (iblk m c 2 t) (iblk m c 3 t) (iblk m c 4 t) (iblk m c 5 t) (iblk m c 6 t) (iblk m c 7 t)

def dkAt (c : Dev nD) (t : Fin cfg0.N) : Vec F S128x512 .bf16 :=
  outDk (grid0.coords t) (iblk m c 0 t) (iblk m c 1 t) (iblk m c 3 t) (iblk m c 5 t) (iblk m c 6 t) (iblk m c 7 t) (ckBefore m c t)

def dvAt (c : Dev nD) (t : Fin cfg0.N) : Vec F S128x512 .bf16 :=
  outDv (grid0.coords t) (iblk m c 0 t) (iblk m c 1 t) (iblk m c 5 t) (iblk m c 6 t) (cvBefore m c t)

/-! ## The proof data -/

/-- Before a point that is not the first, the carried blocks are at what the point before left. -/
def carried (c : Dev nD) : (n : ℕ) → n ≤ cfg0.N → sProp 𝕄
  | 0, _ => Pipeline.ΦA spec0 c
  | n + 1, hn => iprop(iprop(owns (c : Thread nD τ) scM0_0 fullShare (ckAt m c ⟨n, hn⟩) ∗ owns (c : Thread nD τ) scM0_1 fullShare (cvAt m c ⟨n, hn⟩)) ∗ (∃ r, prngReg c r))

theorem carried_zero (c : Dev nD) (n : ℕ) (h : n ≤ cfg0.N) (hz : n = 0) : carried m c n h = Pipeline.ΦA spec0 c := by
  subst hz; rfl

theorem carried_pos (c : Dev nD) (n : ℕ) (h : n ≤ cfg0.N) (hz : n ≠ 0) :
    carried m c n h = iprop(iprop(owns (c : Thread nD τ) scM0_0 fullShare (ckAt m c ⟨n - 1, by omega⟩) ∗ owns (c : Thread nD τ) scM0_1 fullShare (cvAt m c ⟨n - 1, by omega⟩)) ∗ (∃ r, prngReg c r)) := by
  cases n with
  | zero => exact absurd rfl hz
  | succ n => rfl

/-- The proof data of the call's pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c (dqPoint t)
    | ⟨9, _⟩ => dkAt m c t
    | ⟨10, _⟩ => dvAt m c t
  Φ t := carried m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; exact Pipeline.Dat.Φ_castSucc (carried m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt m c (dqPoint t) := by dsimp only [dats]
theorem after0_9 (c : Dev nD) (t : Fin cfg0.N) : (dats m 0 c).after 9 t = dkAt m c t := by dsimp only [dats]
theorem after0_10 (c : Dev nD) (t : Fin cfg0.N) : (dats m 0 c).after 10 t = dvAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The query gradient's window at a row's last point -/

/-- The window is stored at every point of a row but the last, -/
theorem live8 (t : Fin cfg0.N) (h : t.val % 17 ≤ 15) : cfg0.idle 8 (grid0.coords t) = false := by
  have h1 : k0_cond2 (grid0.coords t) = 1#1 := (hcond0_1 t).mpr h
  show idle0 8 (grid0.coords t) = false
  simp only [idle0, h1]; rfl

/-- there it is idle, -/
theorem idle8 (t : Fin cfg0.N) (h : ¬ t.val % 17 ≤ 15) : cfg0.idle 8 (grid0.coords t) = true := by
  have h1 : k0_cond2 (grid0.coords t) ≠ 1#1 := fun e => h ((hcond0_1 t).mp e)
  have h2 : k0_cond3 (grid0.coords t) ≠ 1#1 := fun e => h ((hcond0_2 t).mp e)
  have h3 : k0_cond4 (grid0.coords t) ≠ 1#1 := fun e => h ((hcond0_3 t).mp e)
  have h4 : k0_cond5 (grid0.coords t) ≠ 1#1 := fun e => h ((hcond0_4 t).mp e)
  show idle0 8 (grid0.coords t) = true
  simp [idle0, h1, h2, h3, h4]

/-- written back, -/
theorem flush8_last : ∀ t : Fin cfg0.N, ¬ t.val % 17 ≤ 15 → (cfg0.win 8).flush t = true :=
  (by decide +kernel : ∀ t : Fin grid0.N, ¬ t.val % 17 ≤ 15 → win0_8.flush t = true)

/-- and not written back just before. -/
theorem flush8_stay : ∀ t : Fin cfg0.N, ¬ t.val % 17 ≤ 15 → (cfg0.win 8).flush (pointBefore t) = false :=
  (by decide +kernel : ∀ t : Fin grid0.N, ¬ t.val % 17 ≤ 15 → win0_8.flush (⟨t.val - 1, Nat.lt_of_le_of_lt (Nat.sub_le _ _) t.isLt⟩ : Fin grid0.N) = false)

/-- So at a row's last point the buffer still holds the point before's query gradient. -/
theorem before8_last (c : Dev nD) (t : Fin cfg0.N) (h : ¬ t.val % 17 ≤ 15) (d) :
    (dats m 0 c).before 8 t d = (dats m 0 c).after 8 t := by
  have ht : t.val < 68 := Nat.lt_of_lt_of_eq t.isLt N_0
  have hb : (pointBefore t).val % 17 ≤ 15 := by show (t.val - 1) % 17 ≤ 15; omega
  rw [(dats m 0 c).before_of_pos 8 t (by omega) ((cfg0.win 8).fetch_out rfl t) d, flush8_stay t h,
    if_neg Bool.false_ne_true]
  unfold Dat.left
  rw [live8 (pointBefore t) hb]
  show (dats m 0 c).after 8 (pointBefore t) = _
  rw [after0_8, after0_8]
  unfold dqPoint
  rw [if_pos hb, if_neg h]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 9600000 in
/-- The body at any point takes the buffers from what the schedule says they hold to what it says the point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 9 t rfl, after0_9, leaves_live m c 10 t rfl, after0_10]
  rw [show (dats m 0 c).Φ t.succ = iprop(iprop(owns (c : Thread nD τ) scM0_0 fullShare (ckAt m c t) ∗ owns (c : Thread nD τ) scM0_1 fullShare (cvAt m c t)) ∗ (∃ r, prngReg c r)) from rfl]
  have hN : t.val < 68 := lt_of_lt_of_eq t.isLt (show cfg0.N = 68 from N_0)
  by_cases h0 : t.val % 17 = 0
  · have h1 : t.val % 17 ≤ 15 := by omega
    rw [leaves_live m c 8 t (live8 t h1), after0_8]
    have e8 : dqPoint t = t := if_pos h1
    have ek : ckBefore m c t = k0_pay2 := if_pos h0
    have ev : cvBefore m c t = k0_pay3 := if_pos h0
    unfold dkAt dvAt
    rw [e8, ek, ev]
    unfold dqAt ckAt cvAt
    by_cases hz : t.val = 0
    · rw [carried_castSucc m c t, carried_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) _ _ _ _ _ _ _ _ _ _ _ _ _ _ _ _ _ _ _ _ _ _ _ _ _ _ ((hcond0_0 t).mpr h0) ((hcond0_1 t).mpr h1) ((hcond0_2 t).mpr h1) ((hcond0_3 t).mpr h1) ((hcond0_4 t).mpr h1) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [carried_castSucc m c t, carried_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) _ _ _ _ _ _ _ _ _ _ _ _ _ _ _ _ _ _ _ _ _ _ _ _ _ _ ((hcond0_0 t).mpr h0) ((hcond0_1 t).mpr h1) ((hcond0_2 t).mpr h1) ((hcond0_3 t).mpr h1) ((hcond0_4 t).mpr h1) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexists _; iexact HS0
      isplitl [HS1]; · iexists _; iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := by omega
    rw [carried_castSucc m c t, carried_pos m c _ _ hz]
    have ek : ckBefore m c t = ckAt m c (pointBefore t) := if_neg h0
    have ev : cvBefore m c t = cvAt m c (pointBefore t) := if_neg h0
    unfold dkAt dvAt
    rw [ek, ev]
    by_cases h1 : t.val % 17 ≤ 15
    · rw [leaves_live m c 8 t (live8 t h1), after0_8]
      have e8 : dqPoint t = t := if_pos h1
      rw [e8]
      unfold dqAt
      rw [show ckAt m c t = outCk (grid0.coords t) (iblk m c 0 t) (iblk m c 2 t) (iblk m c 4 t) (iblk m c 5 t) (iblk m c 6 t) (iblk m c 7 t) from rfl,
        show cvAt m c t = outCv (grid0.coords t) (iblk m c 0 t) (iblk m c 2 t) (iblk m c 5 t) (iblk m c 6 t) from rfl]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c (grid0.coords t) _ _ _ _ _ _ _ _ _ _ _ _ _ _ _ _ _ _ _ _ _ _ _ _ _ _ (fun h => h0 ((hcond0_0 t).mp h)) ((hcond0_1 t).mpr h1) ((hcond0_2 t).mpr h1) ((hcond0_3 t).mpr h1) ((hcond0_4 t).mpr h1) (iblk m c 0 t) (iblk m c 1 t) (iblk m c 2 t) (iblk m c 3 t) (iblk m c 4 t) (iblk m c 5 t) (iblk m c 6 t) (iblk m c 7 t) (ckAt m c (pointBefore t)) (cvAt m c (pointBefore t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [show (dats m 0 c).leavesExact 8 t = owns (c : Thread nD τ) (ms0_8 t) fullShare ((dats m 0 c).after 8 t) from by
        unfold Dat.leavesExact; rw [idle8 t h1, flush8_last t h1]]
      simp only [before8_last m c t h1]
      rw [show ckAt m c t = outCk (grid0.coords t) (iblk m c 0 t) (iblk m c 2 t) (iblk m c 4 t) (iblk m c 5 t) (iblk m c 6 t) (iblk m c 7 t) from rfl,
        show cvAt m c t = outCv (grid0.coords t) (iblk m c 0 t) (iblk m c 2 t) (iblk m c 5 t) (iblk m c 6 t) from rfl]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runC c (grid0.coords t) _ _ _ _ _ _ _ _ _ _ _ _ _ _ _ _ _ _ _ _ _ _ _ _ _ _ (fun h => h0 ((hcond0_0 t).mp h)) (fun h => h1 ((hcond0_1 t).mp h)) (fun h => h1 ((hcond0_2 t).mp h)) (fun h => h1 ((hcond0_3 t).mp h)) (fun h => h1 ((hcond0_4 t).mp h)) (iblk m c 0 t) (iblk m c 1 t) (iblk m c 2 t) (iblk m c 3 t) (iblk m c 4 t) (iblk m c 5 t) (iblk m c 6 t) (iblk m c 7 t) (ckAt m c (pointBefore t)) (cvAt m c (pointBefore t)) ((dats m 0 c).after 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = carried m c 0 (Nat.zero_le _) from rfl, carried_zero m c 0 _ rfl]

theorem hout (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 68 := N_0; omega), PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The run with the result arrays named and the arguments unchanged. -/
theorem run_named : θ_run defs (onTc (τ := τ) (main (F := F))) ⟨m, fun _ => 0, ρ⟩ fun r => ∀ c : Dev nD,
      r.2.mem ((c : Thread nD τ).loc main_v62_0) = (dats m 0 c).arrAt 8 cfg0.N
      ∧ r.2.mem ((c : Thread nD τ).loc main_v62_1) = (dats m 0 c).arrAt 9 cfg0.N
      ∧ r.2.mem ((c : Thread nD τ).loc main_v62_2) = (dats m 0 c).arrAt 10 cfg0.N :=
  (θ_run defs _ _).mono (fun r h c => ⟨(h c).1 8, (h c).1 9, (h c).1 10⟩) (run_main m ρ)

end Cert.KernelIdeal.Gen

end
-- ==== Proof.AttnMath.lean ====
/-
  One head of the windowed attention over the reals: its weights, its outputs and the gradients of its inputs, in the
  order the textbook derives them, and the identities between the forms the kernel and the reference compute them in.
-/
module

public import Idealize.ShloMosaic.PureOps.Ideal.Laws

@[expose] public section

noncomputable section

namespace Cert.Attn

open scoped BigOperators

/-- Query `q` looks at key `k`: the key is the query's own place or one of the 128 before it. -/
def near (q k : Fin 2048) : Prop := k.val ≤ q.val ∧ q.val ≤ k.val + 128

instance (q k : Fin 2048) : Decidable (near q k) := inferInstanceAs (Decidable (_ ∧ _))

theorem near_self (q : Fin 2048) : near q q := ⟨le_refl _, Nat.le_add_right _ _⟩

/-- One head of one residue class: queries, keys, values, the gradient of the output and of the log-denominator. -/
structure Head where
  Q : Fin 2048 → Fin 64 → ℝ
  K : Fin 2048 → Fin 64 → ℝ
  V : Fin 2048 → Fin 64 → ℝ
  O : Fin 2048 → Fin 64 → ℝ
  L : Fin 2048 → ℝ

namespace Head

variable (a : Head)

/-- The scaled score. -/
def s (q k : Fin 2048) : ℝ := (∑ e, a.Q q e * a.K k e) * (1 / 8)
/-- The keys a query looks at. -/
def keys (q : Fin 2048) : Finset (Fin 2048) := Finset.univ.filter (near q)
theorem mem_keys (q k : Fin 2048) : k ∈ keys q ↔ near q k := by simp [keys]
theorem keys_nonempty (q : Fin 2048) : (keys q).Nonempty := ⟨q, (mem_keys q q).mpr (near_self q)⟩
/-- The greatest score of a query. -/
def top (q : Fin 2048) : ℝ := (keys q).sup' (keys_nonempty q) (a.s q)
/-- The weights before they are divided by their sum. -/
def w (q k : Fin 2048) : ℝ := if near q k then Real.exp (a.s q k - a.top q) else 0
def den (q : Fin 2048) : ℝ := ∑ k, a.w q k
def P (q k : Fin 2048) : ℝ := a.w q k / a.den q
def out (q : Fin 2048) (e : Fin 64) : ℝ := ∑ k, a.V k e * a.P q k
def lse (q : Fin 2048) : ℝ := a.top q + Real.log (a.den q)
/-- The gradient of the weights. -/
def g (q k : Fin 2048) : ℝ := ∑ e, a.O q e * a.V k e
/-- What is added to it in every score's gradient. -/
def c (q : Fin 2048) : ℝ := a.L q - ∑ e, a.O q e * a.out q e
def ds (q k : Fin 2048) : ℝ := a.P q k * (a.g q k + a.c q) * (1 / 8)
def dq (q : Fin 2048) (e : Fin 64) : ℝ := ∑ k, a.ds q k * a.K k e
def dk (k : Fin 2048) (e : Fin 64) : ℝ := ∑ q, a.ds q k * a.Q q e
def dv (k : Fin 2048) (e : Fin 64) : ℝ := ∑ q, a.P q k * a.O q e

theorem w_nonneg (q k : Fin 2048) : 0 ≤ a.w q k := by
  unfold w; split
  · exact (Real.exp_pos _).le
  · exact le_refl _

theorem den_pos (q : Fin 2048) : 0 < a.den q :=
  Finset.sum_pos' (fun k _ => a.w_nonneg q k) ⟨q, Finset.mem_univ q, by unfold w; rw [if_pos (near_self q)]; exact Real.exp_pos _⟩

theorem den_ne (q : Fin 2048) : a.den q ≠ 0 := (a.den_pos q).ne'

/-- The weights are the exponentials of the scores less the log-denominator. -/
theorem P_eq (q k : Fin 2048) : a.P q k = if near q k then Real.exp (a.s q k - a.lse q) else 0 := by
  unfold P w lse
  split
  · rw [← sub_sub, Real.exp_sub (a.s q k - a.top q), Real.exp_log (a.den_pos q)]
  · exact zero_div _

theorem P_of_not_near {q k : Fin 2048} (h : ¬near q k) : a.P q k = 0 := by rw [P_eq, if_neg h]
theorem ds_of_not_near {q k : Fin 2048} (h : ¬near q k) : a.ds q k = 0 := by unfold ds; rw [a.P_of_not_near h]; ring

theorem sum_P (q : Fin 2048) : ∑ k, a.P q k = 1 := by
  unfold P; rw [← Finset.sum_div]; exact div_self (a.den_ne q)

/-- The output's product with its gradient, from the weights. -/
theorem sum_out (q : Fin 2048) : ∑ e, a.O q e * a.out q e = ∑ k, a.g q k * a.P q k := by
  unfold out g
  simp only [Finset.mul_sum, Finset.sum_mul]
  rw [Finset.sum_comm]
  exact Finset.sum_congr rfl fun k _ => Finset.sum_congr rfl fun e _ => by ring

/-- The gradient of the denominator, as differentiation leaves it. -/
def rowGrad (q : Fin 2048) : ℝ := a.L q / a.den q + -(∑ k, a.g q k * (1 / (a.den q * a.den q)) * a.w q k)

theorem rowGrad_eq (q : Fin 2048) : a.rowGrad q = a.c q / a.den q := by
  have hd := a.den_ne q
  unfold rowGrad c
  rw [sum_out]
  unfold P
  rw [sub_div, Finset.sum_div, sub_eq_add_neg]
  congr 2
  exact Finset.sum_congr rfl fun k _ => by field_simp

/-- A score's gradient before scaling, as differentiation leaves it. -/
theorem scoreGrad_eq (q k : Fin 2048) : (a.g q k / a.den q + a.rowGrad q) * a.w q k = a.P q k * (a.g q k + a.c q) := by
  have hd := a.den_ne q
  rw [rowGrad_eq]; unfold P; field_simp

/-- Nothing flows through the greatest score. -/
theorem topGrad_eq (q : Fin 2048) : a.L q + ∑ k, -((a.g q k / a.den q + a.rowGrad q) * a.w q k) = 0 := by
  simp only [scoreGrad_eq, mul_add]
  rw [Finset.sum_neg_distrib, Finset.sum_add_distrib, ← Finset.sum_mul, sum_P]
  have : ∑ k, a.P q k * a.g q k = ∑ e, a.O q e * a.out q e := by
    rw [sum_out]; exact Finset.sum_congr rfl fun k _ => mul_comm _ _
  rw [this]; unfold c; ring

end Head

/-! ## Blocks of 128 rows -/

/-- Row `i` of block `b`. -/
def row (b : Fin 16) (i : Fin 128) : Fin 2048 := ⟨128 * b.val + i.val, by omega⟩

theorem sum_blocks (f : Fin 2048 → ℝ) : ∑ k, f k = ∑ b : Fin 16, ∑ i : Fin 128, f (row b i) := by
  rw [← Equiv.sum_comp (finProdFinEquiv (m := 16) (n := 128)) f, Fintype.sum_prod_type]
  refine Finset.sum_congr rfl fun b _ => Finset.sum_congr rfl fun i _ => ?_
  congr 1
  exact Fin.ext (by show i.val + 128 * b.val = 128 * b.val + i.val; omega)

/-- A sum that lives in one block. -/
theorem sum_one_block (f : Fin 2048 → ℝ) (b : Fin 16) (h : ∀ b', b' ≠ b → ∀ i, f (row b' i) = 0) :
    ∑ k, f k = ∑ i, f (row b i) := by
  rw [sum_blocks]
  exact Finset.sum_eq_single b (fun b' _ hb => Finset.sum_eq_zero fun i _ => h b' hb i) (fun h => absurd (Finset.mem_univ b) h)

/-- A sum that lives in two blocks. -/
theorem sum_two_blocks (f : Fin 2048 → ℝ) (b b2 : Fin 16) (hb : b ≠ b2) (h : ∀ b', b' ≠ b → b' ≠ b2 → ∀ i, f (row b' i) = 0) :
    ∑ k, f k = ∑ i, f (row b i) + ∑ i, f (row b2 i) := by
  rw [sum_blocks]
  exact Finset.sum_eq_add b b2 hb (fun b' _ hb => Finset.sum_eq_zero fun i _ => h b' hb.1 hb.2 i)
    (fun h => absurd (Finset.mem_univ b) h) (fun h => absurd (Finset.mem_univ b2) h)

theorem near_same (b : Fin 16) (i k : Fin 128) : near (row b i) (row b k) ↔ k.val ≤ i.val := by
  unfold near row; simp only; omega

theorem near_next (b b2 : Fin 16) (hb : b2.val = b.val + 1) (i k : Fin 128) : near (row b2 i) (row b k) ↔ i.val ≤ k.val := by
  unfold near row; simp only; omega

theorem not_near_far (b b2 : Fin 16) (h : b2 ≠ b) (h' : b2.val ≠ b.val + 1) (i k : Fin 128) : ¬near (row b2 i) (row b k) := by
  unfold near row; simp only
  have : b2.val ≠ b.val := fun e => h (Fin.ext e)
  omega

namespace Head

variable (a : Head)

/-- The gradient of a query of the first block, by the keys of that block. -/
theorem dq_first (b : Fin 16) (hb : b.val = 0) (i : Fin 128) (e : Fin 64) :
    a.dq (row b i) e = ∑ k, a.ds (row b i) (row b k) * a.K (row b k) e :=
  sum_one_block _ b fun b' hb' k => by
    rw [a.ds_of_not_near (not_near_far b' b (Ne.symm hb') (by have := b'.isLt; omega) i k), zero_mul]

/-- The gradient of a query of a later block, by the keys of that block and of the one before. -/
theorem dq_later (b b0 : Fin 16) (hb : b.val = b0.val + 1) (i : Fin 128) (e : Fin 64) :
    a.dq (row b i) e = ∑ k, a.ds (row b i) (row b k) * a.K (row b k) e + ∑ k, a.ds (row b i) (row b0 k) * a.K (row b0 k) e :=
  sum_two_blocks _ b b0 (fun e => by rw [e] at hb; omega) fun b' hb' hb0 k => by
    rw [a.ds_of_not_near (not_near_far b' b (Ne.symm hb') (fun e => hb0 (Fin.ext (by omega))) i k), zero_mul]

theorem dk_last (b : Fin 16) (hb : b.val = 15) (k : Fin 128) (e : Fin 64) :
    a.dk (row b k) e = ∑ i, a.ds (row b i) (row b k) * a.Q (row b i) e :=
  sum_one_block _ b fun b' hb' i => by
    rw [a.ds_of_not_near (not_near_far b b' hb' (by have := b'.isLt; omega) i k), zero_mul]

theorem dk_earlier (b b2 : Fin 16) (hb : b2.val = b.val + 1) (k : Fin 128) (e : Fin 64) :
    a.dk (row b k) e = ∑ i, a.ds (row b i) (row b k) * a.Q (row b i) e + ∑ i, a.ds (row b2 i) (row b k) * a.Q (row b2 i) e :=
  sum_two_blocks _ b b2 (fun e => by rw [e] at hb; omega) fun b' hb' hb2 i => by
    rw [a.ds_of_not_near (not_near_far b b' hb' (fun e => hb2 (Fin.ext (by omega))) i k), zero_mul]

theorem dv_last (b : Fin 16) (hb : b.val = 15) (k : Fin 128) (e : Fin 64) :
    a.dv (row b k) e = ∑ i, a.P (row b i) (row b k) * a.O (row b i) e :=
  sum_one_block _ b fun b' hb' i => by
    rw [a.P_of_not_near (not_near_far b b' hb' (by have := b'.isLt; omega) i k), zero_mul]

theorem dv_earlier (b b2 : Fin 16) (hb : b2.val = b.val + 1) (k : Fin 128) (e : Fin 64) :
    a.dv (row b k) e = ∑ i, a.P (row b i) (row b k) * a.O (row b i) e + ∑ i, a.P (row b2 i) (row b k) * a.O (row b2 i) e :=
  sum_two_blocks _ b b2 (fun e => by rw [e] at hb; omega) fun b' hb' hb2 i => by
    rw [a.P_of_not_near (not_near_far b b' hb' (fun e => hb2 (Fin.ext (by omega))) i k), zero_mul]

end Head

/-! ## Reals among the extended reals -/

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

theorem sum_coe_mul {ι : Type*} (t : Finset ι) (f g : ι → ℝ) :
    ∑ i ∈ t, (f i : EReal) * (g i : EReal) = ((∑ i ∈ t, f i * g i : ℝ) : EReal) := by
  rw [coe_sum]; exact Finset.sum_congr rfl fun i _ => (EReal.coe_mul _ _).symm

open Idealize.ShloMosaic in
theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

open Idealize.ShloMosaic in
theorem eighth : Ideal.ofBits .f32 0x3E000000#32 = ((1 / 8 : ℝ) : EReal) := by
  simp [Ideal.ofBits, Ideal.ieee, -EReal.coe_mul]; norm_num

open Idealize.ShloMosaic in
theorem bottom : Ideal.ofBits .f32 0xFF800000#32 = ⊥ := by
  simp [Ideal.ofBits, Ideal.ieee]

end Cert.Attn

end
-- ==== Proof.AttnRef.lean ====
/-
  The reference read element by element on real inputs: each operation's element is the real quantity of its head
  (Proof/AttnMath.lean), up to the three gradients.
-/
module

public import proofs.«01_k».proof.Proof.AttnMath
public import proofs.«01_k».proof.Proof.Gen.ReferenceIdeal.Read
public import Idealize.ShloMosaic.Lib.IdealHost

@[expose] public section

noncomputable section

namespace Cert.Attn

open Idealize.ShloMosaic Idealize.ShloMosaic.ValueIdx Cert.ReferenceIdeal Cert.ReferenceIdeal.Read
open scoped BigOperators

/-! ## The inputs by head -/

/-- The token at place `l` of residue class `r`. -/
def tok (l : Fin 2048) (r : Fin 4) : Fin 8192 := ⟨4 * l.val + r.val, by omega⟩

/-- An array of reals, as the buffers hold it. -/
def arr3 (X : Fin 8192 → Fin 8 → Fin 64 → ℝ) : FVec Ideal S8192x8x64 .f32 := fun i => ((X (i 0) (i 1) (i 2) : ℝ) : EReal)
def arr2 (X : Fin 8192 → Fin 8 → ℝ) : FVec Ideal S8192x8 .f32 := fun i => ((X (i 0) (i 1) : ℝ) : EReal)

theorem same3 (X : Fin 8192 → Fin 8 → Fin 64 → ℝ) {t t' : Fin 8192} {h h' : Fin 8} {e e' : Fin 64} (ht : t.val = t'.val)
    (hh : h.val = h'.val) (he : e.val = e'.val) : X t h e = X t' h' e' := by
  rw [Fin.ext ht, Fin.ext hh, Fin.ext he]
theorem same2 (X : Fin 8192 → Fin 8 → ℝ) {t t' : Fin 8192} {h h' : Fin 8} (ht : t.val = t'.val) (hh : h.val = h'.val) :
    X t h = X t' h' := by
  rw [Fin.ext ht, Fin.ext hh]

/-- The five inputs of a call. -/
structure Inputs where
  Q : Fin 8192 → Fin 8 → Fin 64 → ℝ
  K : Fin 8192 → Fin 8 → Fin 64 → ℝ
  V : Fin 8192 → Fin 8 → Fin 64 → ℝ
  O : Fin 8192 → Fin 8 → Fin 64 → ℝ
  L : Fin 8192 → Fin 8 → ℝ

/-- Head `h` of residue class `r`. -/
def Inputs.head (X : Inputs) (r : Fin 4) (h : Fin 8) : Head :=
  ⟨fun l e => X.Q (tok l r) h e, fun l e => X.K (tok l r) h e, fun l e => X.V (tok l r) h e, fun l e => X.O (tok l r) h e, fun l => X.L (tok l r) h⟩

/-! ## An index by its coordinates -/

theorem at4 {n0 n1 n2 n3 : ℕ} {α : Type} (f : (⟨4, ![n0, n1, n2, n3]⟩ : Shape).Idx → α) (i : (⟨4, ![n0, n1, n2, n3]⟩ : Shape).Idx) :
    f i = f (ix4 (i 0) (i 1) (i 2) (i 3)) := congrArg f (eq_ix4 i)
theorem at3 {n0 n1 n2 : ℕ} {α : Type} (f : (⟨3, ![n0, n1, n2]⟩ : Shape).Idx → α) (i : (⟨3, ![n0, n1, n2]⟩ : Shape).Idx) :
    f i = f (ix3 (i 0) (i 1) (i 2)) := congrArg f (eq_ix3 i)
theorem at2 {n0 n1 : ℕ} {α : Type} (f : (⟨2, ![n0, n1]⟩ : Shape).Idx → α) (i : (⟨2, ![n0, n1]⟩ : Shape).Idx) :
    f i = f (ix2 (i 0) (i 1)) := congrArg f (eq_ix2 i)

section Read

variable (X : Inputs)

local notation "qq" => arr3 X.Q
local notation "kk" => arr3 X.K
local notation "vv" => arr3 X.V
local notation "oo" => arr3 X.O
local notation "ll" => arr2 X.L

/-! ## Scores and weights -/

theorem in4 (Y : Fin 8192 → Fin 8 → Fin 64 → ℝ) (i : S8192x8x64.Idx) (l : Fin 2048) (r : Fin 4) (h : Fin 8) (e : Fin 64)
    (h0 : (i 0).val = 4 * l.val + r.val) (h1 : (i 1).val = h.val) (h2 : (i 2).val = e.val) :
    arr3 Y i = ((Y (tok l r) h e : ℝ) : EReal) := congrArg _ (same3 Y h0 h1 h2)

theorem v0_at (Y : Fin 8192 → Fin 8 → Fin 64 → ℝ) (l : Fin 2048) (r : Fin 4) (h : Fin 8) (e : Fin 64) :
    val_main_v0 (F := Ideal) (arr3 Y) (ix4 l r h e) = ((Y (tok l r) h e : ℝ) : EReal) := by
  rw [val_main_v0_apply]
  have := l.isLt; have := r.isLt; have := h.isLt; have := e.isLt
  exact in4 Y _ l r h e (by show (((l.val * 4 + r.val) * 8 + h.val) * 64 + e.val) / 512 = _; omega)
    (by show (((l.val * 4 + r.val) * 8 + h.val) * 64 + e.val) / 64 % 8 = _; omega)
    (by show (((l.val * 4 + r.val) * 8 + h.val) * 64 + e.val) % 64 = _; omega)

theorem v1_at (Y : Fin 8192 → Fin 8 → Fin 64 → ℝ) (l : Fin 2048) (r : Fin 4) (h : Fin 8) (e : Fin 64) :
    val_main_v1 (F := Ideal) (arr3 Y) (ix4 l r h e) = ((Y (tok l r) h e : ℝ) : EReal) := v0_at Y l r h e
theorem v35_at (Y : Fin 8192 → Fin 8 → Fin 64 → ℝ) (l : Fin 2048) (r : Fin 4) (h : Fin 8) (e : Fin 64) :
    val_main_v35 (F := Ideal) (arr3 Y) (ix4 l r h e) = ((Y (tok l r) h e : ℝ) : EReal) := v0_at Y l r h e
theorem v46_at (Y : Fin 8192 → Fin 8 → Fin 64 → ℝ) (l : Fin 2048) (r : Fin 4) (h : Fin 8) (e : Fin 64) :
    val_main_v46 (F := Ideal) (arr3 Y) (ix4 l r h e) = ((Y (tok l r) h e : ℝ) : EReal) := v0_at Y l r h e

theorem v4_at (r : Fin 4) (h : Fin 8) (q k : Fin 2048) :
    val_main_v4 (F := Ideal) qq kk (ix4 r h q k) = (((X.head r h).s q k : ℝ) : EReal) := by
  rw [val_main_v4_apply, val_main_v2_apply, val_main_v3_apply, val_main_cst_apply]
  show (∑ e, _) * Ideal.ofBits .f32 0x3E000000#32 = _
  rw [eighth]; unfold Head.s; rw [EReal.coe_mul, ← sum_coe_mul]
  refine congrArg (· * _) (Finset.sum_congr rfl fun e _ => congrArg₂ (· * ·) ?_ ?_)
  · exact (at4 (val_main_v0 (F := Ideal) (arr3 X.Q)) _).trans (v0_at X.Q q r h e)
  · exact (at4 (val_main_v1 (F := Ideal) (arr3 X.K)) _).trans (v1_at X.K k r h e)

/-- The two comparisons of distances, as words. -/
theorem window_word (q k : Fin 2048) :
    IntOp.andi (IntOp.cmpi .sge (IntOp.subi (BitVec.ofNat 32 q.val) (BitVec.ofNat 32 k.val)) 0#32)
      (IntOp.cmpi .sle (IntOp.subi (BitVec.ofNat 32 q.val) (BitVec.ofNat 32 k.val)) 128#32)
      = if near q k then 1#1 else 0#1 := by
  have hq := q.isLt
  have hk := k.isLt
  have hs : (BitVec.ofNat 32 q.val - BitVec.ofNat 32 k.val).toInt = (q.val : ℤ) - k.val := by
    rw [BitVec.toInt_sub, BitVec.toInt_ofNat', BitVec.toInt_ofNat']
    rw [Int.bmod_eq_of_le (n := (q.val : ℤ)) (by omega) (by omega), Int.bmod_eq_of_le (n := (k.val : ℤ)) (by omega) (by omega)]
    exact Int.bmod_eq_of_le (by omega) (by omega)
  unfold IntOp.andi IntOp.cmpi IntOp.subi
  simp only [BitVec.sle, hs]
  have e0 : (0#32 : BitVec 32).toInt = 0 := by decide
  have e1 : (128#32 : BitVec 32).toInt = 128 := by decide
  rw [e0, e1]
  by_cases h1 : k.val ≤ q.val <;> by_cases h2 : q.val ≤ k.val + 128
  · rw [if_pos (show near q k from ⟨h1, h2⟩), decide_eq_true (by omega), decide_eq_true (by omega)]; rfl
  · rw [if_neg (fun h : near q k => h2 h.2), decide_eq_true (by omega), decide_eq_false (by omega)]; rfl
  · rw [if_neg (fun h : near q k => h1 h.1), decide_eq_false (by omega), decide_eq_true (by omega)]; rfl
  · rw [if_neg (fun h : near q k => h1 h.1), decide_eq_false (by omega), decide_eq_false (by omega)]; rfl

theorem v16_at (q k : Fin 2048) : val_main_v16 (F := Ideal) (ix2 q k) = if near q k then 1#1 else 0#1 := by
  rw [val_main_v16_apply, val_main_v13_apply, val_main_v15_apply, val_main_v11_apply, val_main_v12_apply, val_main_v14_apply,
    val_main_c_apply, val_main_c_0_apply, val_main_v9_apply, val_main_v10_apply, val_main_v6_apply, val_main_v8_apply,
    val_main_v5_apply, val_main_v7_apply]
  exact window_word q k

theorem v17_1_at (r : Fin 4) (h : Fin 8) (q k : Fin 2048) :
    val_main_v17_1 (F := Ideal) (ix4 r h q k) = if near q k then 1#1 else 0#1 := by
  rw [val_main_v17_1_apply]; exact (at2 _ _).trans (v16_at q k)

/-- The masked scores. -/
theorem v17_0_at (r : Fin 4) (h : Fin 8) (q k : Fin 2048) :
    val_main_v17_0 (F := Ideal) qq kk (ix4 r h q k) = if near q k then (((X.head r h).s q k : ℝ) : EReal) else ⊥ := by
  rw [val_main_v17_0_apply, v17_1_at, v4_at]
  split
  · rw [select_one]
  · rw [select_zero, val_main_call0_v2_apply, val_main_call0_v0_apply, val_main_cst_1_apply]; exact bottom

/-- The greatest of a row of masked scores. -/
theorem fold_top (a : Head) (q : Fin 2048) (f : Fin 2048 → EReal) (hf : ∀ k, f k = if near q k then ((a.s q k : ℝ) : EReal) else ⊥) :
    (Finset.univ : Finset (Fin 2048)).fold max ⊥ f = ((a.top q : ℝ) : EReal) := by
  apply le_antisymm
  · rw [Finset.fold_max_le]
    refine ⟨bot_le, fun k _ => ?_⟩
    rw [hf k]
    split
    · rename_i hk
      exact EReal.coe_le_coe_iff.mpr (Finset.le_sup' (a.s q) ((Head.mem_keys q k).mpr hk))
    · exact bot_le
  · obtain ⟨k, hk, he⟩ := Finset.exists_mem_eq_sup' (Head.keys_nonempty q) (a.s q)
    rw [Finset.le_fold_max]
    refine .inr ⟨k, Finset.mem_univ k, ?_⟩
    rw [hf k, if_pos ((Head.mem_keys q k).mp hk)]
    exact EReal.coe_le_coe_iff.mpr he.le

theorem v18_at (r : Fin 4) (h : Fin 8) (q : Fin 2048) :
    val_main_v18 (F := Ideal) qq kk (ix3 r h q) = (((X.head r h).top q : ℝ) : EReal) := by
  unfold val_main_v18
  rw [Host.reduce_eq_fold_single FloatOps.maximumf _ _ _ (by decide : S4x8x2048x2048.Reduces [3] S4x8x2048)]
  rw [val_main_cst_2_apply]
  have hb : (FloatOps.ofBits .f32 0xFF800000#32 : Ideal .f32) = ⊥ := bottom
  rw [hb]
  refine fold_top (X.head r h) q _ fun k => ?_
  refine (congrArg (val_main_v17_0 (F := Ideal) qq kk) (?_ : _ = ix4 r h q k)).trans (v17_0_at X r h q k)
  funext a
  match a with
  | ⟨0, _⟩ => rfl
  | ⟨1, _⟩ => rfl
  | ⟨2, _⟩ => rfl
  | ⟨3, _⟩ => rfl

theorem v24_at (r : Fin 4) (h : Fin 8) (q : Fin 2048) (z : Fin 1) :
    val_main_v24 (F := Ideal) qq kk (ix4 r h q z) = (((X.head r h).top q : ℝ) : EReal) := by
  rw [val_main_v24_apply]; exact (at3 (val_main_v18 (F := Ideal) qq kk) _).trans (v18_at X r h q)

theorem v27_at (r : Fin 4) (h : Fin 8) (q k : Fin 2048) :
    val_main_v27 (F := Ideal) qq kk (ix4 r h q k) = (((X.head r h).w q k : ℝ) : EReal) := by
  rw [val_main_v27_apply, val_main_v26_apply, v17_0_at, val_main_v25_apply]
  rw [(at4 (val_main_v24 (F := Ideal) qq kk) (idx_main_v25 (ix4 r h q k))).trans (v24_at X r h q 0)]
  show Ideal.exp (_ - _) = _
  unfold Head.w
  split
  · rw [← EReal.coe_sub, Ideal.exp_coe]
  · rw [EReal.bot_sub, Ideal.exp_bot, EReal.coe_zero]

theorem v28_at (r : Fin 4) (h : Fin 8) (q : Fin 2048) :
    val_main_v28 (F := Ideal) qq kk (ix3 r h q) = (((X.head r h).den q : ℝ) : EReal) := by
  rw [val_main_v28_apply, val_main_cst_4_apply]
  have hz : (FloatOps.ofBits .f32 0x00000000#32 : Ideal .f32) = 0 := Ideal.ofBits_zero_f32
  rw [hz, zero_add]; unfold Head.den; rw [coe_sum]
  exact Finset.sum_congr rfl fun k _ => (at4 (val_main_v27 (F := Ideal) qq kk) _).trans (v27_at X r h q k)

theorem v29_at (r : Fin 4) (h : Fin 8) (q : Fin 2048) (z : Fin 1) :
    val_main_v29 (F := Ideal) qq kk (ix4 r h q z) = (((X.head r h).den q : ℝ) : EReal) := by
  rw [val_main_v29_apply]; exact (at3 (val_main_v28 (F := Ideal) qq kk) _).trans (v28_at X r h q)

theorem v31_at (r : Fin 4) (h : Fin 8) (q k : Fin 2048) :
    val_main_v31 (F := Ideal) qq kk (ix4 r h q k) = (((X.head r h).P q k : ℝ) : EReal) := by
  rw [val_main_v31_apply, v27_at, val_main_v30_apply, (at4 (val_main_v29 (F := Ideal) qq kk) (idx_main_v30 (ix4 r h q k))).trans (v29_at X r h q 0)]
  exact div_coe _ ((X.head r h).den_ne q)

theorem v34_at (r : Fin 4) (h : Fin 8) (q : Fin 2048) (z : Fin 1) :
    val_main_v34 (F := Ideal) qq kk (ix4 r h q z) = ((1 / ((X.head r h).den q * (X.head r h).den q) : ℝ) : EReal) := by
  rw [val_main_v34_apply, val_main_v32_apply, v29_at, val_main_v33_apply, val_main_cst_5_apply]
  have h1 : (FloatOps.ofBits .f32 0x3F800000#32 : Ideal .f32) = ((1 : ℝ) : EReal) := Ideal.ofBits_one_f32
  rw [h1]
  show Ideal.div _ (_ * _) = _
  rw [← EReal.coe_mul]
  exact div_coe _ (mul_ne_zero ((X.head r h).den_ne q) ((X.head r h).den_ne q))

/-! ## The output and the log-denominator -/

theorem v36_at (r : Fin 4) (h : Fin 8) (e : Fin 64) (q : Fin 2048) :
    val_main_v36 (F := Ideal) qq kk vv (ix4 r h e q) = (((X.head r h).out q e : ℝ) : EReal) := by
  rw [val_main_v36_apply]; unfold Head.out; rw [← sum_coe_mul]
  exact Finset.sum_congr rfl fun k _ => congrArg₂ (· * ·) ((at4 (val_main_v35 (F := Ideal) (arr3 X.V)) _).trans (v35_at X.V k r h e)) ((at4 (val_main_v31 (F := Ideal) qq kk) _).trans (v31_at X r h q k))

theorem v39_at (r : Fin 4) (h : Fin 8) (q : Fin 2048) (z : Fin 1) :
    val_main_v39 (F := Ideal) qq kk (ix4 r h q z) = (((X.head r h).lse q : ℝ) : EReal) := by
  rw [val_main_v39_apply, val_main_v38_apply, v24_at, v29_at]
  rw [Ideal.hostUnary_log_def]
  show _ + Ideal.log _ = _
  rw [Ideal.log_coe, if_neg (not_le.mpr ((X.head r h).den_pos q)), ← EReal.coe_add]; rfl

/-! ## The gradients of the values -/

theorem v49_at (r : Fin 4) (h : Fin 8) (e : Fin 64) (q : Fin 2048) :
    val_main_v49 (F := Ideal) oo (ix4 r h e q) = ((X.O (tok q r) h e : ℝ) : EReal) := by
  rw [val_main_v49_apply]; exact (at4 (val_main_v46 (F := Ideal) oo) _).trans (v46_at X.O q r h e)

theorem v50_at (r : Fin 4) (h : Fin 8) (q k : Fin 2048) :
    val_main_v50 (F := Ideal) vv oo (ix4 r h q k) = (((X.head r h).g q k : ℝ) : EReal) := by
  rw [val_main_v50_apply]; unfold Head.g; rw [← sum_coe_mul]
  exact Finset.sum_congr rfl fun e _ => congrArg₂ (· * ·) ((at4 (val_main_v49 (F := Ideal) oo) _).trans (v49_at X r h e q)) ((at4 (val_main_v35 (F := Ideal) (arr3 X.V)) _).trans (v35_at X.V k r h e))

theorem v51_at (r : Fin 4) (h : Fin 8) (e : Fin 64) (k : Fin 2048) :
    val_main_v51 (F := Ideal) qq kk oo (ix4 r h e k) = (((X.head r h).dv k e : ℝ) : EReal) := by
  rw [val_main_v51_apply]; unfold Head.dv; rw [coe_sum]
  exact Finset.sum_congr rfl fun q _ => by
    rw [mul_comm, EReal.coe_mul]
    exact congrArg₂ (· * ·) ((at4 (val_main_v31 (F := Ideal) qq kk) _).trans (v31_at X r h q k)) ((at4 (val_main_v49 (F := Ideal) oo) _).trans (v49_at X r h e q))

/-! ## The gradients of the scores -/

theorem v47_at (r : Fin 4) (h : Fin 8) (q : Fin 2048) (z : Fin 1) :
    val_main_v47 (F := Ideal) ll (ix4 r h q z) = (((X.head r h).L q : ℝ) : EReal) := by
  rw [val_main_v47_apply, val_main_v45_apply, val_main_v44_apply]
  have := q.isLt; have := r.isLt; have := h.isLt
  exact congrArg _ (same2 X.L (by show ((q.val * 4 + r.val) * 8 + h.val) / 8 = 4 * q.val + r.val; omega)
    (by show ((q.val * 4 + r.val) * 8 + h.val) % 8 = h.val; omega))

theorem v56_at (r : Fin 4) (h : Fin 8) (q k : Fin 2048) :
    val_main_v56 (F := Ideal) qq kk vv oo (ix4 r h q k)
      = (((X.head r h).g q k * (1 / ((X.head r h).den q * (X.head r h).den q)) * (X.head r h).w q k : ℝ) : EReal) := by
  rw [val_main_v56_apply, val_main_v55_apply, v50_at, v27_at, val_main_v54_apply, (at4 (val_main_v34 (F := Ideal) qq kk) (idx_main_v54 (ix4 r h q k))).trans (v34_at X r h q 0)]
  show _ * _ * _ = _
  rw [← EReal.coe_mul, ← EReal.coe_mul]

theorem v57_at (r : Fin 4) (h : Fin 8) (q : Fin 2048) :
    val_main_v57 (F := Ideal) qq kk vv oo (ix3 r h q)
      = ((∑ k, (X.head r h).g q k * (1 / ((X.head r h).den q * (X.head r h).den q)) * (X.head r h).w q k : ℝ) : EReal) := by
  rw [val_main_v57_apply, val_main_cst_6_apply]
  have hz : (FloatOps.ofBits .f32 0x00000000#32 : Ideal .f32) = 0 := Ideal.ofBits_zero_f32
  rw [hz, zero_add, coe_sum]
  exact Finset.sum_congr rfl fun k _ => (at4 (val_main_v56 (F := Ideal) qq kk vv oo) _).trans (v56_at X r h q k)

theorem v60_at (r : Fin 4) (h : Fin 8) (q : Fin 2048) (z : Fin 1) :
    val_main_v60 (F := Ideal) qq kk vv oo ll (ix4 r h q z) = (((X.head r h).rowGrad q : ℝ) : EReal) := by
  have := q.isLt; have := r.isLt; have := h.isLt; have := z.isLt
  have e58 : val_main_v58 (F := Ideal) qq kk vv oo (ix4 r h q z) = _ := (val_main_v58_apply ..).trans
    ((congrArg _ (?_ : _ = ix3 r h q)).trans (v57_at X r h q))
  · rw [val_main_v60_apply, val_main_v48_apply, v47_at, v29_at, val_main_v59_apply, e58]
    show Ideal.div _ _ + -_ = _
    rw [div_coe _ ((X.head r h).den_ne q), ← EReal.coe_neg, ← EReal.coe_add]; rfl
  · refine (eq_ix3 _).trans ?_
    congr 1
    · exact Fin.ext (by show (((r.val * 8 + h.val) * 2048 + q.val) * 1 + z.val) / 16384 = r.val; omega)
    · exact Fin.ext (by show (((r.val * 8 + h.val) * 2048 + q.val) * 1 + z.val) / 2048 % 8 = h.val; omega)
    · exact Fin.ext (by show (((r.val * 8 + h.val) * 2048 + q.val) * 1 + z.val) % 2048 = q.val; omega)

theorem v63_at (r : Fin 4) (h : Fin 8) (q : Fin 2048) :
    val_main_v63 (F := Ideal) qq kk vv oo ll (ix3 r h q) = (((X.head r h).rowGrad q : ℝ) : EReal) := by
  rw [val_main_v63_apply, val_main_cst_7_apply]
  have hz : (FloatOps.ofBits .f32 0x00000000#32 : Ideal .f32) = 0 := Ideal.ofBits_zero_f32
  rw [hz, zero_add, Fin.sum_univ_one]
  exact (at4 (val_main_v60 (F := Ideal) qq kk vv oo ll) _).trans (v60_at X r h q 0)

theorem v66_at (r : Fin 4) (h : Fin 8) (q k : Fin 2048) :
    val_main_v66 (F := Ideal) qq kk vv oo ll (ix4 r h q k)
      = ((((X.head r h).g q k / (X.head r h).den q + (X.head r h).rowGrad q) * (X.head r h).w q k : ℝ) : EReal) := by
  rw [val_main_v66_apply, val_main_v65_apply, val_main_v62_apply, v50_at, v27_at, val_main_v61_apply,
    (at4 (val_main_v29 (F := Ideal) qq kk) (idx_main_v61 (ix4 r h q k))).trans (v29_at X r h q 0), val_main_v64_apply,
    (at3 (val_main_v63 (F := Ideal) qq kk vv oo ll) (idx_main_v64 (ix4 r h q k))).trans (v63_at X r h q)]
  show (Ideal.div _ _ + _) * _ = _
  rw [div_coe _ ((X.head r h).den_ne q), ← EReal.coe_add, ← EReal.coe_mul]

theorem v68_at (r : Fin 4) (h : Fin 8) (q : Fin 2048) :
    val_main_v68 (F := Ideal) qq kk vv oo ll (ix3 r h q)
      = ((∑ k, -(((X.head r h).g q k / (X.head r h).den q + (X.head r h).rowGrad q) * (X.head r h).w q k) : ℝ) : EReal) := by
  rw [val_main_v68_apply, val_main_cst_8_apply]
  have hz : (FloatOps.ofBits .f32 0x00000000#32 : Ideal .f32) = 0 := Ideal.ofBits_zero_f32
  rw [hz, zero_add, coe_sum]
  refine Finset.sum_congr rfl fun k _ => ?_
  rw [val_main_v67_apply, EReal.coe_neg]
  exact congrArg (fun x : EReal => -x) ((at4 (val_main_v66 (F := Ideal) qq kk vv oo ll) _).trans (v66_at X r h q k))

/-- Nothing flows through the greatest score. -/
theorem v70_at (r : Fin 4) (h : Fin 8) (q : Fin 2048) (z : Fin 1) :
    val_main_v70 (F := Ideal) qq kk vv oo ll (ix4 r h q z) = 0 := by
  have := q.isLt; have := r.isLt; have := h.isLt; have := z.isLt
  have e69 : val_main_v69 (F := Ideal) qq kk vv oo ll (ix4 r h q z) = _ := (val_main_v69_apply ..).trans
    ((congrArg _ (?_ : _ = ix3 r h q)).trans (v68_at X r h q))
  · rw [val_main_v70_apply, v47_at, e69]
    show _ + _ = _
    rw [← EReal.coe_add, Head.topGrad_eq, EReal.coe_zero]
  · refine (eq_ix3 _).trans ?_
    congr 1
    · exact Fin.ext (by show (((r.val * 8 + h.val) * 2048 + q.val) * 1 + z.val) / 16384 = r.val; omega)
    · exact Fin.ext (by show (((r.val * 8 + h.val) * 2048 + q.val) * 1 + z.val) / 2048 % 8 = h.val; omega)
    · exact Fin.ext (by show (((r.val * 8 + h.val) * 2048 + q.val) * 1 + z.val) % 2048 = q.val; omega)

theorem v71_at (r : Fin 4) (h : Fin 8) (q : Fin 2048) :
    val_main_v71 (F := Ideal) qq kk vv oo ll (ix3 r h q) = 0 := by
  rw [val_main_v71_apply, val_main_cst_9_apply]
  have hz : (FloatOps.ofBits .f32 0x00000000#32 : Ideal .f32) = 0 := Ideal.ofBits_zero_f32
  rw [hz, zero_add, Fin.sum_univ_one]
  exact (at4 (val_main_v70 (F := Ideal) qq kk vv oo ll) _).trans (v70_at X r h q 0)

/-- Whether a score is its row's greatest, as a number. -/
theorem v22_real (r : Fin 4) (h : Fin 8) (q k : Fin 2048) :
    val_main_v22 (F := Ideal) qq kk (ix4 r h q k) = (((val_main_v21 (F := Ideal) qq kk (ix4 r h q k)).toNat : ℝ) : EReal) := by
  rw [val_main_v22_apply]; rfl

/-- Some score of the row is its greatest, so the count is not zero. -/
theorem v23_ne (r : Fin 4) (h : Fin 8) (q : Fin 2048) : val_main_v23 (F := Ideal) qq kk (ix3 r h q) ≠ 0 := by
  rw [val_main_v23_apply, val_main_cst_3_apply]
  have hz : (FloatOps.ofBits .f32 0x00000000#32 : Ideal .f32) = 0 := Ideal.ofBits_zero_f32
  rw [hz, zero_add]
  have hs : ∀ k, val_main_v22 (F := Ideal) qq kk (idx_main_v23 (ix3 r h q) k)
      = (((val_main_v21 (F := Ideal) qq kk (ix4 r h q k)).toNat : ℝ) : EReal) := fun k => (at4 (val_main_v22 (F := Ideal) qq kk) _).trans (v22_real X r h q k)
  rw [Finset.sum_congr rfl fun k _ => hs k, ← coe_sum]
  have := q.isLt; have := r.isLt; have := h.isLt
  obtain ⟨k, hk, he⟩ := Finset.exists_mem_eq_sup' (Head.keys_nonempty q) ((X.head r h).s q)
  have h20 : val_main_v20 (F := Ideal) qq kk (ix4 r h q k) = (((X.head r h).top q : ℝ) : EReal) := by
    rw [val_main_v20_apply, val_main_v19_apply]
    refine (congrArg _ (?_ : _ = ix3 r h q)).trans (v18_at X r h q)
    refine (eq_ix3 _).trans ?_
    congr 1
    · exact Fin.ext (by show (((r.val * 8 + h.val) * 2048 + q.val) * 1 + 0) / 16384 = r.val; omega)
    · exact Fin.ext (by show (((r.val * 8 + h.val) * 2048 + q.val) * 1 + 0) / 2048 % 8 = h.val; omega)
    · exact Fin.ext (by show (((r.val * 8 + h.val) * 2048 + q.val) * 1 + 0) % 2048 = q.val; omega)
  have h1 : (val_main_v21 (F := Ideal) qq kk (ix4 r h q k)).toNat = 1 := by
    rw [val_main_v21_apply, v17_0_at, if_pos ((Head.mem_keys q k).mp hk), h20, Ideal.cmpf_def]
    have : (X.head r h).s q k = (X.head r h).top q := he.symm
    rw [this]; simp [Ideal.cmp]
  have hp : (0 : ℝ) < ∑ k, ((val_main_v21 (F := Ideal) qq kk (ix4 r h q k)).toNat : ℝ) :=
    Finset.sum_pos' (fun k _ => Nat.cast_nonneg _) ⟨k, Finset.mem_univ k, by rw [h1]; norm_num⟩
  exact fun e => hp.ne' (EReal.coe_injective (e.trans EReal.coe_zero.symm))

theorem v75_at (r : Fin 4) (h : Fin 8) (q k : Fin 2048) :
    val_main_v75 (F := Ideal) qq kk vv oo ll (ix4 r h q k)
      = (((X.head r h).P q k * ((X.head r h).g q k + (X.head r h).c q) : ℝ) : EReal) := by
  have e73 : val_main_v73 (F := Ideal) qq kk vv oo ll (ix4 r h q k) = 0 := by
    rw [val_main_v73_apply]
    refine (at3 (val_main_v72 (F := Ideal) qq kk vv oo ll) (idx_main_v73 (ix4 r h q k))).trans ?_
    refine (val_main_v72_apply _ _ _ _ _ (ix3 r h q)).trans ?_
    rw [v71_at]
    exact Ideal.zero_div (v23_ne X r h q)
  rw [val_main_v75_apply, v66_at, val_main_v74_apply, e73, Head.scoreGrad_eq]
  show _ + 0 * _ = _
  rw [zero_mul, add_zero]

theorem v78_at (r : Fin 4) (h : Fin 8) (q k : Fin 2048) :
    val_main_v78 (F := Ideal) qq kk vv oo ll (ix4 r h q k) = (((X.head r h).ds q k : ℝ) : EReal) := by
  rw [val_main_v78_apply, val_main_v76_apply, v17_1_at, v75_at, val_main_v77_apply, val_main_cst_10_apply, val_main_call1_v0_apply,
    val_main_call1_cst_apply]
  have he : (FloatOps.ofBits .f32 0x3E000000#32 : Ideal .f32) = ((1 / 8 : ℝ) : EReal) := eighth
  have hz : (FloatOps.ofBits .f32 0x00000000#32 : Ideal .f32) = 0 := Ideal.ofBits_zero_f32
  rw [he, hz]
  show _ * _ = _
  split
  · rw [select_one, ← EReal.coe_mul]; rfl
  · rename_i hn
    rw [select_zero, zero_mul, Head.ds_of_not_near _ hn, EReal.coe_zero]

theorem v79_at (r : Fin 4) (h : Fin 8) (k : Fin 2048) (e : Fin 64) :
    val_main_v79 (F := Ideal) qq kk vv oo ll (ix4 r h k e) = (((X.head r h).dk k e : ℝ) : EReal) := by
  rw [val_main_v79_apply]; unfold Head.dk; rw [← sum_coe_mul]
  exact Finset.sum_congr rfl fun q _ => congrArg₂ (· * ·) ((at4 (val_main_v78 (F := Ideal) qq kk vv oo ll) _).trans (v78_at X r h q k)) ((at4 (val_main_v0 (F := Ideal) (arr3 X.Q)) _).trans (v0_at X.Q q r h e))

theorem v81_at (r : Fin 4) (h : Fin 8) (q : Fin 2048) (e : Fin 64) :
    val_main_v81 (F := Ideal) qq kk vv oo ll (ix4 r h q e) = (((X.head r h).dq q e : ℝ) : EReal) := by
  rw [val_main_v81_apply]; unfold Head.dq; rw [← sum_coe_mul]
  exact Finset.sum_congr rfl fun k _ => congrArg₂ (· * ·) ((at4 (val_main_v78 (F := Ideal) qq kk vv oo ll) _).trans (v78_at X r h q k)) ((at4 (val_main_v1 (F := Ideal) (arr3 X.K)) _).trans (v1_at X.K k r h e))

/-! ## The results -/

/-- The column of a result that holds lane `e` of head `h` of residue class `r`. -/
def col (r : Fin 4) (h : Fin 8) (e : Fin 64) : Fin 2048 := ⟨512 * r.val + 64 * h.val + e.val, by omega⟩

theorem dq_at (l : Fin 2048) (r : Fin 4) (h : Fin 8) (e : Fin 64) :
    val_main_v86 (F := Ideal) qq kk vv oo ll (ix2 l (col r h e)) = (((X.head r h).dq l e : ℝ) : EReal) := by
  have := l.isLt; have := r.isLt; have := h.isLt; have := e.isLt
  rw [val_main_v86_apply, val_main_v85_apply, val_main_v84_apply, val_main_v82_apply]
  refine (congrArg (val_main_v81 (F := Ideal) qq kk vv oo ll) ((eq_ix4 _).trans (?_ : _ = ix4 r h l e))).trans (v81_at X r h l e)
  congr 1
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 512 % 4) = r.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 64 % 8) = h.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 2048) = l.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) % 64) = e.val
    omega

theorem dk_at (l : Fin 2048) (r : Fin 4) (h : Fin 8) (e : Fin 64) :
    val_main_v88 (F := Ideal) qq kk vv oo ll (ix2 l (col r h e)) = (((X.head r h).dk l e : ℝ) : EReal) := by
  have := l.isLt; have := r.isLt; have := h.isLt; have := e.isLt
  rw [val_main_v88_apply, val_main_v87_apply, val_main_v83_apply, val_main_v80_apply]
  refine (congrArg (val_main_v79 (F := Ideal) qq kk vv oo ll) ((eq_ix4 _).trans (?_ : _ = ix4 r h l e))).trans (v79_at X r h l e)
  congr 1
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 512 % 4) = r.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 64 % 8) = h.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 2048) = l.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) % 64) = e.val
    omega

theorem dv_at (l : Fin 2048) (r : Fin 4) (h : Fin 8) (e : Fin 64) :
    val_main_v90 (F := Ideal) qq kk oo (ix2 l (col r h e)) = (((X.head r h).dv l e : ℝ) : EReal) := by
  have := l.isLt; have := r.isLt; have := h.isLt; have := e.isLt
  rw [val_main_v90_apply, val_main_v89_apply, val_main_v53_apply, val_main_v52_apply]
  refine (congrArg (val_main_v51 (F := Ideal) qq kk oo) ((eq_ix4 _).trans (?_ : _ = ix4 r h e l))).trans (v51_at X r h e l)
  congr 1
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 512 % 4) = r.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 64 % 8) = h.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) % 64) = e.val
    omega
  · refine Fin.ext ?_
    show ((((l.val * 2048 + (512 * r.val + 64 * h.val + e.val)) / 512 * 8 + (l.val * 2048 + (512 * r.val + 64 * h.val + e.val)) / 64 % 8) * 64 + (l.val * 2048 + (512 * r.val + 64 * h.val + e.val)) % 64) / 2048) = l.val
    omega

end Read

end Cert.Attn

end
-- ==== Proof.AttnHost.lean ====
/-
  The arrays the custom call is given, read element by element: the projections, the output's gradient, the log-denominator
  and the correction, each at the place of a head's row and lane.
-/
module

public import proofs.«01_k».proof.Proof.AttnRef
public import proofs.«01_k».proof.Proof.Gen.KernelIdeal.Frame

@[expose] public section

set_option maxRecDepth 8192

noncomputable section

namespace Cert.Attn

open Idealize.ShloMosaic Idealize.ShloMosaic.TcCoe Idealize.SL.Sem Idealize.ShloMosaic.StableHlo Idealize.ShloMosaic.ValueIdx
open Cert.KernelIdeal Cert.KernelIdeal.Gen

/-! ## The arrays as terms of the arguments -/

section Terms

variable {F : FTy → Type} [FloatOps F] [Named F]

/-- An array of tokens, heads and lanes as rows of 2048 columns. -/
def wide {α : Type} (x : S8192x8x64.Idx → α) : S2048x2048.Idx → α :=
  shapeCast S2048x2048 (shapeCast S8192x512 x shapeCasts_S8192x8x64_S8192x512) shapeCasts_S8192x512_S2048x2048

/-- A scalar for each token and head, repeated over the lanes. -/
def lanes {α : Type} (x : S8192x8.Idx → α) : S8192x8x64.Idx → α :=
  broadcastInDim S8192x8x64 ![0, 1, 2] bcast_S8192x8x1_S8192x8x64_0_1_2 (broadcastInDim S8192x8x1 ![0, 1] bcast_S8192x8_S8192x8x1_0_1 x)

/-- The correction of the scores' gradient. -/
def corr (x0 x1 x2 x3 : FVec F S8192x8x64 .f32) (x4 : FVec F S8192x8 .f32) : FVec F S8192x8 .f32 :=
  subf x4 (Host.reduceAdd (mulf x3 (Cert.ReferenceIdeal.Read.val_main_v41 (F := F) x0 x1 x2)) (constant S_ .f32 0x00000000#32) reducesTo_S8192x8x64_S8192x8_d2 h_S_)

/-- One array with a leading unit axis. -/
def lead (x : FVec F S8192x8x64 .f32) : FVec F S1x8192x512 .f32 :=
  broadcastInDim S1x8192x512 ![1, 2] bcast_S8192x512_S1x8192x512_1_2 (shapeCast S8192x512 x shapeCasts_S8192x8x64_S8192x512)

/-- The three projections, one after another. -/
def three (x0 x1 x2 : FVec F S8192x8x64 .f32) : FVec F S3x8192x512 .f32 :=
  concatenate S3x8192x512 0 [⟨S1x8192x512, lead x0⟩, ⟨S1x8192x512, lead x1⟩, ⟨S1x8192x512, lead x2⟩]
    concatenates_S1x8192x512_S1x8192x512_S1x8192x512_S3x8192x512_d0

/-- The projections as the call reads them. -/
def projs (x0 x1 x2 : FVec F S8192x8x64 .f32) : FVec F S3x2048x2048 .bf16 :=
  shapeCast S3x2048x2048 (extractStridedSlice S3x8192x512 ![3, 0, 0]
    (concatenate S6x8192x512 0 [⟨S3x8192x512, (broadcastInDim S3x8192x512 ![] bcast_S_S3x8192x512 (constant S_ .bf16 0x0000#16) : FVec F S3x8192x512 .bf16)⟩,
      ⟨S3x8192x512, (truncf .bf16 (three x0 x1 x2) bitsLt_bf16_f32 : FVec F S3x8192x512 .bf16)⟩] concatenates_S3x8192x512_S3x8192x512_S6x8192x512_d0)
    slices_S6x8192x512_S3x8192x512_3_0_0) shapeCasts_S3x8192x512_S3x2048x2048

variable (m : (ℓ : Loc nD τ sig) → Buf (Elt F) ℓ) (c : Dev nD)

set_option maxHeartbeats 4000000 in
theorem V_lse : V m c main_v60 = wide (lanes (Cert.ReferenceIdeal.Read.val_main_v43 (F := F) (m (c, main_arg0)) (m (c, main_arg1)))) := by
  simp only [V, hostOps0, hostOps0_1, hostOps0_2, List.flatten_cons, List.flatten_nil, List.append_nil, List.cons_append,
      List.nil_append, TRef.nullary, TRef.ternary, TRef.unary, TRef.toBuf, TRef.ofBuf, cast_eq]
  after_results_simp
  rfl

set_option maxHeartbeats 4000000 in
theorem V_corr : V m c main_v61 = wide (lanes (corr (m (c, main_arg0)) (m (c, main_arg1)) (m (c, main_arg2)) (m (c, main_arg3)) (m (c, main_arg4)))) := by
  simp only [V, hostOps0, hostOps0_1, hostOps0_2, List.flatten_cons, List.flatten_nil, List.append_nil, List.cons_append,
      List.nil_append, TRef.nullary, TRef.ternary, TRef.unary, TRef.toBuf, TRef.ofBuf, cast_eq]
  after_results_simp
  rfl

set_option maxHeartbeats 4000000 in
theorem V_do : V m c main_v59 = shapeCast S2048x2048 (truncf .bf16 (shapeCast S8192x512 (m (c, main_arg3)) shapeCasts_S8192x8x64_S8192x512 : FVec F S8192x512 .f32) bitsLt_bf16_f32 : FVec F S8192x512 .bf16)
    shapeCasts_S8192x512_S2048x2048 := by
  simp only [V, hostOps0, hostOps0_1, hostOps0_2, List.flatten_cons, List.flatten_nil, List.append_nil, List.cons_append,
      List.nil_append, TRef.nullary, TRef.ternary, TRef.unary, TRef.toBuf, TRef.ofBuf, cast_eq]
  after_results_simp
  rfl

set_option maxHeartbeats 4000000 in
theorem V_projs : V m c main_v58 = projs (m (c, main_arg0)) (m (c, main_arg1)) (m (c, main_arg2)) := by
  simp only [V, hostOps0, hostOps0_1, hostOps0_2, List.flatten_cons, List.flatten_nil, List.append_nil, List.cons_append,
      List.nil_append, TRef.nullary, TRef.ternary, TRef.unary, TRef.toBuf, TRef.ofBuf, cast_eq]
  after_results_simp
  rfl

end Terms

/-! ## Their elements -/

theorem cast_wide {α : Type} (x : S8192x512.Idx → α) (l : Fin 2048) (r : Fin 4) (h : Fin 8) (e : Fin 64) :
    shapeCast S2048x2048 x shapeCasts_S8192x512_S2048x2048 (ix2 l (col r h e)) = x (ix2 (tok l r) (⟨64 * h.val + e.val, by omega⟩ : Fin 512)) :=
  shapeCast_apply x _ _ _ (by
    have := l.isLt; have := r.isLt; have := h.isLt; have := e.isLt
    rw [Shape.rowMajor_val_two, Shape.rowMajor_val_two]
    show (4 * l.val + r.val) * 512 + (64 * h.val + e.val) = l.val * 2048 + (512 * r.val + 64 * h.val + e.val)
    omega)

theorem cast_flat {α : Type} (x : S8192x8x64.Idx → α) (t : Fin 8192) (h : Fin 8) (e : Fin 64) :
    shapeCast S8192x512 x shapeCasts_S8192x8x64_S8192x512 (ix2 t (⟨64 * h.val + e.val, by omega⟩ : Fin 512)) = x (ix3 t h e) :=
  shapeCast_apply x _ _ _ (by
    have := t.isLt; have := h.isLt; have := e.isLt
    rw [Shape.rowMajor_val_two, Shape.rowMajor_val_three]
    show (t.val * 8 + h.val) * 64 + e.val = t.val * 512 + (64 * h.val + e.val)
    omega)

theorem wide_at {α : Type} (x : S8192x8x64.Idx → α) (l : Fin 2048) (r : Fin 4) (h : Fin 8) (e : Fin 64) :
    wide x (ix2 l (col r h e)) = x (ix3 (tok l r) h e) := (cast_wide _ l r h e).trans (cast_flat x _ h e)

theorem lanes_at {α : Type} (x : S8192x8.Idx → α) (t : Fin 8192) (h : Fin 8) (e : Fin 64) : lanes x (ix3 t h e) = x (ix2 t h) := by
  unfold lanes
  rw [broadcastInDim_apply _ _ _ (ix3 t h e) (ix3 t h (0 : Fin 1)) (fun a => match a with
    | ⟨0, _⟩ => rfl
    | ⟨1, _⟩ => rfl
    | ⟨2, _⟩ => rfl)]
  exact broadcastInDim_apply _ _ _ _ (ix2 t h) (fun a => match a with
    | ⟨0, _⟩ => rfl
    | ⟨1, _⟩ => rfl)

section Real

variable (X : Inputs)

theorem o_at (l : Fin 2048) (r : Fin 4) (h : Fin 8) (e : Fin 64) :
    Cert.ReferenceIdeal.Read.val_main_v41 (F := Ideal) (arr3 X.Q) (arr3 X.K) (arr3 X.V) (ix3 (tok l r) h e) = (((X.head r h).out l e : ℝ) : EReal) := by
  have := l.isLt; have := r.isLt; have := h.isLt; have := e.isLt
  rw [Cert.ReferenceIdeal.Read.val_main_v41_apply, Cert.ReferenceIdeal.Read.val_main_v37_apply]
  refine (congrArg (Cert.ReferenceIdeal.Read.val_main_v36 (F := Ideal) (arr3 X.Q) (arr3 X.K) (arr3 X.V)) ((eq_ix4 _).trans (?_ : _ = ix4 r h e l))).trans (v36_at X r h e l)
  congr 1
  · refine Fin.ext ?_
    show (((4 * l.val + r.val) * 8 + h.val) * 64 + e.val) / 512 % 4 = r.val
    omega
  · refine Fin.ext ?_
    show (((4 * l.val + r.val) * 8 + h.val) * 64 + e.val) / 64 % 8 = h.val
    omega
  · refine Fin.ext ?_
    show (((4 * l.val + r.val) * 8 + h.val) * 64 + e.val) % 64 = e.val
    omega
  · refine Fin.ext ?_
    show (((4 * l.val + r.val) * 8 + h.val) * 64 + e.val) / 2048 = l.val
    omega

theorem split3 {r h l : ℕ} (hr : r < 4) (hh : h < 8) (hl : l < 2048) :
    ((r * 8 + h) * 2048 + l) / 16384 = r ∧ ((r * 8 + h) * 2048 + l) / 2048 % 8 = h ∧ ((r * 8 + h) * 2048 + l) / 1 % 2048 = l := by
  omega

theorem lse_at (l : Fin 2048) (r : Fin 4) (h : Fin 8) :
    Cert.ReferenceIdeal.Read.val_main_v43 (F := Ideal) (arr3 X.Q) (arr3 X.K) (ix2 (tok l r) h) = (((X.head r h).lse l : ℝ) : EReal) := by
  have := l.isLt; have := r.isLt; have := h.isLt
  rw [Cert.ReferenceIdeal.Read.val_main_v43_apply, Cert.ReferenceIdeal.Read.val_main_v42_apply, Cert.ReferenceIdeal.Read.val_main_v40_apply]
  refine (congrArg (Cert.ReferenceIdeal.Read.val_main_v39 (F := Ideal) (arr3 X.Q) (arr3 X.K)) ((eq_ix4 _).trans (?_ : _ = ix4 r h l (0 : Fin 1)))).trans (v39_at X r h l 0)
  have e0 : ((4 * l.val + r.val) * 8 + h.val) / 32 = l.val := by omega
  have e1 : ((4 * l.val + r.val) * 8 + h.val) / 8 % 4 = r.val := by omega
  have e2 : ((4 * l.val + r.val) * 8 + h.val) % 8 = h.val := by omega
  congr 1
  · refine Fin.ext ?_
    show ((((4 * l.val + r.val) * 8 + h.val) / 8 % 4 * 8 + ((4 * l.val + r.val) * 8 + h.val) % 8) * 2048 + ((4 * l.val + r.val) * 8 + h.val) / 32) / 16384 = r.val
    rw [e0, e1, e2]; exact (split3 r.isLt h.isLt l.isLt).1
  · refine Fin.ext ?_
    show ((((4 * l.val + r.val) * 8 + h.val) / 8 % 4 * 8 + ((4 * l.val + r.val) * 8 + h.val) % 8) * 2048 + ((4 * l.val + r.val) * 8 + h.val) / 32) / 2048 % 8 = h.val
    rw [e0, e1, e2]; exact (split3 r.isLt h.isLt l.isLt).2.1
  · refine Fin.ext ?_
    show ((((4 * l.val + r.val) * 8 + h.val) / 8 % 4 * 8 + ((4 * l.val + r.val) * 8 + h.val) % 8) * 2048 + ((4 * l.val + r.val) * 8 + h.val) / 32) / 1 % 2048 = l.val
    rw [e0, e1, e2]; exact (split3 r.isLt h.isLt l.isLt).2.2

theorem corr_at (l : Fin 2048) (r : Fin 4) (h : Fin 8) :
    corr (F := Ideal) (arr3 X.Q) (arr3 X.K) (arr3 X.V) (arr3 X.O) (arr2 X.L) (ix2 (tok l r) h) = (((X.head r h).c l : ℝ) : EReal) := by
  unfold corr Head.c
  rw [EReal.coe_sub]
  refine congrArg₂ (fun x y : EReal => x - y) rfl ?_
  rw [hostReduceAdd_apply, Ideal.hostReduceAdd_single reducesTo_S8192x8x64_S8192x8_d2 (by decide : S8192x8x64.Reduces [2] S8192x8)]
  have hz : (constant S_ .f32 0x00000000#32 : FVec Ideal S_ .f32) (Shape.Idx.first h_S_) = 0 := Ideal.ofBits_zero_f32
  rw [hz, zero_add, ← sum_coe_mul]
  refine Finset.sum_congr rfl fun e _ => congrArg₂ (· * ·) ?_ ?_
  · rfl
  · exact (at3 _ _).trans (o_at X l r h e)

theorem lse_wide (l : Fin 2048) (r : Fin 4) (h : Fin 8) (e : Fin 64) :
    wide (lanes (Cert.ReferenceIdeal.Read.val_main_v43 (F := Ideal) (arr3 X.Q) (arr3 X.K))) (ix2 l (col r h e)) = (((X.head r h).lse l : ℝ) : EReal) := by
  rw [wide_at, lanes_at, lse_at]

theorem corr_wide (l : Fin 2048) (r : Fin 4) (h : Fin 8) (e : Fin 64) :
    wide (lanes (corr (F := Ideal) (arr3 X.Q) (arr3 X.K) (arr3 X.V) (arr3 X.O) (arr2 X.L))) (ix2 l (col r h e)) = (((X.head r h).c l : ℝ) : EReal) := by
  rw [wide_at, lanes_at, corr_at]

theorem do_wide (l : Fin 2048) (r : Fin 4) (h : Fin 8) (e : Fin 64) :
    shapeCast S2048x2048 (truncf .bf16 (shapeCast S8192x512 (arr3 X.O) shapeCasts_S8192x8x64_S8192x512 : FVec Ideal S8192x512 .f32) bitsLt_bf16_f32 : FVec Ideal S8192x512 .bf16)
      shapeCasts_S8192x512_S2048x2048 (ix2 l (col r h e)) = (((X.head r h).O l e : ℝ) : EReal) :=
  (cast_wide _ l r h e).trans (cast_flat (arr3 X.O) _ h e)

theorem lead_at (Y : Fin 8192 → Fin 8 → Fin 64 → ℝ) (t : Fin 8192) (h : Fin 8) (e : Fin 64) :
    lead (F := Ideal) (arr3 Y) (ix3 (0 : Fin 1) t (⟨64 * h.val + e.val, by omega⟩ : Fin 512)) = ((Y t h e : ℝ) : EReal) := by
  unfold lead
  rw [broadcastInDim_apply _ _ _ _ (ix2 t (⟨64 * h.val + e.val, by omega⟩ : Fin 512)) (fun a => match a with
    | ⟨0, _⟩ => rfl
    | ⟨1, _⟩ => rfl)]
  exact cast_flat (arr3 Y) t h e

theorem three_at (Y0 Y1 Y2 : Fin 8192 → Fin 8 → Fin 64 → ℝ) (p : Fin 3) (t : Fin 8192) (h : Fin 8) (e : Fin 64) :
    three (F := Ideal) (arr3 Y0) (arr3 Y1) (arr3 Y2) (ix3 p t (⟨64 * h.val + e.val, by omega⟩ : Fin 512)) = ((![Y0, Y1, Y2] p t h e : ℝ) : EReal) := by
  unfold three
  have pick : ∀ (k : ℕ) (hk : k < 3) (Y : Fin 8192 → Fin 8 → Fin 64 → ℝ),
      ([⟨S1x8192x512, lead (F := Ideal) (arr3 Y0)⟩, ⟨S1x8192x512, lead (F := Ideal) (arr3 Y1)⟩, ⟨S1x8192x512, lead (F := Ideal) (arr3 Y2)⟩] : List ((s : Shape) × (s.Idx → Ideal .f32)))[k]'hk
        = ⟨S1x8192x512, lead (F := Ideal) (arr3 Y)⟩ → p.val = k →
      concatenate S3x8192x512 0 [⟨S1x8192x512, lead (F := Ideal) (arr3 Y0)⟩, ⟨S1x8192x512, lead (F := Ideal) (arr3 Y1)⟩, ⟨S1x8192x512, lead (F := Ideal) (arr3 Y2)⟩]
        concatenates_S1x8192x512_S1x8192x512_S1x8192x512_S3x8192x512_d0 (ix3 p t (⟨64 * h.val + e.val, by omega⟩ : Fin 512)) = ((Y t h e : ℝ) : EReal) := by
    intro k hk Y hY hp
    refine (concatenate_apply_piece (t := S3x8192x512) 0 [⟨S1x8192x512, lead (F := Ideal) (arr3 Y0)⟩, ⟨S1x8192x512, lead (F := Ideal) (arr3 Y1)⟩, ⟨S1x8192x512, lead (F := Ideal) (arr3 Y2)⟩] _ _ k hk S1x8192x512 (lead (F := Ideal) (arr3 Y)) hY rfl k ?_
      (ix3 (0 : Fin 1) t (⟨64 * h.val + e.val, by omega⟩ : Fin 512)) ?_ ?_).trans (lead_at Y t h e)
    · match k, hk with
      | 0, _ => rfl
      | 1, _ => rfl
      | 2, _ => rfl
    · intro b hb
      match b with
      | ⟨0, _⟩ => exact absurd rfl hb
      | ⟨1, _⟩ => rfl
      | ⟨2, _⟩ => rfl
    · exact hp.symm
  match p with
  | ⟨0, _⟩ => exact pick 0 (by decide) Y0 rfl rfl
  | ⟨1, _⟩ => exact pick 1 (by decide) Y1 rfl rfl
  | ⟨2, _⟩ => exact pick 2 (by decide) Y2 rfl rfl

theorem projs_at (Y0 Y1 Y2 : Fin 8192 → Fin 8 → Fin 64 → ℝ) (p : Fin 3) (l : Fin 2048) (r : Fin 4) (h : Fin 8) (e : Fin 64) :
    projs (F := Ideal) (arr3 Y0) (arr3 Y1) (arr3 Y2) (ix3 p l (col r h e)) = ((![Y0, Y1, Y2] p (tok l r) h e : ℝ) : EReal) := by
  have := p.isLt; have := l.isLt; have := r.isLt; have := h.isLt; have := e.isLt
  unfold projs
  rw [shapeCast_apply _ _ _ (ix3 p (tok l r) (⟨64 * h.val + e.val, by omega⟩ : Fin 512)) (by
    rw [Shape.rowMajor_val_three, Shape.rowMajor_val_three]
    show (p.val * 8192 + (4 * l.val + r.val)) * 512 + (64 * h.val + e.val) = (p.val * 2048 + l.val) * 2048 + (512 * r.val + 64 * h.val + e.val)
    omega)]
  rw [extractStridedSlice_apply _ _ _ _ (ix3 (⟨3 + p.val, by omega⟩ : Fin 6) (tok l r) (⟨64 * h.val + e.val, by omega⟩ : Fin 512)) (fun a => match a with
    | ⟨0, _⟩ => rfl
    | ⟨1, _⟩ => (Nat.zero_add _).symm
    | ⟨2, _⟩ => (Nat.zero_add _).symm)]
  refine (concatenate_pair_apply_right (t := S6x8192x512) (s₁ := S3x8192x512) (s₂ := S3x8192x512) 0 _ _ _ _ rfl rfl (ix3 p (tok l r) (⟨64 * h.val + e.val, by omega⟩ : Fin 512)) ?_ ?_).trans
    (three_at Y0 Y1 Y2 p (tok l r) h e)
  · intro b hb
    match b with
    | ⟨0, _⟩ => exact absurd rfl hb
    | ⟨1, _⟩ => rfl
    | ⟨2, _⟩ => rfl
  · show p.val + 3 = 3 + p.val
    omega

end Real

end Cert.Attn

end
-- ==== Proof.AttnSlab.lean ====
/-
  One slab of a block on real inputs, over the extended reals: the products restricted to a head's lanes are the head's own
  products, the weights are exponentials where the mask is set and zero elsewhere, and the slab's gradients are sums over the
  block of one head.
-/
module

public import proofs.«01_k».proof.Proof.AttnBlock
public import proofs.«01_k».proof.Proof.AttnMath
public import Idealize.ShloMosaic.Lib.IdealHost
public import Idealize.ShloMosaic.Lib.MatmulPlain
public import Idealize.ShloMosaic.Lib.WordCmp

@[expose] public section

set_option maxRecDepth 8192

noncomputable section

namespace Cert.Attn

open Idealize.ShloMosaic Idealize.ShloMosaic.TcCoe Idealize.ShloMosaic.ValueIdx
open Idealize.ShloMosaic.WordCmp hiding select_one select_zero
open Cert.KernelIdeal Cert.KernelIdeal.Gen
open scoped BigOperators

/-! ## Lanes of a slab -/

def half (x : Fin 128) : Fin 2 := ⟨x.val / 64, by omega⟩
def lane (x : Fin 128) : Fin 64 := ⟨x.val % 64, by omega⟩
def spot (b : Fin 2) (e : Fin 64) : Fin 128 := ⟨64 * b.val + e.val, by omega⟩

theorem half_cases (x : Fin 128) : half x = 0 ∨ half x = 1 := by
  have h : ∀ b : Fin 2, b = 0 ∨ b = 1 := by decide
  exact h _

theorem half_spot (b : Fin 2) (e : Fin 64) : half (spot b e) = b := Fin.ext (by simp only [half, spot]; omega)
theorem lane_spot (b : Fin 2) (e : Fin 64) : lane (spot b e) = e := Fin.ext (by simp only [lane, spot]; omega)

theorem sum_spots (f : Fin 128 → ℝ) : ∑ x, f x = ∑ b : Fin 2, ∑ e : Fin 64, f (spot b e) := by
  rw [← Equiv.sum_comp (finProdFinEquiv (m := 2) (n := 64)) f, Fintype.sum_prod_type]
  refine Finset.sum_congr rfl fun b _ => Finset.sum_congr rfl fun e _ => ?_
  congr 1
  exact Fin.ext (by show e.val + 64 * b.val = 64 * b.val + e.val; omega)

/-- A sum over a slab's lanes of which one head's count. -/
theorem sum_head (b : Fin 2) (f : Fin 64 → ℝ) (g : Fin 2 → Fin 64 → ℝ) :
    ∑ x : Fin 128, (if half x = b then f (lane x) else 0) * g (half x) (lane x) = ∑ e, f e * g b e := by
  rw [sum_spots]
  refine (Finset.sum_eq_single b (fun b' _ hb => ?_) (fun h => absurd (Finset.mem_univ b) h)).trans ?_
  · refine Finset.sum_eq_zero fun e _ => ?_
    rw [half_spot, if_neg hb, zero_mul]
  · refine Finset.sum_congr rfl fun e _ => ?_
    rw [half_spot, lane_spot, if_pos rfl]

/-- A slab of reals: row, head of the slab, lane. -/
def blk (Y : Fin 128 → Fin 2 → Fin 64 → ℝ) : S128x128.Idx → EReal := fun y => ((Y (y 0) (half (y 1)) (lane (y 1)) : ℝ) : EReal)
/-- A slab of scalars, each repeated over its head's lanes. -/
def blkc (L : Fin 128 → Fin 2 → ℝ) : S128x128.Idx → EReal := fun y => ((L (y 0) (half (y 1)) : ℝ) : EReal)

/-- The lanes of head `b` of a slab. -/
def heads (b : Fin 2) : IVec S128x128 1 := if b.val = 0 then lowLanes else highLanes

theorem iota0_at (i x : Fin 128) : iota .tc S128x128 32 [0] iota_S128x128_d0_w32 (ix2 i x) = BitVec.ofNat 32 i.val := by
  show BitVec.ofNat 32 (0 * 128 + i.val) = _
  rw [Nat.zero_mul, Nat.zero_add]
theorem iota1_at (i x : Fin 128) : iota .tc S128x128 32 [1] iota_S128x128_d1_w32 (ix2 i x) = BitVec.ofNat 32 x.val := by
  show BitVec.ofNat 32 (0 * 128 + x.val) = _
  rw [Nat.zero_mul, Nat.zero_add]

theorem low_at (i x : Fin 128) : lowLanes (ix2 i x) = if half x = 0 then 1#1 else 0#1 := by
  have hx := x.isLt
  have e : lowLanes (ix2 i x) = IntOp.cmpi .slt (BitVec.ofNat 32 x.val) 64#32 := by
    refine (?_ : _ = IntOp.cmpi .slt (iota .tc S128x128 32 [1] iota_S128x128_d1_w32 (ix2 i x)) 64#32).trans ?_
    · rfl
    · rw [iota1_at]
  rw [e]
  by_cases h : x.val < 64
  · rw [if_pos (Fin.ext (by show x.val / 64 = 0; omega)), (cmpi_slt_ofNat_eq_one_iff (w := 32) (by omega) (by omega)).mpr h]
  · rw [if_neg (fun e => h (by have : x.val / 64 = 0 := congrArg Fin.val e; omega)), (cmpi_slt_ofNat_eq_zero_iff (w := 32) (by omega) (by omega)).mpr (by omega)]

theorem heads_at (b : Fin 2) (i x : Fin 128) : heads b (ix2 i x) = if half x = b then 1#1 else 0#1 := by
  have hl := low_at i x
  match b with
  | ⟨0, _⟩ => exact hl
  | ⟨1, _⟩ =>
    show IntOp.xori (lowLanes (ix2 i x)) 1#1 = _
    rw [hl]
    by_cases h : half x = 0
    · rw [if_pos h, if_neg (fun e : half x = (⟨1, by omega⟩ : Fin 2) => Nat.zero_ne_one (congrArg Fin.val (h.symm.trans e)))]; rfl
    · rw [if_neg h, if_pos (by have := (half x).isLt; exact Fin.ext (by have : (half x).val ≠ 0 := fun e => h (Fin.ext e); show (half x).val = 1; omega))]; rfl

theorem keep_at (b : Fin 2) (Y : Fin 128 → Fin 2 → Fin 64 → ℝ) (i x : Fin 128) :
    keep (F := Ideal) (heads b) (blk Y) (ix2 i x) = (((if half x = b then Y i b (lane x) else 0 : ℝ)) : EReal) := by
  have hz : (Scalar.ofBits .bf16 0x0000#16 : Ideal .bf16) = 0 := Ideal.ofBits_zero_bf16
  show Scalar.select (heads b (ix2 i x)) (blk Y (ix2 i x)) (Scalar.ofBits .bf16 0x0000#16 : Ideal .bf16) = _
  rw [heads_at, hz]
  split
  · rename_i h
    rw [select_one]; subst h; rfl
  · rw [select_zero, EReal.coe_zero]

/-! ## The three products -/

theorem dotNT_at (x y : FVec Ideal S128x128 .bf16) (i k : Fin 128) : dotNT x y (ix2 i k) = ∑ e : Fin 128, x (ix2 i e) * y (ix2 k e) := by
  refine (Ideal.matmul_transposedRhs_apply (M := 128) (K := 128) (N := 128) none x y (constant S128x128 .f32 0x00000000#32) i k).trans ?_
  show Ideal.ofBits .f32 0x00000000#32 + _ = _
  rw [Ideal.ofBits_zero_f32, zero_add]

theorem dotNN_at (x y : FVec Ideal S128x128 .bf16) (i k : Fin 128) : dotNN x y (ix2 i k) = ∑ e : Fin 128, x (ix2 i e) * y (ix2 e k) := by
  refine (Ideal.matmul_plain_apply (M := 128) (K := 128) (N := 128) none x y (constant S128x128 .f32 0x00000000#32) i k).trans ?_
  show Ideal.ofBits .f32 0x00000000#32 + _ = _
  rw [Ideal.ofBits_zero_f32, zero_add]

theorem dotTN_at (x y : FVec Ideal S128x128 .bf16) (i k : Fin 128) : dotTN x y (ix2 i k) = ∑ e : Fin 128, x (ix2 e i) * y (ix2 e k) := by
  refine (Ideal.matmul_constant_zero_apply dot_S128x128_S128x128_S128x128_0_0_1_1_n_n none x y (ix2 i k)).trans ?_
  rw [← Equiv.sum_comp (contrEquiv1 dot_S128x128_S128x128_S128x128_0_0_1_1_n_n 128 rfl rfl).symm]
  refine Finset.sum_congr rfl fun e _ => ?_
  have hk := contrEquiv1_symm_val dot_S128x128_S128x128_S128x128_0_0_1_1_n_n 128 rfl rfl e
  have el : dot_S128x128_S128x128_S128x128_0_0_1_1_n_n.lhsIdx (ix2 i k) ((contrEquiv1 dot_S128x128_S128x128_S128x128_0_0_1_1_n_n 128 rfl rfl).symm e) = ix2 e i := by
    funext a; apply Fin.ext
    match a with
    | ⟨0, _⟩ => exact hk
    | ⟨1, _⟩ => rfl
  have er : dot_S128x128_S128x128_S128x128_0_0_1_1_n_n.rhsIdx (ix2 i k) ((contrEquiv1 dot_S128x128_S128x128_S128x128_0_0_1_1_n_n 128 rfl rfl).symm e) = ix2 e k := by
    funext a; apply Fin.ext
    match a with
    | ⟨0, _⟩ => exact hk
    | ⟨1, _⟩ => rfl
  rw [el, er]

/-- The product of one head's rows. -/
theorem dotNT_head (b : Fin 2) (Y Z : Fin 128 → Fin 2 → Fin 64 → ℝ) (i k : Fin 128) :
    dotNT (keep (F := Ideal) (heads b) (blk Y)) (blk Z) (ix2 i k) = ((∑ e, Y i b e * Z k b e : ℝ) : EReal) := by
  rw [dotNT_at, ← sum_head b (fun e => Y i b e) (Z k), ← sum_coe_mul]
  exact Finset.sum_congr rfl fun x _ => congrArg₂ (· * ·) (keep_at b Y i x) rfl

/-! ## Weights and gradients of scores -/

/-- One head's attention weights in a block, the pairs `M` counting. -/
def pR (M : Fin 128 → Fin 128 → Prop) [∀ i k, Decidable (M i k)] (Q K : Fin 128 → Fin 64 → ℝ) (L : Fin 128 → ℝ) (i k : Fin 128) : ℝ :=
  if M i k then Real.exp ((∑ e, Q i e * K k e) * (1 / 8) - L i) else 0
/-- The gradient of its scores. -/
def dsR (M : Fin 128 → Fin 128 → Prop) [∀ i k, Decidable (M i k)] (Q K V O : Fin 128 → Fin 64 → ℝ) (L C : Fin 128 → ℝ) (i k : Fin 128) : ℝ :=
  pR M Q K L i k * ((∑ e, O i e * V k e) + C i) * (1 / 8)

/-- A column of scalars. -/
def colv (L : Fin 128 → ℝ) : S128x1.Idx → EReal := fun y => ((L (y 0) : ℝ) : EReal)

theorem lane0_at (L : Fin 128 → Fin 2 → ℝ) : lane0 (F := Ideal) (blkc L) = colv (fun i => L i 0) := by
  funext y
  unfold lane0
  rw [extractStridedSlice_apply ![0, 0] (blkc L : FVec Ideal S128x128 .f32) (by decide) y (ix2 (y 0) (0 : Fin 128)) (fun a => match a with
    | ⟨0, _⟩ => (Nat.zero_add _).symm
    | ⟨1, _⟩ => by have := (y 1).isLt; show 0 = 0 + (y 1).val; have h : (y 1).val < 1 := (y 1).isLt; omega)]
  exact congrArg (fun b => ((L (y 0) b : ℝ) : EReal)) (show half (0 : Fin 128) = 0 by decide)

theorem lane64_at (L : Fin 128 → Fin 2 → ℝ) : lane64 (F := Ideal) (blkc L) = colv (fun i => L i 1) := by
  funext y
  unfold lane64
  rw [extractStridedSlice_apply ![0, 64] (blkc L : FVec Ideal S128x128 .f32) (by decide) y (ix2 (y 0) (64 : Fin 128)) (fun a => match a with
    | ⟨0, _⟩ => (Nat.zero_add _).symm
    | ⟨1, _⟩ => by show 64 = 64 + (y 1).val; have h : (y 1).val < 1 := (y 1).isLt; omega)]
  exact congrArg (fun b => ((L (y 0) b : ℝ) : EReal)) (show half (64 : Fin 128) = 1 by decide)

/-- The column of a slab's scalars for head `b`. -/
def laneOf (b : Fin 2) (x : FVec Ideal S128x128 .f32) : FVec Ideal S128x1 .f32 := if b.val = 0 then lane0 x else lane64 x

theorem laneOf_at (b : Fin 2) (L : Fin 128 → Fin 2 → ℝ) : laneOf b (blkc L) = colv (fun i => L i b) :=
  match b with
  | ⟨0, _⟩ => lane0_at L
  | ⟨1, _⟩ => lane64_at L

theorem spread_at (L : Fin 128 → ℝ) (i k : Fin 128) :
    broadcastTo S128x128 (colv L) broadcasts_S128x1_S128x128 (ix2 i k) = ((L i : ℝ) : EReal) := by
  rw [broadcastTo_apply _ _ _ (ix2 i (0 : Fin 1)) (fun a => match a with
    | ⟨0, _⟩ => rfl
    | ⟨1, _⟩ => rfl)]
  rfl

section Mask

variable (mk : IVec S128x128 1) (M : Fin 128 → Fin 128 → Prop) [∀ i k, Decidable (M i k)]
variable (hM : ∀ i k, mk (ix2 i k) = if M i k then 1#1 else 0#1)
include hM

theorem probs_at (b : Fin 2) (Q K : Fin 128 → Fin 2 → Fin 64 → ℝ) (L : Fin 128 → ℝ) (i k : Fin 128) :
    probs (F := Ideal) mk (heads b) (blk Q) (blk K) (colv L) (ix2 i k)
      = ((pR M (fun i => Q i b) (fun i => K i b) L i k : ℝ) : EReal) := by
  show Ideal.exp (Scalar.select (mk (ix2 i k)) (dotNT (keep (F := Ideal) (heads b) (blk Q)) (blk K) (ix2 i k) * Ideal.ofBits .f32 0x3E000000#32) ⊥
    - broadcastTo S128x128 (colv L) broadcasts_S128x1_S128x128 (ix2 i k)) = _
  rw [hM, dotNT_head, eighth, spread_at]
  unfold pR
  split
  · rw [select_one, ← EReal.coe_mul, ← EReal.coe_sub, Ideal.exp_coe]
  · rw [select_zero, EReal.bot_sub, Ideal.exp_bot, EReal.coe_zero]

theorem dscores_at (b : Fin 2) (Q K V O : Fin 128 → Fin 2 → Fin 64 → ℝ) (L C : Fin 128 → ℝ) (i k : Fin 128) :
    dscores (F := Ideal) mk (heads b) (blk Q) (blk K) (blk V) (blk O) (colv L) (colv C) (ix2 i k)
      = ((dsR M (fun i => Q i b) (fun i => K i b) (fun i => V i b) (fun i => O i b) L C i k : ℝ) : EReal) := by
  show probs (F := Ideal) mk (heads b) (blk Q) (blk K) (colv L) (ix2 i k)
    * (dotNT (keep (F := Ideal) (heads b) (blk O)) (blk V) (ix2 i k) + broadcastTo S128x128 (colv C) broadcasts_S128x1_S128x128 (ix2 i k))
    * Ideal.ofBits .f32 0x3E000000#32 = _
  rw [probs_at mk M hM, dotNT_head, spread_at, eighth, ← EReal.coe_add, ← EReal.coe_mul, ← EReal.coe_mul]
  rfl

/-- The gradient of the queries from one block of keys. -/
theorem dq_part (b : Fin 2) (Q K V O : Fin 128 → Fin 2 → Fin 64 → ℝ) (L C : Fin 128 → ℝ) (i x : Fin 128) :
    dotNN (dscores (F := Ideal) mk (heads b) (blk Q) (blk K) (blk V) (blk O) (colv L) (colv C)) (blk K) (ix2 i x)
      = ((∑ k, dsR M (fun i => Q i b) (fun i => K i b) (fun i => V i b) (fun i => O i b) L C i k * K k (half x) (lane x) : ℝ) : EReal) := by
  rw [dotNN_at, ← sum_coe_mul]
  exact Finset.sum_congr rfl fun k _ => congrArg₂ (· * ·) (dscores_at mk M hM b Q K V O L C i k) rfl

/-- The gradient of the keys from one block of queries, one head of the slab. -/
theorem dk_part (b : Fin 2) (Q K V O : Fin 128 → Fin 2 → Fin 64 → ℝ) (L C : Fin 128 → ℝ) (k x : Fin 128) :
    dotTN (dscores (F := Ideal) mk (heads b) (blk Q) (blk K) (blk V) (blk O) (colv L) (colv C)) (keep (heads b) (blk Q)) (ix2 k x)
      = (((if half x = b then ∑ i, dsR M (fun i => Q i b) (fun i => K i b) (fun i => V i b) (fun i => O i b) L C i k * Q i b (lane x) else 0) : ℝ) : EReal) := by
  rw [dotTN_at]
  refine ((Finset.sum_congr rfl fun i _ => congrArg₂ (· * ·) (dscores_at mk M hM b Q K V O L C i k) (keep_at b Q i x)).trans (sum_coe_mul _ _ _)).trans ?_
  congr 1
  split
  · rfl
  · exact Finset.sum_eq_zero fun i _ => mul_zero _

/-- The gradient of the values from one block of queries, one head of the slab. -/
theorem dv_part (b : Fin 2) (Q K O : Fin 128 → Fin 2 → Fin 64 → ℝ) (L : Fin 128 → ℝ) (k x : Fin 128) :
    dotTN (truncf .bf16 (probs (F := Ideal) mk (heads b) (blk Q) (blk K) (colv L)) bitsLt_bf16_f32) (keep (heads b) (blk O)) (ix2 k x)
      = (((if half x = b then ∑ i, pR M (fun i => Q i b) (fun i => K i b) L i k * O i b (lane x) else 0) : ℝ) : EReal) := by
  rw [dotTN_at]
  refine ((Finset.sum_congr rfl fun i _ => congrArg₂ (· * ·) (probs_at mk M hM b Q K L i k) (keep_at b O i x)).trans (sum_coe_mul _ _ _)).trans ?_
  congr 1
  split
  · rfl
  · exact Finset.sum_eq_zero fun i _ => mul_zero _

theorem dkSlab_at (Q K V O : Fin 128 → Fin 2 → Fin 64 → ℝ) (L C : Fin 128 → Fin 2 → ℝ) (k x : Fin 128) :
    dkSlab (F := Ideal) mk (blk Q) (blk K) (blk V) (blk O) (blkc L) (blkc C) (ix2 k x)
      = ((∑ i, dsR M (fun i => Q i (half x)) (fun i => K i (half x)) (fun i => V i (half x)) (fun i => O i (half x)) (fun i => L i (half x)) (fun i => C i (half x)) i k
          * Q i (half x) (lane x) : ℝ) : EReal) := by
  have h0 := dk_part mk M hM 0 Q K V O (fun i => L i 0) (fun i => C i 0) k x
  have h1 := dk_part mk M hM 1 Q K V O (fun i => L i 1) (fun i => C i 1) k x
  rw [← lane0_at, ← lane0_at] at h0
  rw [← lane64_at, ← lane64_at] at h1
  have hz : zeroSq (F := Ideal) (ix2 k x) = 0 := Ideal.ofBits_zero_f32
  refine (congrArg₂ (fun a b : EReal => zeroSq (F := Ideal) (ix2 k x) + a + b) h0 h1).trans ?_
  rw [hz, zero_add, ← EReal.coe_add]
  congr 1
  rcases half_cases x with h | h
  · rw [h]; exact (congrArg₂ (· + ·) (if_pos rfl) (if_neg (by decide))).trans (add_zero _)
  · rw [h]; exact (congrArg₂ (· + ·) (if_neg (by decide)) (if_pos rfl)).trans (zero_add _)

theorem dvSlab_at (Q K O : Fin 128 → Fin 2 → Fin 64 → ℝ) (L : Fin 128 → Fin 2 → ℝ) (k x : Fin 128) :
    dvSlab (F := Ideal) mk (blk Q) (blk K) (blk O) (blkc L) (ix2 k x)
      = ((∑ i, pR M (fun i => Q i (half x)) (fun i => K i (half x)) (fun i => L i (half x)) i k * O i (half x) (lane x) : ℝ) : EReal) := by
  have h0 := dv_part mk M hM 0 Q K O (fun i => L i 0) k x
  have h1 := dv_part mk M hM 1 Q K O (fun i => L i 1) k x
  rw [← lane0_at] at h0
  rw [← lane64_at] at h1
  have hz : zeroSq (F := Ideal) (ix2 k x) = 0 := Ideal.ofBits_zero_f32
  refine (congrArg₂ (fun a b : EReal => zeroSq (F := Ideal) (ix2 k x) + a + b) h0 h1).trans ?_
  rw [hz, zero_add, ← EReal.coe_add]
  congr 1
  rcases half_cases x with h | h
  · rw [h]; exact (congrArg₂ (· + ·) (if_pos rfl) (if_neg (by decide))).trans (add_zero _)
  · rw [h]; exact (congrArg₂ (· + ·) (if_neg (by decide)) (if_pos rfl)).trans (zero_add _)

end Mask

/-! ## The two masks -/

/-- The pairs of a block with itself, and with the block before, at point `j` of a row. -/
def MC (j : Nat) (a b : Fin 128) : Prop := j < 16 ∧ b.val ≤ a.val
def MP (j : Nat) (a b : Fin 128) : Prop := (j < 16 ∧ j ≠ 0) ∧ a.val ≤ b.val
instance (j : Nat) (a b : Fin 128) : Decidable (MC j a b) := inferInstanceAs (Decidable (_ ∧ _))
instance (j : Nat) (a b : Fin 128) : Decidable (MP j a b) := inferInstanceAs (Decidable (_ ∧ _))

theorem word_lt : ∀ j : Fin 17, IntOp.cmpi .slt (BitVec.ofNat 32 j.val) 16#32 = if j.val < 16 then 1#1 else 0#1 := by decide
theorem word_first : ∀ j : Fin 17, IntOp.xori (IntOp.cmpi .eq (IntOp.minsi (BitVec.ofNat 32 j.val) 15#32) 0#32) 1#1 = if j.val ≠ 0 then 1#1 else 0#1 := by decide

theorem word_le (a b : Fin 128) : IntOp.cmpi .sle (BitVec.ofNat 32 b.val) (BitVec.ofNat 32 a.val) = if b.val ≤ a.val then 1#1 else 0#1 := by
  have ha := a.isLt
  have hb := b.isLt
  by_cases h : b.val ≤ a.val
  · rw [if_pos h, (cmpi_sle_ofNat_eq_one_iff (w := 32) (by omega) (by omega)).mpr h]
  · rw [if_neg h, (cmpi_sle_ofNat_eq_zero_iff (w := 32) (by omega) (by omega)).mpr (by omega)]
theorem word_ge (a b : Fin 128) : IntOp.cmpi .sge (BitVec.ofNat 32 b.val) (BitVec.ofNat 32 a.val) = if a.val ≤ b.val then 1#1 else 0#1 := by
  have ha := a.isLt
  have hb := b.isLt
  by_cases h : a.val ≤ b.val
  · rw [if_pos h, (cmpi_sge_ofNat_eq_one_iff (w := 32) (by omega) (by omega)).mpr h]
  · rw [if_neg h, (cmpi_sge_ofNat_eq_zero_iff (w := 32) (by omega) (by omega)).mpr (by omega)]

theorem and_words {p q : Prop} [Decidable p] [Decidable q] :
    IntOp.andi (if p then 1#1 else 0#1 : BitVec 1) (if q then 1#1 else 0#1) = if p ∧ q then 1#1 else 0#1 := by
  by_cases hp : p <;> by_cases hq : q <;> simp [hp, hq, IntOp.andi]

theorem ite_same {p q : Prop} [Decidable p] [Decidable q] (h : p ↔ q) : (if p then 1#1 else 0#1 : BitVec 1) = if q then 1#1 else 0#1 := by
  by_cases hp : p
  · rw [if_pos hp, if_pos (h.mp hp)]
  · rw [if_neg hp, if_neg (fun hq => hp (h.mpr hq))]

theorem maskCur_at (i : grid0.Coords) (a b : Fin 128) : maskCur i (ix2 a b) = if MC (i 1).val a b then 1#1 else 0#1 := by
  have e : maskCur i (ix2 a b) = IntOp.andi (IntOp.cmpi .sle (BitVec.ofNat 32 b.val) (BitVec.ofNat 32 a.val))
      (IntOp.cmpi .slt (BitVec.ofNat 32 (i 1).val) 16#32) := by
    rw [← iota0_at a b, ← iota1_at a b]; rfl
  rw [e, word_le, word_lt (i 1), and_words]
  exact ite_same ⟨fun h => ⟨h.2, h.1⟩, fun h => ⟨h.2, h.1⟩⟩

theorem maskPrev_at (i : grid0.Coords) (a b : Fin 128) : maskPrev i (ix2 a b) = if MP (i 1).val a b then 1#1 else 0#1 := by
  have e : maskPrev i (ix2 a b) = IntOp.andi (IntOp.andi (IntOp.cmpi .sge (BitVec.ofNat 32 b.val) (BitVec.ofNat 32 a.val))
      (IntOp.xori (IntOp.cmpi .eq (IntOp.minsi (BitVec.ofNat 32 (i 1).val) 15#32) 0#32) 1#1))
      (IntOp.cmpi .slt (BitVec.ofNat 32 (i 1).val) 16#32) := by
    rw [← iota0_at a b, ← iota1_at a b]; rfl
  rw [e, word_ge, word_lt (i 1), word_first (i 1), and_words, and_words]
  exact ite_same ⟨fun h => ⟨⟨h.2, h.1.2⟩, h.1.1⟩, fun h => ⟨⟨h.2, h.1.2⟩, h.1.1⟩⟩

/-! ## The gradient of the queries -/

theorem dqHead_at (i : grid0.Coords) (b : Fin 2) (Q Kp Kc Vp Vc O : Fin 128 → Fin 2 → Fin 64 → ℝ) (L C : Fin 128 → ℝ) (a x : Fin 128) :
    dqHead (F := Ideal) i (heads b) (blk Q) (blk Kp) (blk Kc) (blk Vp) (blk Vc) (blk O) (colv L) (colv C) (ix2 a x)
      = ((∑ k, dsR (MC (i 1).val) (fun i => Q i b) (fun i => Kc i b) (fun i => Vc i b) (fun i => O i b) L C a k * Kc k (half x) (lane x)
          + ∑ k, dsR (MP (i 1).val) (fun i => Q i b) (fun i => Kp i b) (fun i => Vp i b) (fun i => O i b) L C a k * Kp k (half x) (lane x) : ℝ) : EReal) := by
  rw [EReal.coe_add]
  exact congrArg₂ (fun u v : EReal => u + v) (dq_part _ _ (maskCur_at i) b Q Kc Vc O L C a x) (dq_part _ _ (maskPrev_at i) b Q Kp Vp O L C a x)

theorem dqSlab_at (i : grid0.Coords) (Q Kp Kc Vp Vc O : Fin 128 → Fin 2 → Fin 64 → ℝ) (L C : Fin 128 → Fin 2 → ℝ) (a x : Fin 128) :
    dqSlab (F := Ideal) i (blk Q) (blk Kp) (blk Kc) (blk Vp) (blk Vc) (blk O) (blkc L) (blkc C) (ix2 a x)
      = ((∑ k, dsR (MC (i 1).val) (fun i => Q i (half x)) (fun i => Kc i (half x)) (fun i => Vc i (half x)) (fun i => O i (half x)) (fun i => L i (half x)) (fun i => C i (half x)) a k
            * Kc k (half x) (lane x)
          + ∑ k, dsR (MP (i 1).val) (fun i => Q i (half x)) (fun i => Kp i (half x)) (fun i => Vp i (half x)) (fun i => O i (half x)) (fun i => L i (half x)) (fun i => C i (half x)) a k
            * Kp k (half x) (lane x) : ℝ) : EReal) := by
  have h0 := dqHead_at i 0 Q Kp Kc Vp Vc O (fun i => L i 0) (fun i => C i 0) a x
  have h1 := dqHead_at i 1 Q Kp Kc Vp Vc O (fun i => L i 1) (fun i => C i 1) a x
  rw [← lane0_at, ← lane0_at] at h0
  rw [← lane64_at, ← lane64_at] at h1
  have m0 := heads_at 0 a x
  have m1 := heads_at 1 a x
  refine (?_ : _ = Scalar.select (heads 1 (ix2 a x)) (dqHead (F := Ideal) i (heads 1) (blk Q) (blk Kp) (blk Kc) (blk Vp) (blk Vc) (blk O) (lane64 (F := Ideal) (blkc L)) (lane64 (F := Ideal) (blkc C)) (ix2 a x))
    (Scalar.select (heads 0 (ix2 a x)) (dqHead (F := Ideal) i (heads 0) (blk Q) (blk Kp) (blk Kc) (blk Vp) (blk Vc) (blk O) (lane0 (F := Ideal) (blkc L)) (lane0 (F := Ideal) (blkc C)) (ix2 a x)) (zeroSq (F := Ideal) (ix2 a x)))).trans ?_
  · rfl
  rw [m0, m1, h0, h1]
  by_cases hx : half x = 0
  · rw [if_pos hx, if_neg (by rw [hx]; decide), select_zero, select_one, hx]
  · have hx1 : half x = 1 := Fin.ext (by have := (half x).isLt; have : (half x).val ≠ 0 := fun e => hx (Fin.ext e); show (half x).val = 1; omega)
    rw [if_pos hx1, select_one, hx1]

end Cert.Attn

end
-- ==== Proof.AttnOut.lean ====
/-
  What one grid point computes from blocks of reals: the block of the queries' gradient, of the keys' and values' gradients and
  of what is carried to the next point, as sums over the block's rows head by head.
-/
module

public import proofs.«01_k».proof.Proof.AttnSlab
public import Idealize.ShloMosaic.Lib.Pipeline.Value

@[expose] public section

set_option maxRecDepth 8192

noncomputable section

namespace Cert.Attn

open Idealize.ShloMosaic Idealize.ShloMosaic.TcCoe Idealize.ShloMosaic.ValueIdx
open Cert.KernelIdeal Cert.KernelIdeal.Gen
open scoped BigOperators

/-! ## Blocks of eight heads -/

def hd (x : Fin 512) : Fin 8 := ⟨x.val / 64, by omega⟩
def ln (x : Fin 512) : Fin 64 := ⟨x.val % 64, by omega⟩
/-- Head `b` of slab `p`. -/
def hp (p : Fin 4) (b : Fin 2) : Fin 8 := ⟨2 * p.val + b.val, by omega⟩

def bk2 (Y : Fin 128 → Fin 8 → Fin 64 → ℝ) : S128x512.Idx → EReal := fun y => ((Y (y 0) (hd (y 1)) (ln (y 1)) : ℝ) : EReal)
def bk3 (Y : Fin 128 → Fin 8 → Fin 64 → ℝ) : S1x128x512.Idx → EReal := fun y => ((Y (y 1) (hd (y 2)) (ln (y 2)) : ℝ) : EReal)
def bkc (L : Fin 128 → Fin 8 → ℝ) : S128x512.Idx → EReal := fun y => ((L (y 0) (hd (y 1)) : ℝ) : EReal)

theorem hd_slab (p : Fin 4) (x : Fin 128) (k : Fin 512) (h : k.val = 128 * p.val + x.val) : hd k = hp p (half x) :=
  Fin.ext (by simp only [hd, hp, half]; omega)
theorem ln_slab (p : Fin 4) (x : Fin 128) (k : Fin 512) (h : k.val = 128 * p.val + x.val) : ln k = lane x :=
  Fin.ext (by simp only [ln, lane]; omega)

theorem cut2_at {e : EltTy} (x : Vec Ideal S128x512 e) (p : Fin 4) (i k : Fin 128) :
    cut2 x p (ix2 i k) = x (ix2 i (⟨128 * p.val + k.val, by omega⟩ : Fin 512)) := by
  unfold cut2 VecWindow.window
  refine congrArg x ?_
  funext a; apply Fin.ext
  match a with
  | ⟨0, _⟩ => show 0 + 1 * i.val = i.val; omega
  | ⟨1, _⟩ => show 128 * p.val + 1 * k.val = 128 * p.val + k.val; omega

theorem cut3_at {e : EltTy} (x : Vec Ideal S1x128x512 e) (p : Fin 4) (i k : Fin 128) :
    cut3 x p (ix3 (0 : Fin 1) i k) = x (ix3 (0 : Fin 1) i (⟨128 * p.val + k.val, by omega⟩ : Fin 512)) := by
  unfold cut3 VecWindow.window
  refine congrArg x ?_
  funext a; apply Fin.ext
  match a with
  | ⟨0, _⟩ => rfl
  | ⟨1, _⟩ => show 0 + 1 * i.val = i.val; omega
  | ⟨2, _⟩ => show 128 * p.val + 1 * k.val = 128 * p.val + k.val; omega

theorem sq3_at (x : Vec Ideal S1x128x128 .bf16) (i k : Fin 128) : sq3 (F := Ideal) x (ix2 i k) = x (ix3 (0 : Fin 1) i k) := by
  unfold sq3
  exact shapeCast_apply (x : S1x128x128.Idx → EReal) _ (ix2 i k) (ix3 (0 : Fin 1) i k) (by
    rw [Shape.rowMajor_val_two, Shape.rowMajor_val_three]
    show (0 * 128 + i.val) * 128 + k.val = i.val * 128 + k.val; omega)

theorem sq3_cut (Y : Fin 128 → Fin 8 → Fin 64 → ℝ) (p : Fin 4) :
    sq3 (F := Ideal) (cut3 (F := Ideal) (e := .bf16) (bk3 Y) p) = blk (fun i b e => Y i (hp p b) e) := by
  funext y
  rw [eq_ix2 y]
  refine (sq3_at _ (y 0) (y 1)).trans ((cut3_at (e := .bf16) (bk3 Y) p (y 0) (y 1)).trans ?_)
  show ((Y (y 0) (hd ⟨128 * p.val + (y 1).val, _⟩) (ln ⟨128 * p.val + (y 1).val, _⟩) : ℝ) : EReal) = ((Y (y 0) (hp p (half (y 1))) (lane (y 1)) : ℝ) : EReal)
  rw [hd_slab p (y 1) _ rfl, ln_slab p (y 1) _ rfl]

theorem sq2_id {e : FTy} (x : FVec Ideal S128x128 e) : sq2 (F := Ideal) x = x := shapeCast_self x _

theorem cut2_b (Y : Fin 128 → Fin 8 → Fin 64 → ℝ) (p : Fin 4) :
    cut2 (F := Ideal) (e := .bf16) (bk2 Y) p = blk (fun i b e => Y i (hp p b) e) := by
  funext y
  rw [eq_ix2 y]
  refine (cut2_at (e := .bf16) (bk2 Y) p (y 0) (y 1)).trans ?_
  show ((Y (y 0) (hd ⟨128 * p.val + (y 1).val, _⟩) (ln ⟨128 * p.val + (y 1).val, _⟩) : ℝ) : EReal) = ((Y (y 0) (hp p (half (y 1))) (lane (y 1)) : ℝ) : EReal)
  rw [hd_slab p (y 1) _ rfl, ln_slab p (y 1) _ rfl]

theorem cut2_f (Y : Fin 128 → Fin 8 → Fin 64 → ℝ) (p : Fin 4) :
    cut2 (F := Ideal) (e := .f32) (bk2 Y) p = blk (fun i b e => Y i (hp p b) e) := cut2_b Y p

theorem cut2_c (L : Fin 128 → Fin 8 → ℝ) (p : Fin 4) :
    cut2 (F := Ideal) (e := .f32) (bkc L) p = blkc (fun i b => L i (hp p b)) := by
  funext y
  rw [eq_ix2 y]
  refine (cut2_at (e := .f32) (bkc L) p (y 0) (y 1)).trans ?_
  show ((L (y 0) (hd ⟨128 * p.val + (y 1).val, _⟩) : ℝ) : EReal) = ((L (y 0) (hp p (half (y 1))) : ℝ) : EReal)
  rw [hd_slab p (y 1) _ rfl]

/-- Four slabs of reals side by side are a block of reals. -/
theorem slabs_bk (W : Fin 4 → S128x128.Idx → EReal) (Z : Fin 128 → Fin 8 → Fin 64 → ℝ)
    (h : ∀ p i x, W p (ix2 i x) = ((Z i (hp p (half x)) (lane x) : ℝ) : EReal)) : slabs W = bk2 Z := by
  funext y
  unfold slabs inSlab
  refine (h _ _ _).trans ?_
  have e := Nat.div_add_mod (y 1).val 128
  show ((Z (y 0) (hp (slabOf y) (half ⟨(y 1).val % 128, _⟩)) (lane ⟨(y 1).val % 128, _⟩) : ℝ) : EReal) = ((Z (y 0) (hd (y 1)) (ln (y 1)) : ℝ) : EReal)
  rw [← hd_slab (slabOf y) ⟨(y 1).val % 128, Nat.mod_lt _ (by decide)⟩ (y 1) e.symm,
    ← ln_slab (slabOf y) ⟨(y 1).val % 128, Nat.mod_lt _ (by decide)⟩ (y 1) e.symm]

/-! ## The five outputs -/

variable (i : grid0.Coords) (Q Kp Kc Vp Vc O : Fin 128 → Fin 8 → Fin 64 → ℝ) (L C : Fin 128 → Fin 8 → ℝ)

/-- One head's gradient of the scores, in a block. -/
abbrev dsH (M : Fin 128 → Fin 128 → Prop) [∀ i k, Decidable (M i k)] (Q K V O : Fin 128 → Fin 8 → Fin 64 → ℝ) (L C : Fin 128 → Fin 8 → ℝ) (h : Fin 8) :
    Fin 128 → Fin 128 → ℝ :=
  dsR M (fun i => Q i h) (fun i => K i h) (fun i => V i h) (fun i => O i h) (fun i => L i h) (fun i => C i h)
/-- One head's weights, in a block. -/
abbrev pH (M : Fin 128 → Fin 128 → Prop) [∀ i k, Decidable (M i k)] (Q K : Fin 128 → Fin 8 → Fin 64 → ℝ) (L : Fin 128 → Fin 8 → ℝ) (h : Fin 8) :
    Fin 128 → Fin 128 → ℝ :=
  pR M (fun i => Q i h) (fun i => K i h) (fun i => L i h)

theorem outDq_at : outDq (F := Ideal) i (bk3 Q) (bk3 Kp) (bk3 Kc) (bk3 Vp) (bk3 Vc) (bk2 O) (bkc L) (bkc C)
    = bk2 (fun a h e => ∑ k, dsH (MC (i 1).val) Q Kc Vc O L C h a k * Kc k h e + ∑ k, dsH (MP (i 1).val) Q Kp Vp O L C h a k * Kp k h e) := by
  unfold outDq
  refine slabs_bk _ _ fun p a x => ?_
  dsimp only [dqOf]
  rw [sq3_cut, sq3_cut, sq3_cut, sq3_cut, sq3_cut, sq2_id, sq2_id, sq2_id, cut2_b, cut2_c, cut2_c]
  exact dqSlab_at i _ _ _ _ _ _ _ _ a x

theorem outCk_at : outCk (F := Ideal) i (bk3 Q) (bk3 Kc) (bk3 Vc) (bk2 O) (bkc L) (bkc C)
    = bk2 (fun k h e => ∑ a, dsH (MC (i 1).val) Q Kc Vc O L C h a k * Q a h e) := by
  unfold outCk
  refine slabs_bk _ _ fun p a x => ?_
  dsimp only [ckOf]
  rw [sq3_cut, sq3_cut, sq3_cut, sq2_id, sq2_id, sq2_id, sq2_id, cut2_b, cut2_c, cut2_c]
  exact dkSlab_at _ _ (maskCur_at i) _ _ _ _ _ _ a x

theorem outCv_at : outCv (F := Ideal) i (bk3 Q) (bk3 Kc) (bk2 O) (bkc L)
    = bk2 (fun k h e => ∑ a, pH (MC (i 1).val) Q Kc L h a k * O a h e) := by
  unfold outCv
  refine slabs_bk _ _ fun p a x => ?_
  dsimp only [cvOf]
  rw [sq3_cut, sq3_cut, sq2_id, sq2_id, sq2_id, cut2_b, cut2_c]
  exact dvSlab_at _ _ (maskCur_at i) _ _ _ _ a x

theorem outDk_at (Z : Fin 128 → Fin 8 → Fin 64 → ℝ) : outDk (F := Ideal) i (bk3 Q) (bk3 Kp) (bk3 Vp) (bk2 O) (bkc L) (bkc C) (bk2 Z)
    = bk2 (fun k h e => Z k h e + ∑ a, dsH (MP (i 1).val) Q Kp Vp O L C h a k * Q a h e) := by
  unfold outDk
  refine slabs_bk _ _ fun p a x => ?_
  dsimp only [dkOf]
  rw [sq3_cut, sq3_cut, sq3_cut, sq2_id, sq2_id, sq2_id, cut2_b, cut2_c, cut2_c, cut2_f, EReal.coe_add]
  exact congrArg₂ (fun u v : EReal => u + v) rfl (dkSlab_at _ _ (maskPrev_at i) _ _ _ _ _ _ a x)

theorem outDv_at (Z : Fin 128 → Fin 8 → Fin 64 → ℝ) : outDv (F := Ideal) i (bk3 Q) (bk3 Kp) (bk2 O) (bkc L) (bk2 Z)
    = bk2 (fun k h e => Z k h e + ∑ a, pH (MP (i 1).val) Q Kp L h a k * O a h e) := by
  unfold outDv
  refine slabs_bk _ _ fun p a x => ?_
  dsimp only [dvOf]
  rw [sq3_cut, sq3_cut, sq2_id, sq2_id, cut2_b, cut2_c, cut2_f, EReal.coe_add]
  exact congrArg₂ (fun u v : EReal => u + v) rfl (dvSlab_at _ _ (maskPrev_at i) _ _ _ _ a x)

/-- The block of zeros a row starts from. -/
theorem zero_at : k0_pay2 (F := Ideal) = bk2 (fun _ _ _ => 0) := by
  unfold k0_pay2
  dsimp only
  rw [shapeCast_self]
  funext y
  show Ideal.ofBits .f32 0x00000000#32 = ((0 : ℝ) : EReal)
  rw [Ideal.ofBits_zero_f32, EReal.coe_zero]
theorem zero_at' : k0_pay3 (F := Ideal) = bk2 (fun _ _ _ => 0) := zero_at

end Cert.Attn

end
-- ==== Proof.AttnArr.lean ====
/-
  The arrays of the call on real inputs: the blocks the windows load are the heads' rows, and the three result arrays end at the
  heads' gradients.
-/
module

public import proofs.«01_k».proof.Proof.AttnFrame
public import proofs.«01_k».proof.Proof.AttnHost
public import proofs.«01_k».proof.Proof.AttnOut

@[expose] public section

set_option maxRecDepth 8192

noncomputable section

namespace Cert.Attn

open Idealize.ShloMosaic Idealize.ShloMosaic.TcCoe Idealize.ShloMosaic.ValueIdx
open Cert.KernelIdeal Cert.KernelIdeal.Gen
open scoped BigOperators

/-! ## Columns of the wide arrays -/

def res (x : Fin 2048) : Fin 4 := ⟨x.val / 512, by omega⟩
def hd2 (x : Fin 2048) : Fin 8 := ⟨x.val / 64 % 8, by omega⟩
def ln2 (x : Fin 2048) : Fin 64 := ⟨x.val % 64, by omega⟩

theorem col_parts (x : Fin 2048) : col (res x) (hd2 x) (ln2 x) = x := Fin.ext (by simp only [col, res, hd2, ln2]; omega)

/-- A wide array of reals: residue class, head, row, lane. -/
def wd (Z : Fin 4 → Fin 8 → Fin 2048 → Fin 64 → ℝ) : S2048x2048.Idx → EReal :=
  fun y => ((Z (res (y 1)) (hd2 (y 1)) (y 0) (ln2 (y 1)) : ℝ) : EReal)
/-- Three of them. -/
def wd3 (Z : Fin 3 → Fin 4 → Fin 8 → Fin 2048 → Fin 64 → ℝ) : S3x2048x2048.Idx → EReal :=
  fun y => ((Z (y 0) (res (y 2)) (hd2 (y 2)) (y 1) (ln2 (y 2)) : ℝ) : EReal)

theorem eq_wd (W : S2048x2048.Idx → EReal) (Z : Fin 4 → Fin 8 → Fin 2048 → Fin 64 → ℝ)
    (h : ∀ l r hh e, W (ix2 l (col r hh e)) = ((Z r hh l e : ℝ) : EReal)) : W = wd Z := by
  funext y
  exact (congrArg W ((eq_ix2 y).trans (congrArg (fun z : Fin 2048 => ix2 (y 0 : Fin 2048) z) (col_parts (y 1)).symm))).trans
    (h (y 0) (res (y 1)) (hd2 (y 1)) (ln2 (y 1)))

theorem eq_wd3 (W : S3x2048x2048.Idx → EReal) (Z : Fin 3 → Fin 4 → Fin 8 → Fin 2048 → Fin 64 → ℝ)
    (h : ∀ p l r hh e, W (ix3 p l (col r hh e)) = ((Z p r hh l e : ℝ) : EReal)) : W = wd3 Z := by
  funext y
  exact (congrArg W ((eq_ix3 y).trans (congrArg (fun z : Fin 2048 => ix3 (y 0 : Fin 3) (y 1 : Fin 2048) z) (col_parts (y 2)).symm))).trans
    (h (y 0) (y 1) (res (y 2)) (hd2 (y 2)) (ln2 (y 2)))

/-! ## The points of the grid -/

def rT (t : Fin cfg0.N) : Fin 4 := ⟨t.val / 17, by have := Nat.lt_of_lt_of_eq t.isLt N_0; omega⟩
/-- The block of queries of a point, the block of keys before it, and the block of keys it finishes. -/
def bq (t : Fin cfg0.N) : Fin 16 := ⟨min (t.val % 17) 15, by omega⟩
def bp (t : Fin cfg0.N) : Fin 16 := ⟨min (t.val % 17) 15 - 1, by omega⟩
def bo (t : Fin cfg0.N) : Fin 16 := ⟨t.val % 17 - 1, by omega⟩

theorem coord1 : ∀ t : Fin cfg0.N, (grid0.coords t 1).val = t.val % 17 :=
  (by decide +kernel : ∀ t : Fin grid0.N, (grid0.coords t 1).val = t.val % 17)

theorem at0 : ∀ t : Fin grid0.N, cc0_transform_0 (grid0.coords t) = ![0, min (t.val % 17) 15, t.val / 17] := by decide +kernel
theorem at1 : ∀ t : Fin grid0.N, cc0_transform_1 (grid0.coords t) = ![1, min (t.val % 17) 15 - 1, t.val / 17] := by decide +kernel
theorem at2' : ∀ t : Fin grid0.N, cc0_transform_2 (grid0.coords t) = ![1, min (t.val % 17) 15, t.val / 17] := by decide +kernel
theorem at3' : ∀ t : Fin grid0.N, cc0_transform_3 (grid0.coords t) = ![2, min (t.val % 17) 15 - 1, t.val / 17] := by decide +kernel
theorem at4' : ∀ t : Fin grid0.N, cc0_transform_4 (grid0.coords t) = ![2, min (t.val % 17) 15, t.val / 17] := by decide +kernel
theorem at5 : ∀ t : Fin grid0.N, cc0_transform_5 (grid0.coords t) = ![min (t.val % 17) 15, t.val / 17] := by decide +kernel
theorem at6 : ∀ t : Fin grid0.N, cc0_transform_6 (grid0.coords t) = ![min (t.val % 17) 15, t.val / 17] := by decide +kernel
theorem at7 : ∀ t : Fin grid0.N, cc0_transform_7 (grid0.coords t) = ![min (t.val % 17) 15, t.val / 17] := by decide +kernel
theorem at8 : ∀ t : Fin grid0.N, cc0_transform_8 (grid0.coords t) = ![min (t.val % 17) 15, t.val / 17] := by decide +kernel
theorem at9 : ∀ t : Fin grid0.N, cc0_transform_9 (grid0.coords t) = ![t.val % 17 - 1, t.val / 17] := by decide +kernel
theorem at10 : ∀ t : Fin grid0.N, cc0_transform_10 (grid0.coords t) = ![t.val % 17 - 1, t.val / 17] := by decide +kernel

/-! ## A block of a wide array -/

theorem cols (x : Fin 512) (r : Fin 4) (k : Fin 2048) (h : k.val = r.val * 512 + x.val) : res k = r ∧ hd2 k = hd x ∧ ln2 k = ln x :=
  ⟨Fin.ext (by simp only [res]; omega), Fin.ext (by simp only [hd2, hd]; omega), Fin.ext (by simp only [ln2, ln]; omega)⟩

/-- An element of the block of row block `b` and class `r`. -/
theorem wd_at (Z : Fin 4 → Fin 8 → Fin 2048 → Fin 64 → ℝ) (b : Fin 16) (r : Fin 4) (y : S128x512.Idx) (i : S2048x2048.Idx)
    (h0 : (i 0).val = b.val * 128 + (y 0).val) (h1 : (i 1).val = r.val * 512 + (y 1).val) :
    wd Z i = bk2 (fun a h e => Z r h (row b a) e) y := by
  obtain ⟨e1, e2, e3⟩ := cols (y 1) r (i 1) h1
  unfold wd bk2
  rw [e1, e2, e3, show (i 0 : Fin 2048) = row b (y 0) from Fin.ext (by rw [h0]; show _ = 128 * b.val + (y 0).val; omega)]

theorem wd3_at (Z : Fin 3 → Fin 4 → Fin 8 → Fin 2048 → Fin 64 → ℝ) (p : Fin 3) (b : Fin 16) (r : Fin 4) (y : S1x128x512.Idx) (i : S3x2048x2048.Idx)
    (hp : (i 0).val = p.val * 1 + (y 0).val) (h0 : (i 1).val = b.val * 128 + (y 1).val) (h1 : (i 2).val = r.val * 512 + (y 2).val) :
    wd3 Z i = bk3 (fun a h e => Z p r h (row b a) e) y := by
  obtain ⟨e1, e2, e3⟩ := cols (y 2) r (i 2) h1
  have hy : (y 0).val < 1 := (y 0).isLt
  unfold wd3 bk3
  rw [e1, e2, e3, show (i 1 : Fin 2048) = row b (y 1) from Fin.ext (by rw [h0]; show _ = 128 * b.val + (y 1).val; omega),
    show (i 0 : Fin 3) = p from Fin.ext (by rw [hp]; omega)]

variable (Z : Fin 4 → Fin 8 → Fin 2048 → Fin 64 → ℝ) (Z3 : Fin 3 → Fin 4 → Fin 8 → Fin 2048 → Fin 64 → ℝ) (t : Fin cfg0.N)

theorem read0 : ((cfg0.win 0).blk t).view.read (Elt Ideal) (wd3 Z3) = bk3 (fun a h e => Z3 0 (rT t) h (row (bq t) a) e) :=
  funext fun y => wd3_at Z3 0 (bq t) (rT t) y (((cfg0.win 0).blk t).view.emb y)
    ((win0_0.rect_emb_val t y 0).trans (by rw [show win0_0.index t = _ from at0 t]; rfl))
    ((win0_0.rect_emb_val t y 1).trans (by rw [show win0_0.index t = _ from at0 t]; rfl))
    ((win0_0.rect_emb_val t y 2).trans (by rw [show win0_0.index t = _ from at0 t]; rfl))
theorem read1 : ((cfg0.win 1).blk t).view.read (Elt Ideal) (wd3 Z3) = bk3 (fun a h e => Z3 1 (rT t) h (row (bp t) a) e) :=
  funext fun y => wd3_at Z3 1 (bp t) (rT t) y (((cfg0.win 1).blk t).view.emb y)
    ((win0_1.rect_emb_val t y 0).trans (by rw [show win0_1.index t = _ from at1 t]; rfl))
    ((win0_1.rect_emb_val t y 1).trans (by rw [show win0_1.index t = _ from at1 t]; rfl))
    ((win0_1.rect_emb_val t y 2).trans (by rw [show win0_1.index t = _ from at1 t]; rfl))
theorem read2 : ((cfg0.win 2).blk t).view.read (Elt Ideal) (wd3 Z3) = bk3 (fun a h e => Z3 1 (rT t) h (row (bq t) a) e) :=
  funext fun y => wd3_at Z3 1 (bq t) (rT t) y (((cfg0.win 2).blk t).view.emb y)
    ((win0_2.rect_emb_val t y 0).trans (by rw [show win0_2.index t = _ from at2' t]; rfl))
    ((win0_2.rect_emb_val t y 1).trans (by rw [show win0_2.index t = _ from at2' t]; rfl))
    ((win0_2.rect_emb_val t y 2).trans (by rw [show win0_2.index t = _ from at2' t]; rfl))
theorem read3 : ((cfg0.win 3).blk t).view.read (Elt Ideal) (wd3 Z3) = bk3 (fun a h e => Z3 2 (rT t) h (row (bp t) a) e) :=
  funext fun y => wd3_at Z3 2 (bp t) (rT t) y (((cfg0.win 3).blk t).view.emb y)
    ((win0_3.rect_emb_val t y 0).trans (by rw [show win0_3.index t = _ from at3' t]; rfl))
    ((win0_3.rect_emb_val t y 1).trans (by rw [show win0_3.index t = _ from at3' t]; rfl))
    ((win0_3.rect_emb_val t y 2).trans (by rw [show win0_3.index t = _ from at3' t]; rfl))
theorem read4 : ((cfg0.win 4).blk t).view.read (Elt Ideal) (wd3 Z3) = bk3 (fun a h e => Z3 2 (rT t) h (row (bq t) a) e) :=
  funext fun y => wd3_at Z3 2 (bq t) (rT t) y (((cfg0.win 4).blk t).view.emb y)
    ((win0_4.rect_emb_val t y 0).trans (by rw [show win0_4.index t = _ from at4' t]; rfl))
    ((win0_4.rect_emb_val t y 1).trans (by rw [show win0_4.index t = _ from at4' t]; rfl))
    ((win0_4.rect_emb_val t y 2).trans (by rw [show win0_4.index t = _ from at4' t]; rfl))
theorem read5 : ((cfg0.win 5).blk t).view.read (Elt Ideal) (wd Z) = bk2 (fun a h e => Z (rT t) h (row (bq t) a) e) :=
  funext fun y => wd_at Z (bq t) (rT t) y (((cfg0.win 5).blk t).view.emb y)
    ((win0_5.rect_emb_val t y 0).trans (by rw [show win0_5.index t = _ from at5 t]; rfl))
    ((win0_5.rect_emb_val t y 1).trans (by rw [show win0_5.index t = _ from at5 t]; rfl))
theorem read6 : ((cfg0.win 6).blk t).view.read (Elt Ideal) (wd Z) = bk2 (fun a h e => Z (rT t) h (row (bq t) a) e) :=
  funext fun y => wd_at Z (bq t) (rT t) y (((cfg0.win 6).blk t).view.emb y)
    ((win0_6.rect_emb_val t y 0).trans (by rw [show win0_6.index t = _ from at6 t]; rfl))
    ((win0_6.rect_emb_val t y 1).trans (by rw [show win0_6.index t = _ from at6 t]; rfl))
theorem read7 : ((cfg0.win 7).blk t).view.read (Elt Ideal) (wd Z) = bk2 (fun a h e => Z (rT t) h (row (bq t) a) e) :=
  funext fun y => wd_at Z (bq t) (rT t) y (((cfg0.win 7).blk t).view.emb y)
    ((win0_7.rect_emb_val t y 0).trans (by rw [show win0_7.index t = _ from at7 t]; rfl))
    ((win0_7.rect_emb_val t y 1).trans (by rw [show win0_7.index t = _ from at7 t]; rfl))
theorem read8 : ((cfg0.win 8).blk t).view.read (Elt Ideal) (wd Z) = bk2 (fun a h e => Z (rT t) h (row (bq t) a) e) :=
  funext fun y => wd_at Z (bq t) (rT t) y (((cfg0.win 8).blk t).view.emb y)
    ((win0_8.rect_emb_val t y 0).trans (by rw [show win0_8.index t = _ from at8 t]; rfl))
    ((win0_8.rect_emb_val t y 1).trans (by rw [show win0_8.index t = _ from at8 t]; rfl))
theorem read9 : ((cfg0.win 9).blk t).view.read (Elt Ideal) (wd Z) = bk2 (fun a h e => Z (rT t) h (row (bo t) a) e) :=
  funext fun y => wd_at Z (bo t) (rT t) y (((cfg0.win 9).blk t).view.emb y)
    ((win0_9.rect_emb_val t y 0).trans (by rw [show win0_9.index t = _ from at9 t]; rfl))
    ((win0_9.rect_emb_val t y 1).trans (by rw [show win0_9.index t = _ from at9 t]; rfl))
theorem read10 : ((cfg0.win 10).blk t).view.read (Elt Ideal) (wd Z) = bk2 (fun a h e => Z (rT t) h (row (bo t) a) e) :=
  funext fun y => wd_at Z (bo t) (rT t) y (((cfg0.win 10).blk t).view.emb y)
    ((win0_10.rect_emb_val t y 0).trans (by rw [show win0_10.index t = _ from at10 t]; rfl))
    ((win0_10.rect_emb_val t y 1).trans (by rw [show win0_10.index t = _ from at10 t]; rfl))

/-! ## The blocks loaded -/

variable (m : (ℓ : Loc nD τ sig) → Buf (Elt Ideal) ℓ) (c : Dev nD) (X : Inputs)

/-- The arguments of device `c` are the real arrays `X`. -/
structure Holds : Prop where
  hQ : m (c, main_arg0) = arr3 X.Q
  hK : m (c, main_arg1) = arr3 X.K
  hV : m (c, main_arg2) = arr3 X.V
  hO : m (c, main_arg3) = arr3 X.O
  hL : m (c, main_arg4) = arr2 X.L

variable (H : Holds m c X)
include H

/-- The three projections, row by row. -/
theorem projs_wd : V m c main_v58 = wd3 (fun p r h l e => ![X.Q, X.K, X.V] p (tok l r) h e) := by
  rw [V_projs, H.hQ, H.hK, H.hV]
  exact eq_wd3 _ _ fun p l r h e => projs_at X.Q X.K X.V p l r h e
theorem do_wd : V m c main_v59 = wd (fun r h l e => (X.head r h).O l e) := by
  rw [V_do, H.hO]
  exact eq_wd _ _ fun l r h e => do_wide X l r h e
theorem lse_wd : V m c main_v60 = wd (fun r h l _ => (X.head r h).lse l) := by
  rw [V_lse, H.hQ, H.hK]
  exact eq_wd _ _ fun l r h e => lse_wide X l r h e
theorem corr_wd : V m c main_v61 = wd (fun r h l _ => (X.head r h).c l) := by
  rw [V_corr, H.hQ, H.hK, H.hV, H.hO, H.hL]
  exact eq_wd _ _ fun l r h e => corr_wide X l r h e

/-- The rows of block `b` in class `r`: queries, keys, values, output gradients, log-denominators, corrections. -/
def bQ (X : Inputs) (r : Fin 4) (b : Fin 16) (a : Fin 128) (h : Fin 8) (e : Fin 64) : ℝ := (X.head r h).Q (row b a) e
def bK (X : Inputs) (r : Fin 4) (b : Fin 16) (a : Fin 128) (h : Fin 8) (e : Fin 64) : ℝ := (X.head r h).K (row b a) e
def bV (X : Inputs) (r : Fin 4) (b : Fin 16) (a : Fin 128) (h : Fin 8) (e : Fin 64) : ℝ := (X.head r h).V (row b a) e
def bO (X : Inputs) (r : Fin 4) (b : Fin 16) (a : Fin 128) (h : Fin 8) (e : Fin 64) : ℝ := (X.head r h).O (row b a) e
def bL (X : Inputs) (r : Fin 4) (b : Fin 16) (a : Fin 128) (h : Fin 8) : ℝ := (X.head r h).lse (row b a)
def bC (X : Inputs) (r : Fin 4) (b : Fin 16) (a : Fin 128) (h : Fin 8) : ℝ := (X.head r h).c (row b a)

theorem iblk0 : iblk m c 0 t = bk3 (bQ X (rT t) (bq t)) := by
  show ((cfg0.win 0).blk t).view.read (Elt Ideal) (V m c main_v58) = _
  rw [projs_wd m c X H]; exact read0 _ t
theorem iblk1 : iblk m c 1 t = bk3 (bK X (rT t) (bp t)) := by
  show ((cfg0.win 1).blk t).view.read (Elt Ideal) (V m c main_v58) = _
  rw [projs_wd m c X H]; exact read1 _ t
theorem iblk2 : iblk m c 2 t = bk3 (bK X (rT t) (bq t)) := by
  show ((cfg0.win 2).blk t).view.read (Elt Ideal) (V m c main_v58) = _
  rw [projs_wd m c X H]; exact read2 _ t
theorem iblk3 : iblk m c 3 t = bk3 (bV X (rT t) (bp t)) := by
  show ((cfg0.win 3).blk t).view.read (Elt Ideal) (V m c main_v58) = _
  rw [projs_wd m c X H]; exact read3 _ t
theorem iblk4 : iblk m c 4 t = bk3 (bV X (rT t) (bq t)) := by
  show ((cfg0.win 4).blk t).view.read (Elt Ideal) (V m c main_v58) = _
  rw [projs_wd m c X H]; exact read4 _ t
theorem iblk5 : iblk m c 5 t = bk2 (bO X (rT t) (bq t)) := by
  show ((cfg0.win 5).blk t).view.read (Elt Ideal) (V m c main_v59) = _
  rw [do_wd m c X H]; exact read5 _ t
theorem iblk6 : iblk m c 6 t = bkc (bL X (rT t) (bq t)) := by
  show ((cfg0.win 6).blk t).view.read (Elt Ideal) (V m c main_v60) = _
  rw [lse_wd m c X H]; exact read6 _ t
theorem iblk7 : iblk m c 7 t = bkc (bC X (rT t) (bq t)) := by
  show ((cfg0.win 7).blk t).view.read (Elt Ideal) (V m c main_v61) = _
  rw [corr_wd m c X H]; exact read7 _ t

omit H

/-! ## A head's weights and score gradients, block by block -/

theorem pH_cur (r : Fin 4) (b : Fin 16) (j : Nat) (hj : j < 16) (h : Fin 8) (i k : Fin 128) :
    pH (MC j) (bQ X r b) (bK X r b) (bL X r b) h i k = (X.head r h).P (row b i) (row b k) := by
  rw [Head.P_eq]
  show (if MC j i k then _ else _) = _
  by_cases hm : MC j i k
  · rw [if_pos hm, if_pos ((near_same b i k).mpr hm.2)]; rfl
  · rw [if_neg hm, if_neg (fun hn => hm ⟨hj, (near_same b i k).mp hn⟩)]

theorem pH_prev (r : Fin 4) (b b2 : Fin 16) (hb : b2.val = b.val + 1) (j : Nat) (hj : j < 16) (hj0 : j ≠ 0) (h : Fin 8) (i k : Fin 128) :
    pH (MP j) (bQ X r b2) (bK X r b) (bL X r b2) h i k = (X.head r h).P (row b2 i) (row b k) := by
  rw [Head.P_eq]
  show (if MP j i k then _ else _) = _
  by_cases hm : MP j i k
  · rw [if_pos hm, if_pos ((near_next b b2 hb i k).mpr hm.2)]; rfl
  · rw [if_neg hm, if_neg (fun hn => hm ⟨⟨hj, hj0⟩, (near_next b b2 hb i k).mp hn⟩)]

theorem pH_none (j : Nat) (hj : ¬ (j < 16 ∧ j ≠ 0)) (Q K : Fin 128 → Fin 8 → Fin 64 → ℝ) (L : Fin 128 → Fin 8 → ℝ) (h : Fin 8) (i k : Fin 128) :
    pH (MP j) Q K L h i k = 0 := if_neg fun hm => hj hm.1

theorem dsH_cur (r : Fin 4) (b : Fin 16) (j : Nat) (hj : j < 16) (h : Fin 8) (i k : Fin 128) :
    dsH (MC j) (bQ X r b) (bK X r b) (bV X r b) (bO X r b) (bL X r b) (bC X r b) h i k = (X.head r h).ds (row b i) (row b k) := by
  show pH (MC j) (bQ X r b) (bK X r b) (bL X r b) h i k * _ * _ = _
  rw [pH_cur X r b j hj]; rfl

theorem dsH_prev (r : Fin 4) (b b2 : Fin 16) (hb : b2.val = b.val + 1) (j : Nat) (hj : j < 16) (hj0 : j ≠ 0) (h : Fin 8) (i k : Fin 128) :
    dsH (MP j) (bQ X r b2) (bK X r b) (bV X r b) (bO X r b2) (bL X r b2) (bC X r b2) h i k = (X.head r h).ds (row b2 i) (row b k) := by
  show pH (MP j) (bQ X r b2) (bK X r b) (bL X r b2) h i k * _ * _ = _
  rw [pH_prev X r b b2 hb j hj hj0]; rfl

theorem dsH_none (j : Nat) (hj : ¬ (j < 16 ∧ j ≠ 0)) (Q K V O : Fin 128 → Fin 8 → Fin 64 → ℝ) (L C : Fin 128 → Fin 8 → ℝ) (h : Fin 8) (i k : Fin 128) :
    dsH (MP j) Q K V O L C h i k = 0 := by
  show pH (MP j) Q K L h i k * _ * _ = 0
  rw [pH_none j hj, zero_mul, zero_mul]

/-! ## What the points compute -/

include H

theorem dqAt_eq (ht : t.val % 17 ≤ 15) : dqAt m c t = bk2 (fun a h e => (X.head (rT t) h).dq (row (bq t) a) e) := by
  unfold dqAt
  rw [iblk0 t m c X H, iblk1 t m c X H, iblk2 t m c X H, iblk3 t m c X H, iblk4 t m c X H, iblk5 t m c X H, iblk6 t m c X H, iblk7 t m c X H, outDq_at, coord1]
  congr 1
  funext a h e
  have hq : (bq t).val = t.val % 17 := Nat.min_eq_left ht
  rw [Finset.sum_congr rfl fun k _ => congrArg (· * _) (dsH_cur X (rT t) (bq t) (t.val % 17) (by omega) h a k)]
  by_cases h0 : t.val % 17 = 0
  · rw [Finset.sum_congr rfl fun k _ => (congrArg (· * _) (dsH_none (t.val % 17) (fun hh => hh.2 h0) _ _ _ _ _ _ h a k)).trans (zero_mul _),
      Finset.sum_const_zero, add_zero, (X.head (rT t) h).dq_first (bq t) (hq.trans h0)]
    rfl
  · have hb : (bq t).val = (bp t).val + 1 := by rw [hq]; show _ = min (t.val % 17) 15 - 1 + 1; omega
    rw [Finset.sum_congr rfl fun k _ => congrArg (· * _) (dsH_prev X (rT t) (bp t) (bq t) hb (t.val % 17) (by omega) h0 h a k),
      (X.head (rT t) h).dq_later (bq t) (bp t) hb]
    rfl

theorem ckAt_eq (ht : t.val % 17 < 16) : ckAt m c t
    = bk2 (fun k h e => ∑ i, (X.head (rT t) h).ds (row (bq t) i) (row (bq t) k) * (X.head (rT t) h).Q (row (bq t) i) e) := by
  unfold ckAt
  rw [iblk0 t m c X H, iblk2 t m c X H, iblk4 t m c X H, iblk5 t m c X H, iblk6 t m c X H, iblk7 t m c X H, outCk_at, coord1]
  congr 1
  funext k h e
  exact Finset.sum_congr rfl fun a _ => congrArg (· * _) (dsH_cur X (rT t) (bq t) (t.val % 17) ht h a k)

theorem cvAt_eq (ht : t.val % 17 < 16) : cvAt m c t
    = bk2 (fun k h e => ∑ i, (X.head (rT t) h).P (row (bq t) i) (row (bq t) k) * (X.head (rT t) h).O (row (bq t) i) e) := by
  unfold cvAt
  rw [iblk0 t m c X H, iblk2 t m c X H, iblk5 t m c X H, iblk6 t m c X H, outCv_at, coord1]
  congr 1
  funext k h e
  exact Finset.sum_congr rfl fun a _ => congrArg (· * _) (pH_cur X (rT t) (bq t) (t.val % 17) ht h a k)

omit H in
theorem before_parts (h0 : t.val % 17 ≠ 0) : (pointBefore t).val % 17 < 16 ∧ rT (pointBefore t) = rT t ∧ bq (pointBefore t) = bo t := by
  have := t.isLt
  refine ⟨by show (t.val - 1) % 17 < 16; omega, Fin.ext (by show (t.val - 1) / 17 = t.val / 17; omega), Fin.ext ?_⟩
  show min ((t.val - 1) % 17) 15 = t.val % 17 - 1
  omega

theorem dkAt_eq (h0 : t.val % 17 ≠ 0) : dkAt m c t = bk2 (fun k h e => (X.head (rT t) h).dk (row (bo t) k) e) := by
  obtain ⟨hp1, hp2, hp3⟩ := before_parts t h0
  unfold dkAt ckBefore
  rw [if_neg h0, ckAt_eq _ m c X H hp1, hp2, hp3, iblk0 t m c X H, iblk1 t m c X H, iblk3 t m c X H, iblk5 t m c X H, iblk6 t m c X H, iblk7 t m c X H, outDk_at, coord1]
  congr 1
  funext k h e
  by_cases h16 : t.val % 17 = 16
  · rw [Finset.sum_congr rfl fun i _ => (congrArg (· * _) (dsH_none (t.val % 17) (fun hh => by omega) _ _ _ _ _ _ h i k)).trans (zero_mul _),
      Finset.sum_const_zero, add_zero, (X.head (rT t) h).dk_last (bo t) (by show t.val % 17 - 1 = 15; omega)]
  · have hq : (bq t).val = t.val % 17 := Nat.min_eq_left (by omega)
    have hpo : bp t = bo t := Fin.ext (by show min (t.val % 17) 15 - 1 = t.val % 17 - 1; omega)
    have hb : (bq t).val = (bo t).val + 1 := by rw [hq]; show _ = t.val % 17 - 1 + 1; omega
    rw [hpo, Finset.sum_congr rfl fun i _ => congrArg (· * _) (dsH_prev X (rT t) (bo t) (bq t) hb (t.val % 17) (by omega) h0 h i k),
      (X.head (rT t) h).dk_earlier (bo t) (bq t) hb]
    rfl

theorem dvAt_eq (h0 : t.val % 17 ≠ 0) : dvAt m c t = bk2 (fun k h e => (X.head (rT t) h).dv (row (bo t) k) e) := by
  obtain ⟨hp1, hp2, hp3⟩ := before_parts t h0
  unfold dvAt cvBefore
  rw [if_neg h0, cvAt_eq _ m c X H hp1, hp2, hp3, iblk0 t m c X H, iblk1 t m c X H, iblk5 t m c X H, iblk6 t m c X H, outDv_at, coord1]
  congr 1
  funext k h e
  by_cases h16 : t.val % 17 = 16
  · rw [Finset.sum_congr rfl fun i _ => (congrArg (· * _) (pH_none (t.val % 17) (fun hh => by omega) _ _ _ h i k)).trans (zero_mul _),
      Finset.sum_const_zero, add_zero, (X.head (rT t) h).dv_last (bo t) (by show t.val % 17 - 1 = 15; omega)]
  · have hq : (bq t).val = t.val % 17 := Nat.min_eq_left (by omega)
    have hpo : bp t = bo t := Fin.ext (by show min (t.val % 17) 15 - 1 = t.val % 17 - 1; omega)
    have hb : (bq t).val = (bo t).val + 1 := by rw [hq]; show _ = t.val % 17 - 1 + 1; omega
    rw [hpo, Finset.sum_congr rfl fun i _ => congrArg (· * _) (pH_prev X (rT t) (bo t) (bq t) hb (t.val % 17) (by omega) h0 h i k),
      (X.head (rT t) h).dv_earlier (bo t) (bq t) hb]
    rfl

omit H

/-! ## The final arrays -/

theorem flush9 : ∀ t : Fin cfg0.N, (cfg0.win 9).flush t = true → t.val % 17 ≠ 0 :=
  (by decide +kernel : ∀ t : Fin grid0.N, win0_9.flush t = true → t.val % 17 ≠ 0)
theorem flush10 : ∀ t : Fin cfg0.N, (cfg0.win 10).flush t = true → t.val % 17 ≠ 0 :=
  (by decide +kernel : ∀ t : Fin grid0.N, win0_10.flush t = true → t.val % 17 ≠ 0)

/-- The point that writes back block `b` of class `r`: of the queries' gradient, and of the keys' and values'. -/
def qPoint (b : Fin 16) (r : Fin 4) : Fin cfg0.N := ⟨17 * r.val + (if b.val = 15 then 16 else b.val), Nat.lt_of_lt_of_eq (by split <;> omega : _ < 68) N_0.symm⟩
def kPoint (b : Fin 16) (r : Fin 4) : Fin cfg0.N := ⟨17 * r.val + b.val + 1, Nat.lt_of_lt_of_eq (by omega : _ < 68) N_0.symm⟩

theorem qPoint_flush : ∀ (b : Fin 16) (r : Fin 4), (cfg0.win 8).flush (qPoint b r) = true :=
  (by decide +kernel : ∀ (b : Fin 16) (r : Fin 4), win0_8.flush (⟨17 * r.val + (if b.val = 15 then 16 else b.val), by split <;> (show _ < 68; omega)⟩ : Fin grid0.N) = true)
theorem kPoint_flush9 : ∀ (b : Fin 16) (r : Fin 4), (cfg0.win 9).flush (kPoint b r) = true :=
  (by decide +kernel : ∀ (b : Fin 16) (r : Fin 4), win0_9.flush (⟨17 * r.val + b.val + 1, by show _ < 68; omega⟩ : Fin grid0.N) = true)
theorem kPoint_flush10 : ∀ (b : Fin 16) (r : Fin 4), (cfg0.win 10).flush (kPoint b r) = true :=
  (by decide +kernel : ∀ (b : Fin 16) (r : Fin 4), win0_10.flush (⟨17 * r.val + b.val + 1, by show _ < 68; omega⟩ : Fin grid0.N) = true)

/-- The row block and the class an index lies in. -/
def rowBlock (i : S2048x2048.Idx) : Fin 16 := ⟨(i 0).val / 128, by have : (i 0).val < 2048 := (i 0).isLt; omega⟩
def inBlock (i : S2048x2048.Idx) : S128x512.Idx :=
  ix2 (⟨(i 0).val % 128, Nat.mod_lt _ (by decide)⟩ : Fin 128) (⟨(i 1).val % 512, Nat.mod_lt _ (by decide)⟩ : Fin 512)

theorem mem_of_emb {κ : Kind} {sp : Space} {s : Shape} {e : EltTy} (v : View sig κ sp s e) (y : s.Idx) (i : v.ty.Idx) (h : v.emb y = i) : i ∈ v.set :=
  h ▸ View.emb_mem_set v y

theorem place (k n b : ℕ) (h : b = k / n) : b * n + k % n = k := by
  subst h; exact Nat.div_add_mod' k n

theorem qPoint_row (b : Fin 16) (r : Fin 4) : min ((qPoint b r).val % 17) 15 = b.val := by
  show min ((17 * r.val + (if b.val = 15 then 16 else b.val)) % 17) 15 = b.val
  split <;> omega
theorem qPoint_class (b : Fin 16) (r : Fin 4) : (qPoint b r).val / 17 = r.val := by
  show (17 * r.val + (if b.val = 15 then 16 else b.val)) / 17 = r.val
  split <;> omega
theorem kPoint_row (b : Fin 16) (r : Fin 4) : (kPoint b r).val % 17 - 1 = b.val := by
  show (17 * r.val + b.val + 1) % 17 - 1 = b.val
  omega
theorem kPoint_class (b : Fin 16) (r : Fin 4) : (kPoint b r).val / 17 = r.val := by
  show (17 * r.val + b.val + 1) / 17 = r.val
  omega

theorem mem8 (t : Fin cfg0.N) (i : S2048x2048.Idx) (h0 : min (t.val % 17) 15 = (i 0).val / 128) (h1 : t.val / 17 = (i 1).val / 512) :
    i ∈ ((cfg0.win 8).blk t).view.set :=
  mem_of_emb ((cfg0.win 8).blk t).view (inBlock i) i (funext fun a => Fin.ext (match a with
    | ⟨0, _⟩ => (win0_8.rect_emb_val t (inBlock i) 0).trans (by
        rw [show win0_8.index t = _ from at8 t]; exact (place _ _ _ h0))
    | ⟨1, _⟩ => (win0_8.rect_emb_val t (inBlock i) 1).trans (by
        rw [show win0_8.index t = _ from at8 t]; exact (place _ _ _ h1))))

theorem cover8 (i : S2048x2048.Idx) : ∃ t : Fin cfg0.N, (cfg0.win 8).flush t = true ∧ i ∈ ((cfg0.win 8).blk t).view.set :=
  ⟨qPoint (rowBlock i) (res (i 1)), qPoint_flush _ _, mem8 _ i (qPoint_row (rowBlock i) (res (i 1))) (qPoint_class (rowBlock i) (res (i 1)))⟩

theorem mem9 (t : Fin cfg0.N) (i : S2048x2048.Idx) (h0 : t.val % 17 - 1 = (i 0).val / 128) (h1 : t.val / 17 = (i 1).val / 512) :
    i ∈ ((cfg0.win 9).blk t).view.set :=
  mem_of_emb ((cfg0.win 9).blk t).view (inBlock i) i (funext fun a => Fin.ext (match a with
    | ⟨0, _⟩ => (win0_9.rect_emb_val t (inBlock i) 0).trans (by
        rw [show win0_9.index t = _ from at9 t]; exact (place _ _ _ h0))
    | ⟨1, _⟩ => (win0_9.rect_emb_val t (inBlock i) 1).trans (by
        rw [show win0_9.index t = _ from at9 t]; exact (place _ _ _ h1))))

theorem cover9 (i : S2048x2048.Idx) : ∃ t : Fin cfg0.N, (cfg0.win 9).flush t = true ∧ i ∈ ((cfg0.win 9).blk t).view.set :=
  ⟨kPoint (rowBlock i) (res (i 1)), kPoint_flush9 _ _, mem9 _ i (kPoint_row (rowBlock i) (res (i 1))) (kPoint_class (rowBlock i) (res (i 1)))⟩

theorem mem10 (t : Fin cfg0.N) (i : S2048x2048.Idx) (h0 : t.val % 17 - 1 = (i 0).val / 128) (h1 : t.val / 17 = (i 1).val / 512) :
    i ∈ ((cfg0.win 10).blk t).view.set :=
  mem_of_emb ((cfg0.win 10).blk t).view (inBlock i) i (funext fun a => Fin.ext (match a with
    | ⟨0, _⟩ => (win0_10.rect_emb_val t (inBlock i) 0).trans (by
        rw [show win0_10.index t = _ from at10 t]; exact (place _ _ _ h0))
    | ⟨1, _⟩ => (win0_10.rect_emb_val t (inBlock i) 1).trans (by
        rw [show win0_10.index t = _ from at10 t]; exact (place _ _ _ h1))))

theorem cover10 (i : S2048x2048.Idx) : ∃ t : Fin cfg0.N, (cfg0.win 10).flush t = true ∧ i ∈ ((cfg0.win 10).blk t).view.set :=
  ⟨kPoint (rowBlock i) (res (i 1)), kPoint_flush10 _ _, mem10 _ i (kPoint_row (rowBlock i) (res (i 1))) (kPoint_class (rowBlock i) (res (i 1)))⟩

include H

/-- What a point writes back of the queries' gradient: its own block, or the block before at a row's last point — the same. -/
theorem dqPoint_eq : dqAt m c (dqPoint t) = bk2 (fun a h e => (X.head (rT t) h).dq (row (bq t) a) e) := by
  unfold dqPoint
  by_cases ht : t.val % 17 ≤ 15
  · rw [if_pos ht]; exact dqAt_eq t m c X H ht
  · have := t.isLt
    rw [if_neg ht, dqAt_eq _ m c X H (by show (t.val - 1) % 17 ≤ 15; omega),
      show rT (pointBefore t) = rT t from Fin.ext (by show (t.val - 1) / 17 = t.val / 17; omega),
      show bq (pointBefore t) = bq t from Fin.ext (by show min ((t.val - 1) % 17) 15 = min (t.val % 17) 15; omega)]

theorem final_dq : (dats m 0 c).arrAt 8 cfg0.N = wd (fun r h l e => (X.head r h).dq l e) :=
  (dats m 0 c).arrAt_eq_of_cover 8 (wd (fun r h l e => (X.head r h).dq l e)) (fun t _ => by
    refine Eq.trans ?_ (read8 _ t).symm
    show (cfg0.win 8).cut (grid0.coords t) ((dats m 0 c).after 8 t) = _
    rw [after0_8, dqPoint_eq t m c X H]; rfl) cover8

theorem final_dk : (dats m 0 c).arrAt 9 cfg0.N = wd (fun r h l e => (X.head r h).dk l e) :=
  (dats m 0 c).arrAt_eq_of_cover 9 (wd (fun r h l e => (X.head r h).dk l e)) (fun t hf => by
    refine Eq.trans ?_ (read9 _ t).symm
    show (cfg0.win 9).cut (grid0.coords t) ((dats m 0 c).after 9 t) = _
    rw [after0_9, dkAt_eq t m c X H (flush9 t hf)]; rfl) cover9

theorem final_dv : (dats m 0 c).arrAt 10 cfg0.N = wd (fun r h l e => (X.head r h).dv l e) :=
  (dats m 0 c).arrAt_eq_of_cover 10 (wd (fun r h l e => (X.head r h).dv l e)) (fun t hf => by
    refine Eq.trans ?_ (read10 _ t).symm
    show (cfg0.win 10).cut (grid0.coords t) ((dats m 0 c).after 10 t) = _
    rw [after0_10, dvAt_eq t m c X H (flush10 t hf)]; rfl) cover10

end Cert.Attn

end
-- ==== Proof.AttnPlain.lean ====
/-
  The kernel over the machine's floats is the idealised text with the mask's name read as the float that its word is, so its frame
  is the idealised program's.
-/
module

public import proofs.«01_k».proof.Defs
public import proofs.«01_k».proof.Proof.AttnFrame
public import proofs.«01_k».proof.Proof.Gen.Kernel

@[expose] public section

noncomputable section

namespace Cert.Attn

open Idealize.ShloMosaic Idealize.SL.Sem

/-- A named constant read as the float that its word is. -/
@[reducible] def plainNames : Named Bits := ⟨fun _ _ {φ} b => FloatOps.ofBits φ b⟩

attribute [local instance] plainNames

set_option maxHeartbeats 8000000 in
/-- The two programs are one text. -/
theorem main_plain : Cert.Kernel.main (F := Bits) = Cert.KernelIdeal.main (F := Bits) := rfl

set_option maxHeartbeats 8000000 in
theorem body_plain : @Cert.Kernel.cc0_attn_bwd_g1 Bits _ _ = @Cert.KernelIdeal.cc0_attn_bwd_g1 Bits _ _ _ := rfl

set_option maxHeartbeats 8000000 in
theorem calls_plain : Cert.Kernel.defs₀ (F := Bits) = Cert.KernelIdeal.defs₀ (F := Bits) := by
  unfold Cert.Kernel.defs₀ Cert.KernelIdeal.defs₀
  refine congrArg Defs.onTc ?_
  funext l a
  obtain ⟨l, hl⟩ := l
  obtain rfl : l = 0 := by
    have : l < 1 := hl
    omega
  obtain ⟨t, s⟩ := a
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (body_plain) _) _) _) _) _) _) _) _) _) _) _) _) _) _) _) _) _) _) _) _) _) _) _) _) _) _) _

set_option maxHeartbeats 8000000 in
theorem defs_plain : Cert.Kernel.defs (F := Bits) = Cert.KernelIdeal.defs (F := Bits) := by
  unfold Cert.Kernel.defs Cert.KernelIdeal.defs
  rw [calls_plain]
  rfl

set_option maxHeartbeats 8000000 in
theorem kernel_rests : Cert.quiescent_Kernel (hKernel := Cert.Kernel.Gen.facts) := by
  intro m ρ _
  have h := Cert.KernelIdeal.Gen.frame (F := Bits) m ρ
  rw [← defs_plain, ← main_plain] at h
  exact h

end Cert.Attn

end
-- ==== Proof.AttnFinal.lean ====
/-
  From the precondition to the claim: finite arguments are arrays of reals, and on those both programs end at the heads' gradients.
-/
module

public import proofs.«01_k».proof.Defs
public import proofs.«01_k».proof.Proof.AttnArr
public import proofs.«01_k».proof.Proof.AttnPlain
public import proofs.«01_k».proof.Proof.Gen.ReferenceIdeal.Run
public import proofs.«01_k».proof.Proof.Gen.ReferenceIdeal.Read
public import Idealize.ShloMosaic.Lib.Quiescent
public import Idealize.ShloMosaic.Lib.Claim

@[expose] public section

noncomputable section

namespace Cert.Attn

open Idealize.ShloMosaic Idealize.SL.Sem Idealize.ShloMosaic.TcCoe Idealize.ShloMosaic.ValueIdx

/-- The side conditions of the predicate that every argument is finite. -/
theorem finiteFacts : Cert.Pre_finite.Facts := ⟨by decide, by decide⟩

/-- An extended real whose absolute value compares below infinity is a real. -/
theorem real_of_below (x : Ideal .f32)
    (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    unfold Ideal.cmp at h'
    simp [hn] at h'
  obtain ⟨ha, hb⟩ := max_lt_iff.mp hlt
  refine (EReal.coe_toReal ha.ne (fun hbot => ?_)).symm
  rw [hbot, EReal.neg_bot] at hb
  exact absurd hb (lt_irrefl _)

section Pre
open Cert.Pre_finite

variable [Cert.Pre_finite.Facts]

theorem arr3_of_finite (x : FVec Ideal S8192x8x64 .f32)
    (h : cmpf .olt (Host.absf x) (broadcastInDim S8192x8x64 ![] Facts.bcast_S_S8192x8x64 (constant S_ .f32 0x7F800000#32)) = fun _ => 1#1) :
    x = arr3 (fun t hh e => EReal.toReal (x (ix3 t hh e))) := by
  funext i
  refine (real_of_below (x i) (congrFun h i)).trans ?_
  show ((EReal.toReal (x i) : ℝ) : EReal) = ((EReal.toReal (x (ix3 (i 0 : Fin 8192) (i 1 : Fin 8) (i 2 : Fin 64))) : ℝ) : EReal)
  exact congrArg (fun j => ((EReal.toReal (x j) : ℝ) : EReal)) (eq_ix3 i)

theorem arr2_of_finite (x : FVec Ideal S8192x8 .f32)
    (h : cmpf .olt (Host.absf x) (broadcastInDim S8192x8 ![] Facts.bcast_S_S8192x8 (constant S_ .f32 0x7F800000#32)) = fun _ => 1#1) :
    x = arr2 (fun t hh => EReal.toReal (x (ix2 t hh))) := by
  funext i
  refine (real_of_below (x i) (congrFun h i)).trans ?_
  show ((EReal.toReal (x i) : ℝ) : EReal) = ((EReal.toReal (x (ix2 (i 0 : Fin 8192) (i 1 : Fin 8))) : ℝ) : EReal)
  exact congrArg (fun j => ((EReal.toReal (x j) : ℝ) : EReal)) (eq_ix2 i)

end Pre

/-- The reals in a device's argument arrays. -/
def inputs (m : (ℓ : Loc Cert.KernelIdeal.nD Cert.KernelIdeal.τ Cert.KernelIdeal.sig) → Buf (Elt Ideal) ℓ) (c : Dev Cert.KernelIdeal.nD) : Inputs where
  Q := fun t h e => EReal.toReal ((m (c, Cert.KernelIdeal.main_arg0) : FVec Ideal Cert.Pre_finite.S8192x8x64 .f32) (ix3 t h e))
  K := fun t h e => EReal.toReal ((m (c, Cert.KernelIdeal.main_arg1) : FVec Ideal Cert.Pre_finite.S8192x8x64 .f32) (ix3 t h e))
  V := fun t h e => EReal.toReal ((m (c, Cert.KernelIdeal.main_arg2) : FVec Ideal Cert.Pre_finite.S8192x8x64 .f32) (ix3 t h e))
  O := fun t h e => EReal.toReal ((m (c, Cert.KernelIdeal.main_arg3) : FVec Ideal Cert.Pre_finite.S8192x8x64 .f32) (ix3 t h e))
  L := fun t h => EReal.toReal ((m (c, Cert.KernelIdeal.main_arg4) : FVec Ideal Cert.Pre_finite.S8192x8 .f32) (ix2 t h))

theorem holds_of_finite [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Holds m c (inputs m c) :=
  ⟨arr3_of_finite _ (h c).1, arr3_of_finite _ (h c).2.1, arr3_of_finite _ (h c).2.2.1, arr3_of_finite _ (h c).2.2.2.1,
    arr2_of_finite _ (h c).2.2.2.2⟩

/-! ## The claims -/

theorem ideal_rests : Cert.quiescent_KernelIdeal (hKernelIdeal := Cert.KernelIdeal.Gen.facts) := fun m ρ _ => Cert.KernelIdeal.Gen.frame m ρ

theorem ideal_rests_pre : Cert.quiescent_KernelIdeal_pre_finite (hKernelIdeal := Cert.KernelIdeal.Gen.facts) (hPre_finite := finiteFacts) :=
  fun m ρ _ => Cert.KernelIdeal.Gen.frame m ρ

theorem ref_rests : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩) (Cert.ReferenceIdeal.Value.run m ρ)

theorem ref_rests_pre : Cert.quiescent_ReferenceIdeal_pre_finite (hReferenceIdeal := Cert.ReferenceIdeal.Gen.facts) (hPre_finite := finiteFacts) :=
  fun m ρ _ => ref_rests m ρ trivial

theorem mask_kept : Cert.preserves_Kernel_KernelIdeal :=
  IdealRules.named_const.statement Cert.KernelIdeal.κ "mask" .f32 0xF149F2CA#32 ⊥ rfl

theorem same_gradients : Cert.algebraic_KernelIdeal_ReferenceIdeal_pre_finite (hKernelIdeal := Cert.KernelIdeal.Gen.facts)
    (hReferenceIdeal := Cert.ReferenceIdeal.Gen.facts) (hPre_finite := finiteFacts) := by
  intro m ρ m' ρ' hpre hargs
  have H : ∀ c, Holds m c (inputs m c) := fun c => @holds_of_finite finiteFacts m hpre c
  refine ⟨fun c => wd (fun r h l e => ((inputs m c).head r h).dq l e), fun c => wd (fun r h l e => ((inputs m c).head r h).dk l e),
    fun c => wd (fun r h l e => ((inputs m c).head r h).dv l e), ?_, ?_⟩
  · refine (θ_run Cert.KernelIdeal.defs _ _).mono (fun r h c => ?_)
      (θ_run_and (Cert.KernelIdeal.Gen.run_named m ρ) (Cert.KernelIdeal.Gen.frame m ρ))
    exact ⟨(h.1 c).1.trans (final_dq m c _ (H c)), (h.1 c).2.1.trans (final_dk m c _ (H c)), (h.1 c).2.2.trans (final_dv m c _ (H c)),
      h.2.1 c⟩
  · refine (θ_run Cert.ReferenceIdeal.defs _ _).mono (fun r h c => ?_) (Cert.ReferenceIdeal.Value.run m' ρ')
    have a0 : m' ((c.tc : Thread Cert.ReferenceIdeal.nD Cert.ReferenceIdeal.τ).loc Cert.ReferenceIdeal.main_arg0) = arr3 (inputs m c).Q :=
      (hargs c).1.trans (H c).hQ
    have a1 : m' ((c.tc : Thread Cert.ReferenceIdeal.nD Cert.ReferenceIdeal.τ).loc Cert.ReferenceIdeal.main_arg1) = arr3 (inputs m c).K :=
      (hargs c).2.1.trans (H c).hK
    have a2 : m' ((c.tc : Thread Cert.ReferenceIdeal.nD Cert.ReferenceIdeal.τ).loc Cert.ReferenceIdeal.main_arg2) = arr3 (inputs m c).V :=
      (hargs c).2.2.1.trans (H c).hV
    have a3 : m' ((c.tc : Thread Cert.ReferenceIdeal.nD Cert.ReferenceIdeal.τ).loc Cert.ReferenceIdeal.main_arg3) = arr3 (inputs m c).O :=
      (hargs c).2.2.2.1.trans (H c).hO
    have a4 : m' ((c.tc : Thread Cert.ReferenceIdeal.nD Cert.ReferenceIdeal.τ).loc Cert.ReferenceIdeal.main_arg4) = arr2 (inputs m c).L :=
      (hargs c).2.2.2.2.trans (H c).hL
    refine ⟨((h c).1.trans (Cert.ReferenceIdeal.Read.val_main_v86_eq m' c)).trans ?_,
      ((h c).2.1.trans (Cert.ReferenceIdeal.Read.val_main_v88_eq m' c)).trans ?_,
      ((h c).2.2.1.trans (Cert.ReferenceIdeal.Read.val_main_v90_eq m' c)).trans ?_, (h c).2.2.2⟩
    · rw [a0, a1, a2, a3, a4]
      exact eq_wd _ _ (fun l r hh e => dq_at (inputs m c) l r hh e)
    · rw [a0, a1, a2, a3, a4]
      exact eq_wd _ _ (fun l r hh e => dk_at (inputs m c) l r hh e)
    · rw [a0, a1, a3]
      exact eq_wd _ _ (fun l r hh e => dv_at (inputs m c) l r hh e)

end Cert.Attn

end
-- ==== Proof.Product.lean ====
/-
  What the products of the channel mixers and of the projections share: a product of two blocks read at an index, and a
  sum over the whole contracted axis cut into the blocks in which a kernel takes it.
-/
module

public import Idealize.ShloMosaic.Lib.MatmulPlain
public import Idealize.ShloMosaic.Lib.ValueIdx
public import Idealize.ShloMosaic.PureOps.Ideal.Laws

@[expose] public section

noncomputable section

namespace Cert.Product

open Idealize.ShloMosaic Idealize.ShloMosaic.ValueIdx
open scoped BigOperators

/-- Zero offsets on two axes. -/
theorem zero2 : (![0, 0] : Fin 2 → Nat) = fun _ => 0 := funext fun a => by fin_cases a <;> rfl

/-- Zero offsets on three axes. -/
theorem zero3 : (![0, 0, 0] : Fin 3 → Nat) = fun _ => 0 := funext fun a => by fin_cases a <;> rfl

/-! ## A product of two blocks that contracts the rows of both -/

/-- The dimension numbers of a product whose left operand is read by columns. -/
abbrev byRows (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- An element of such a product. -/
theorem byRows_apply {M K N : ℕ} (wf) {φ₁ φ₂ : FTy} (l : FVec Ideal ⟨2, ![K, M]⟩ φ₁) (r : FVec Ideal ⟨2, ![K, N]⟩ φ₂)
    (acc : FVec Ideal ⟨2, ![M, N]⟩ .f32) (p : Fin M) (q : Fin N) :
    FloatOps.matmul (byRows M K N wf) none l r acc (ix2 p q) = acc (ix2 p q) + ∑ k : Fin K, l (ix2 k p) * r (ix2 k q) := by
  rw [Ideal.matmul_apply, ← Equiv.sum_comp (contrEquiv1 (byRows M K N wf) K rfl rfl).symm]
  refine congrArg (acc (ix2 p q) + ·) (Finset.sum_congr rfl fun k _ => ?_)
  have hk := contrEquiv1_symm_val (byRows M K N wf) K rfl rfl k
  have el : (byRows M K N wf).lhsIdx (ix2 p q) ((contrEquiv1 (byRows M K N wf) K rfl rfl).symm k) = ix2 k p := by
    funext a; apply Fin.ext
    match a with
    | ⟨0, _⟩ => exact hk
    | ⟨1, _⟩ => rfl
  have er : (byRows M K N wf).rhsIdx (ix2 p q) ((contrEquiv1 (byRows M K N wf) K rfl rfl).symm k) = ix2 k q := by
    funext a; apply Fin.ext
    match a with
    | ⟨0, _⟩ => exact hk
    | ⟨1, _⟩ => rfl
  rw [el, er]

/-! ## The blocks of a sum -/

/-- A sum over `a + b` positions, first the `a`, then the `b`. -/
theorem sum_split {N a b : ℕ} (h : N = a + b) (f : Fin N → EReal) :
    ∑ k, f k = ∑ k : Fin a, f ⟨k.val, by omega⟩ + ∑ k : Fin b, f ⟨a + k.val, by omega⟩ := by
  subst h
  exact Fin.sum_univ_add f

/-- Two blocks. -/
theorem sum_two {N b : ℕ} (h : N = 2 * b) (f : Fin N → EReal) :
    ∑ k : Fin b, f ⟨0 * b + k.val, by omega⟩ + ∑ k : Fin b, f ⟨1 * b + k.val, by omega⟩ = ∑ k, f k := by
  rw [sum_split (show N = b + b by omega) f]
  congr 1 <;> refine Finset.sum_congr rfl fun k _ => congrArg f (Fin.ext ?_) <;> simp

/-- Three blocks. -/
theorem sum_three {N b : ℕ} (h : N = 3 * b) (f : Fin N → EReal) :
    (∑ k : Fin b, f ⟨0 * b + k.val, by omega⟩ + ∑ k : Fin b, f ⟨1 * b + k.val, by omega⟩)
      + ∑ k : Fin b, f ⟨2 * b + k.val, by omega⟩ = ∑ k, f k := by
  rw [sum_split (show N = 2 * b + b by omega) f]
  congr 1
  exact sum_two rfl fun k : Fin (2 * b) => f ⟨k.val, by omega⟩

/-- Four blocks. -/
theorem sum_four {N b : ℕ} (h : N = 4 * b) (f : Fin N → EReal) :
    ((∑ k : Fin b, f ⟨0 * b + k.val, by omega⟩ + ∑ k : Fin b, f ⟨1 * b + k.val, by omega⟩)
      + ∑ k : Fin b, f ⟨2 * b + k.val, by omega⟩) + ∑ k : Fin b, f ⟨3 * b + k.val, by omega⟩ = ∑ k, f k := by
  rw [sum_split (show N = 3 * b + b by omega) f]
  congr 1
  exact sum_three rfl fun k : Fin (3 * b) => f ⟨k.val, by omega⟩

/-- The same, from what each block is. -/
theorem sum_two_of {N b : ℕ} (h : N = 2 * b) (f : Fin N → EReal) {x0 x1 : EReal}
    (h0 : x0 = ∑ k : Fin b, f ⟨0 * b + k.val, by omega⟩) (h1 : x1 = ∑ k : Fin b, f ⟨1 * b + k.val, by omega⟩) :
    x0 + x1 = ∑ k, f k := by
  rw [h0, h1]
  exact sum_two h f

/-- The same, from what each block is. -/
theorem sum_three_of {N b : ℕ} (h : N = 3 * b) (f : Fin N → EReal) {x0 x1 x2 : EReal}
    (h0 : x0 = ∑ k : Fin b, f ⟨0 * b + k.val, by omega⟩) (h1 : x1 = ∑ k : Fin b, f ⟨1 * b + k.val, by omega⟩) (h2 : x2 = ∑ k : Fin b, f ⟨2 * b + k.val, by omega⟩) :
    (x0 + x1) + x2 = ∑ k, f k := by
  rw [h0, h1, h2]
  exact sum_three h f

/-- The same, from what each block is. -/
theorem sum_four_of {N b : ℕ} (h : N = 4 * b) (f : Fin N → EReal) {x0 x1 x2 x3 : EReal}
    (h0 : x0 = ∑ k : Fin b, f ⟨0 * b + k.val, by omega⟩) (h1 : x1 = ∑ k : Fin b, f ⟨1 * b + k.val, by omega⟩) (h2 : x2 = ∑ k : Fin b, f ⟨2 * b + k.val, by omega⟩) (h3 : x3 = ∑ k : Fin b, f ⟨3 * b + k.val, by omega⟩) :
    ((x0 + x1) + x2) + x3 = ∑ k, f k := by
  rw [h0, h1, h2, h3]
  exact sum_four h f

end Cert.Product

end
-- ==== Proof.K2.lean ====
/-
  The gradient of the channel mixers' preactivation: what the call leaves is the derivative the host takes.
-/
module

public import proofs.«01_k».proof.Proof.Product
public import proofs.«01_k».proof.Defs
public import Idealize.ShloMosaic.Lib.Quiescent
public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.K2

open Idealize.ShloMosaic hiding ix2 ix3 eq_ix2 eq_ix3
open Idealize.ShloMosaic.TcCoe Idealize.SL.Sem Idealize.ShloMosaic.StableHlo Idealize.ShloMosaic.ValueIdx
open Cert.Kernel2Ideal Cert.Kernel2Ideal.Gen Cert.Product

section Body

variable {F : FTy → Type} [FloatOps F]

/-- The product of the two blocks of a point. -/
def part (x : FVec F S1024x2048 .bf16) (w : FVec F S1024x2048 .bf16) : FVec F S1024x1024 .f32 :=
  FloatOps.matmul dot_S1024x2048_S1024x2048_S1024x1024_1_1_0_0_n_n none x w (constant S1024x1024 .f32 0x00000000#32)

theorem out_eq (x w : FVec F S1024x2048 .bf16) (a : FVec F S1024x1024 .bf16) : out0_3 x w a
    = truncf .bf16 (mulf (part x w) (mulf (broadcast S1024x1024 (Scalar.ofBits .f32 0x40000000#32))
        (maximumf (extf .f32 a bitsLt_bf16_f32) (broadcast S1024x1024 (Scalar.ofBits .f32 0x00000000#32))))) bitsLt_bf16_f32 := by
  unfold out0_3
  rw [View.canon_unit_zero zero2]
  simp only [View.ld_unit_zero (S := S1024x2048) zero2, View.ld_unit_zero (S := S1024x1024) zero2]
  unfold k0_pay1 part
  simp only [shapeCast_self]

end Body

/-! ## Read at an index -/

section Read

variable (m : (ℓ : Loc nD τ sig) → Buf (Elt Ideal) ℓ) (c : Dev nD)

/-- The left operand before it is rounded. -/
def left : FVec Ideal S8192x2048 .f32 := m (c, main_arg2)

/-- The right operand before it is rounded. -/
def right : FVec Ideal S8192x2048 .f32 := m (c, main_arg1)

/-- The left operand as the call reads it. -/
theorem V_left : V m c main_v0 = (truncf .bf16 (left m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 8
    ∧ win0_0.index t (1 : Fin 2) = 0
    ∧ win0_1.index t (0 : Fin 2) = t.val % 8
    ∧ win0_1.index t (1 : Fin 2) = 0
    ∧ win0_3.index t (0 : Fin 2) = t.val / 8
    ∧ win0_3.index t (1 : Fin 2) = t.val % 8
    ∧ win0_2.index t (0 : Fin 2) = t.val / 8
    ∧ win0_2.index t (1 : Fin 2) = t.val % 8 :=
  (by decide +kernel : ∀ t : Fin grid0.N, _)

theorem left_at (t : Fin cfg0.N) (p : Fin 1024) (K : Fin 2048) (P : Fin 8192) (hP : P.val = (t.val / 8) * 1024 + p.val) :
    (iblk m c 0 t : FVec Ideal S1024x2048 .bf16) (ix2 p K) = left m c (ix2 P K) := by
  unfold iblk
  rw [View.read_apply]
  refine (congrFun (V_left m c) (((cfg0.win 0).blk t).view.emb (ix2 p K))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * K.val = K.val; rw [(places t).2.1]; omega

theorem right_at (t : Fin cfg0.N) (q : Fin 1024) (K : Fin 2048) (Q : Fin 8192) (hQ : Q.val = (t.val % 8) * 1024 + q.val) :
    (iblk m c 1 t : FVec Ideal S1024x2048 .bf16) (ix2 q K) = right m c (ix2 Q K) := by
  unfold iblk
  rw [View.read_apply]
  refine (congrFun (V_right m c) (((cfg0.win 1).blk t).view.emb (ix2 q K))).trans ?_
  show right m c _ = _
  congr 1
  funext a
  apply Fin.ext
  match a with
  | ⟨0, _⟩ => show win0_1.index t 0 * 1024 + 1 * q.val = Q.val; rw [(places t).2.2.1]; omega
  | ⟨1, _⟩ => show win0_1.index t 1 * 2048 + 1 * K.val = K.val; rw [(places t).2.2.2.1]; omega

/-- An element of the host's product. -/
def dot (P : Fin 8192) (Q : Fin 8192) : EReal := ∑ K : Fin 2048, left m c (ix2 P K) * right m c (ix2 Q K)

theorem part_at (t : Fin cfg0.N) (p : Fin 1024) (q : Fin 1024) (P : Fin 8192) (Q : Fin 8192)
    (hP : P.val = (t.val / 8) * 1024 + p.val) (hQ : Q.val = (t.val % 8) * 1024 + q.val) :
    part (F := Ideal) (iblk m c 0 t) (iblk m c 1 t) (ix2 p q) = dot m c P Q := by
  unfold part
  refine (Ideal.matmul_transposedRhs_apply none _ _ _ p q).trans ?_
  refine ((congrArg (· + _) (show (constant S1024x1024 .f32 0x00000000#32 : FVec Ideal S1024x1024 .f32) (ix2 p q) = 0 from Ideal.ofBits_zero_f32)).trans (zero_add _)).trans ?_
  unfold dot
  refine Finset.sum_congr rfl fun K _ => ?_
  rw [left_at m c t p K P hP, right_at m c t q K Q hQ]

/-- The row of the result that a row of a point's block is. -/
def rowOf (t : Fin cfg0.N) (p : Fin 1024) : Fin 8192 :=
  ⟨(t.val / 8) * 1024 + p.val, by have h := t.isLt; have hN : cfg0.N = 64 := N_0; omega⟩

/-- The column of the result that a column of a point's block is. -/
def colOf (t : Fin cfg0.N) (q : Fin 1024) : Fin 8192 :=
  ⟨(t.val % 8) * 1024 + q.val, by omega⟩

theorem emb3 (t : Fin cfg0.N) (p : Fin 1024) (q : Fin 1024) :
    (((cfg0.win 3).blk t).view.emb (ix2 p q) : S8192x8192.Idx) = ix2 (rowOf t p) (colOf t q) := by
  funext a
  apply Fin.ext
  match a with
  | ⟨0, _⟩ => show win0_3.index t 0 * 1024 + 1 * p.val = (t.val / 8) * 1024 + p.val; rw [(places t).2.2.2.2.1]; omega
  | ⟨1, _⟩ => show win0_3.index t 1 * 1024 + 1 * q.val = (t.val % 8) * 1024 + q.val; rw [(places t).2.2.2.2.2.1]; omega

/-- The preactivation as the call reads it. -/
def pre : FVec Ideal S8192x8192 .f32 := m (c, main_arg0)

theorem V_pre : V m c main_v2 = (truncf .bf16 (pre m c) bitsLt_bf16_f32 : FVec Ideal S8192x8192 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem pre_at (t : Fin cfg0.N) (p q : Fin 1024) :
    (iblk m c 2 t : FVec Ideal S1024x1024 .bf16) (ix2 p q) = pre m c (ix2 (rowOf t p) (colOf t q)) := by
  unfold iblk
  rw [View.read_apply]
  refine (congrFun (V_pre m c) (((cfg0.win 2).blk t).view.emb (ix2 p q))).trans ?_
  show pre m c _ = _
  congr 1
  funext a
  apply Fin.ext
  match a with
  | ⟨0, _⟩ => show win0_2.index t 0 * 1024 + 1 * p.val = (t.val / 8) * 1024 + p.val; rw [(places t).2.2.2.2.2.2.1]; omega
  | ⟨1, _⟩ => show win0_2.index t 1 * 1024 + 1 * q.val = (t.val % 8) * 1024 + q.val; rw [(places t).2.2.2.2.2.2.2]; omega

/-- The slope of the squared rectifier at a preactivation. -/
def slope (a : EReal) : EReal := Ideal.ofBits .f32 0x40000000#32 * max a (Ideal.ofBits .f32 0x00000000#32)

/-- Where the preactivation is not positive the slope is zero. -/
theorem slope_zero (a : EReal) (h : ¬(0 : EReal) < a) : slope a = 0 := by
  unfold slope
  rw [Ideal.ofBits_zero_f32, max_eq_right (not_lt.mp h), mul_zero]

/-- An element of the host's result. -/
theorem host_at (P : Fin 8192) (Q : Fin 8192) :
    (Cert.Reference2Ideal.Read.val_main_v12 (F := Ideal) (m (c, main_arg0)) (m (c, main_arg1)) (m (c, main_arg2)) : FVec Ideal S8192x8192 .bf16) (ix2 P Q) = dot m c P Q * slope (pre m c (ix2 P Q)) := by
  refine (show _ = Cert.Reference2Ideal.Read.val_main_v11 (F := Ideal) (m (c, main_arg0)) (m (c, main_arg1)) (m (c, main_arg2)) (ix2 P Q) from rfl).trans ?_
  have hd : Cert.Reference2Ideal.Read.val_main_v8 (F := Ideal) (m (c, main_arg1)) (m (c, main_arg2)) (ix2 P Q) = dot m c P Q := by
    refine (Cert.Reference2Ideal.Read.val_main_v8_apply _ _ _).trans ?_
    unfold dot
    refine Finset.sum_congr rfl fun K _ => ?_
    refine congrArg₂ (· * ·) (congrArg (left m c) ?_) (congrArg (right m c) ?_)
    · funext a; match a with | ⟨0, _⟩ => rfl | ⟨1, _⟩ => rfl
    · funext a; match a with | ⟨0, _⟩ => rfl | ⟨1, _⟩ => rfl
  have h9 : Cert.Reference2Ideal.Read.val_main_v9 (F := Ideal) (m (c, main_arg0)) (m (c, main_arg1)) (m (c, main_arg2)) (ix2 P Q) = dot m c P Q * slope (pre m c (ix2 P Q)) :=
    congrArg (· * slope (pre m c (ix2 P Q))) hd
  by_cases hp : (0 : EReal) < pre m c (ix2 P Q)
  · refine Eq.trans ?_ h9
    have hc : Cert.Reference2Ideal.Read.val_main_v2 (F := Ideal) (m (c, main_arg0)) (ix2 P Q) = 1#1 := by
      show Ideal.cmp .ogt (pre m c (ix2 P Q)) (Ideal.ofBits .f32 0x00000000#32) = 1#1
      rw [Ideal.ofBits_zero_f32]
      simp [Ideal.cmp, hp]
    show (if Cert.Reference2Ideal.Read.val_main_v2 (F := Ideal) (m (c, main_arg0)) (ix2 P Q) = 1#1 then _ else _) = _
    rw [if_pos hc]
  · rw [slope_zero _ hp, mul_zero]
    have hc : ¬Cert.Reference2Ideal.Read.val_main_v2 (F := Ideal) (m (c, main_arg0)) (ix2 P Q) = 1#1 := by
      show ¬Ideal.cmp .ogt (pre m c (ix2 P Q)) (Ideal.ofBits .f32 0x00000000#32) = 1#1
      rw [Ideal.ofBits_zero_f32]
      simp [Ideal.cmp, hp]
    show (if Cert.Reference2Ideal.Read.val_main_v2 (F := Ideal) (m (c, main_arg0)) (ix2 P Q) = 1#1 then _ else _) = _
    rw [if_neg hc]
    exact Ideal.ofBits_zero_f32

theorem same : ((dats m 0 c).arrAt 3 cfg0.N : FVec Ideal S8192x8192 .bf16)
    = Cert.Reference2Ideal.Read.val_main_v12 (F := Ideal) (m (c, main_arg0)) (m (c, main_arg1)) (m (c, main_arg2)) := by
  refine (dats m 0 c).arrAt_eq_of_covers 3 _ (by decide +kernel) fun t hf y => ?_
  blk_simp
  rw [after0_3, out_eq]
  have hy : y = ix2 (y 0 : Fin 1024) (y 1 : Fin 1024) := eq_ix2 y
  rw [hy]
  refine Eq.trans ?_ (congrArg (Cert.Reference2Ideal.Read.val_main_v12 (F := Ideal) (m (c, main_arg0)) (m (c, main_arg1)) (m (c, main_arg2)) : FVec Ideal S8192x8192 .bf16) (emb3 t (y 0) (y 1))).symm
  refine Eq.trans ?_ (host_at m c (rowOf t (y 0)) (colOf t (y 1))).symm
  have h := part_at m c t (y 0) (y 1) (rowOf t (y 0)) (colOf t (y 1)) rfl rfl
  exact congrArg₂ (fun d a : EReal => d * slope a) h (pre_at m c t (y 0) (y 1))

end Read

/-! ## The claims -/

theorem ref_rests : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run m ρ)

theorem same_result : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => (Cert.Kernel2Ideal.Gen.dats m 0 c).arrAt 3 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run m' ρ')
  refine (Cert.Reference2Ideal.Read.val_main_v12_eq (F := Ideal) _ _ _).trans (Eq.trans ?_ (same m c).symm)
  rw [(hargs c).1, (hargs c).2.1, (hargs c).2.2]

end Cert.K2

end
-- ==== Proof.K3.lean ====
/-
  The second channel-mixer weight's gradient: what the call leaves is the host's product.
-/
module

public import proofs.«01_k».proof.Proof.Product
public import proofs.«01_k».proof.Defs
public import Idealize.ShloMosaic.Lib.Quiescent
public import proofs.«01_k».proof.Proof.Gen.Kernel3Ideal.Value
public import proofs.«01_k».proof.Proof.Gen.Reference3Ideal.Read
public import Idealize.ShloMosaic.Lib.Tactic

@[expose] public section

set_option maxRecDepth 16384

noncomputable section

namespace Cert.K3

open Idealize.ShloMosaic Idealize.ShloMosaic.TcCoe Idealize.SL.Sem Idealize.ShloMosaic.StableHlo Idealize.ShloMosaic.ValueIdx
open Cert.Kernel3Ideal Cert.Kernel3Ideal.Gen Cert.Product

section Body

variable {F : FTy → Type} [FloatOps F]

/-- The product of the two blocks of a point. -/
def part (x : FVec F S2048x1024 .bf16) (w : FVec F S2048x1024 .bf16) : FVec F S1024x1024 .f32 :=
  FloatOps.matmul dot_S2048x1024_S2048x1024_S1024x1024_0_0_1_1_n_n none x w (constant S1024x1024 .f32 0x00000000#32)

theorem pay (x : FVec F S2048x1024 .bf16) (w : FVec F S2048x1024 .bf16) : k0_pay1 x w = part x w := by
  unfold k0_pay1 part
  simp only [shapeCast_self]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : FVec F S2048x1024 .bf16) (w : FVec F S2048x1024 .bf16) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S2048x1024) zero2, shapeCast_self, pay]

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S2048x1024) zero2,
    View.ld_unit_zero (S := S1024x1024) zero2, shapeCast_self, pay]

/-- The last point writes the sum, rounded. -/
theorem last (hc0 : ¬cond0_0 i) (hc1 : cond0_1 i) (hc2 : cond0_2 i) :
    out0_C_2 c i a3 h3 a4 h4 a5 h5 a6 h6 hc0 hc1 hc2 x w s = truncf .bf16 (addf s (part x w)) bitsLt_bf16_f32 := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x1024) _ zero2]
  unfold k0_pay4 k0_pay3
  simp only [View.readAt_eq_ld, h3.read_unread, h4.read_unread, h6.read_unread, View.ld_unit_zero (S := S2048x1024) zero2,
    View.ld_unit_zero (S := S1024x1024) zero2, shapeCast_self, pay]

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 4 = 0) (h1 : 1 ≤ t.val % 4) (h2 : t.val % 4 = 3) :
    (outsAt0 m c t.val t.isLt).1 = truncf .bf16 (addf (outsAt0 m c (t.val - 1) (Nat.lt_of_le_of_lt (Nat.sub_le _ _) t.isLt)).2
      (part (F := F) (iblk m c 0 t) (iblk m c 1 t))) bitsLt_bf16_f32 := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- What the last of four points writes back. -/
theorem written (n : ℕ) (hn : 4 * n + 3 < cfg0.N) :
    (outsAt0 m c (4 * n + 3) hn).1 = truncf .bf16 (addf (addf (addf
        (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩))) bitsLt_bf16_f32 := by
  have h4 := carried_last c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  rw [← h1]
  refine h4.trans ?_
  refine congrArg (fun s => truncf .bf16 (addf s _) bitsLt_bf16_f32) (h3.trans ?_)
  exact congrArg (fun s => addf s _) h2

end Body

/-! ## Read at an index -/

section Read

variable (m : (ℓ : Loc nD τ sig) → Buf (Elt Ideal) ℓ) (c : Dev nD)

/-- The left operand as the call reads it. -/
theorem V_left : V m c main_v2 = (truncf .bf16 (Cert.Reference3Ideal.Read.val_main_v1 (F := Ideal) (m (c, main_arg0)) : FVec Ideal S8192x8192 .f32) bitsLt_bf16_f32 : FVec Ideal S8192x8192 .bf16) := by
  simp only [V, hostOps0, hostOps0_1, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v3 = (truncf .bf16 (m (c, main_arg2) : FVec Ideal S8192x2048 .f32) bitsLt_bf16_f32 : FVec Ideal S8192x2048 .bf16) := by
  simp only [V, hostOps0, hostOps0_1, List.flatten_cons, List.flatten_nil, List.append_nil, List.cons_append,
      List.nil_append, TRef.nullary, TRef.binary, TRef.unary, TRef.toBuf, TRef.ofBuf, cast_eq]
  after_results_simp

theorem places : ∀ t : Fin cfg0.N, win0_0.index t (0 : Fin 2) = t.val % 4 ∧ win0_0.index t (1 : Fin 2) = t.val / 8
    ∧ win0_1.index t (0 : Fin 2) = t.val % 4 ∧ win0_1.index t (1 : Fin 2) = t.val / 4 % 2 :=
  (by decide +kernel : ∀ t : Fin grid0.N, _)

theorem left_at (t : Fin cfg0.N) (k : Fin 2048) (p : Fin 1024) (K P : Fin 8192) (hK : K.val = (t.val % 4) * 2048 + k.val)
    (hP : P.val = (t.val / 8) * 1024 + p.val) :
    (iblk m c 0 t : FVec Ideal S2048x1024 .bf16) (ix2 k p) = Cert.Reference3Ideal.Read.val_main_v1 (F := Ideal) (m (c, main_arg0)) (ix2 K P) := by
  unfold iblk
  rw [View.read_apply]
  refine (congrFun (V_left m c) (((cfg0.win 0).blk t).view.emb (ix2 k p))).trans ?_
  show Cert.Reference3Ideal.Read.val_main_v1 (F := Ideal) (m (c, main_arg0)) _ = _
  congr 1
  funext a
  apply Fin.ext
  match a with
  | ⟨0, _⟩ => show win0_0.index t 0 * 2048 + 1 * k.val = K.val; rw [(places t).1]; omega
  | ⟨1, _⟩ => show win0_0.index t 1 * 1024 + 1 * p.val = P.val; rw [(places t).2.1]; omega

theorem right_at (t : Fin cfg0.N) (k : Fin 2048) (q : Fin 1024) (K : Fin 8192) (Q : Fin 2048) (hK : K.val = (t.val % 4) * 2048 + k.val)
    (hQ : Q.val = (t.val / 4 % 2) * 1024 + q.val) :
    (iblk m c 1 t : FVec Ideal S2048x1024 .bf16) (ix2 k q) = (m (c, main_arg2) : FVec Ideal S8192x2048 .f32) (ix2 K Q) := by
  unfold iblk
  rw [View.read_apply]
  refine (congrFun (V_right m c) (((cfg0.win 1).blk t).view.emb (ix2 k q))).trans ?_
  show (m (c, main_arg2) : FVec Ideal S8192x2048 .f32) _ = _
  congr 1
  funext a
  apply Fin.ext
  match a with
  | ⟨0, _⟩ => show win0_1.index t 0 * 2048 + 1 * k.val = K.val; rw [(places t).2.2.1]; omega
  | ⟨1, _⟩ => show win0_1.index t 1 * 1024 + 1 * q.val = Q.val; rw [(places t).2.2.2]; omega

/-- One term of the host's product. -/
def term (P : Fin 8192) (Q : Fin 2048) (K : Fin 8192) : EReal :=
  Cert.Reference3Ideal.Read.val_main_v1 (F := Ideal) (m (c, main_arg0)) (ix2 K P) * (m (c, main_arg2) : FVec Ideal S8192x2048 .f32) (ix2 K Q)

theorem part_at (t : Fin cfg0.N) (p q : Fin 1024) (P : Fin 8192) (Q : Fin 2048) (r : ℕ) (hr : r < 4) (ht : t.val % 4 = r)
    (hP : P.val = (t.val / 8) * 1024 + p.val) (hQ : Q.val = (t.val / 4 % 2) * 1024 + q.val) :
    part (F := Ideal) (iblk m c 0 t) (iblk m c 1 t) (ix2 p q) = ∑ k : Fin 2048, term m c P Q ⟨r * 2048 + k.val, by omega⟩ := by
  unfold part
  refine (byRows_apply _ _ _ _ p q).trans ?_
  refine ((congrArg (· + _) (show (constant S1024x1024 .f32 0x00000000#32 : FVec Ideal S1024x1024 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- What the last of four points writes, at an index. -/
theorem written_at (n : ℕ) (hn : 4 * n + 3 < cfg0.N) (p q : Fin 1024) (P : Fin 8192) (Q : Fin 2048)
    (hP : P.val = (n / 2) * 1024 + p.val) (hQ : Q.val = (n % 2) * 1024 + q.val) :
    (outsAt0 m c (4 * n + 3) hn).1 (ix2 p q) = ∑ K : Fin 8192, term m c P Q K := by
  rw [written c m n hn]
  exact sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- An element of the array the call leaves. -/
theorem final_at (P : Fin 8192) (Q : Fin 2048) : (Value.G2 m c : FVec Ideal S8192x2048 .bf16) (ix2 P Q) = ∑ K : Fin 8192, term m c P Q K := by
  have hN : cfg0.N = 64 := N_0
  have hn : Value.run2Of (ix2 P Q) = 2 * (P.val / 1024 - 0) + 1 * (Q.val / 1024 - 0) := rfl
  have hb : Value.pt2Of (ix2 P Q) < cfg0.N := by
    show 4 * Value.run2Of (ix2 P Q) + 3 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written_at m c _ hb _ _ P Q (by rw [hn]; dsimp only; omega) (by rw [hn]; dsimp only; omega)

/-- An element of the host's result. -/
theorem host_at (P : Fin 8192) (Q : Fin 2048) :
    (Cert.Reference3Ideal.Read.val_main_v5 (F := Ideal) (m (c, main_arg0)) (m (c, main_arg2)) : FVec Ideal S8192x2048 .bf16) (ix2 P Q)
      = ∑ K : Fin 8192, term m c P Q K := by
  refine (Cert.Reference3Ideal.Read.val_main_v4_apply (F := Ideal) _ _ (ix2 P Q)).trans ?_
  refine (Cert.Reference3Ideal.Read.val_main_v3_apply _ _ _).trans ?_
  refine Finset.sum_congr rfl fun K _ => (mul_comm _ _).trans ?_
  refine congrArg₂ (· * ·) (congrArg _ ?_) (congrArg _ ?_)
  · funext a; match a with | ⟨0, _⟩ => rfl | ⟨1, _⟩ => rfl
  · funext a; match a with | ⟨0, _⟩ => rfl | ⟨1, _⟩ => rfl

theorem same : (Value.G2 m c : FVec Ideal S8192x2048 .bf16)
    = Cert.Reference3Ideal.Read.val_main_v5 (F := Ideal) (m (c, main_arg0)) (m (c, main_arg2)) := by
  funext y
  rw [eq_ix2 y]
  exact (final_at m c _ _).trans (host_at m c _ _).symm

end Read

/-! ## The claims -/

theorem ref_rests : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run m ρ)

theorem same_result : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => Cert.Kernel3Ideal.Value.G2 m c, Cert.Kernel3Ideal.Value.run m ρ, ?_⟩
  refine (θ_run Cert.Reference3Ideal.defs _ _).mono (fun r h c => ⟨(h c).1.trans ?_, (h c).2⟩) (Cert.Reference3Ideal.Value.run m' ρ')
  refine (Cert.Reference3Ideal.Read.val_main_v5_eq (F := Ideal) _ _).trans (Eq.trans ?_ (same m c).symm)
  exact congrArg₂ (fun a b => Cert.Reference3Ideal.Read.val_main_v5 (F := Ideal) a b) (hargs c).1 (hargs c).2.2

end Cert.K3

end
-- ==== Proof.K4.lean ====
/-
  The gradient of the channel mixers' first product to its input: what the call leaves is the host's product.
-/
module

public import proofs.«01_k».proof.Proof.Product
public import proofs.«01_k».proof.Defs
public import Idealize.ShloMosaic.Lib.Quiescent
public import proofs.«01_k».proof.Proof.Gen.Kernel4Ideal.Value
public import proofs.«01_k».proof.Proof.Gen.Reference4Ideal.Read
public import Idealize.ShloMosaic.Lib.Tactic
public import Idealize.ShloMosaic.Lib.ValueLayout
public import Idealize.ShloMosaic.Lib.Pipeline.ValueKit.Tiles

@[expose] public section

set_option maxRecDepth 16384

noncomputable section

namespace Cert.K4

open Idealize.ShloMosaic Idealize.ShloMosaic.TcCoe Idealize.SL.Sem Idealize.ShloMosaic.StableHlo Idealize.ShloMosaic.ValueIdx
open Cert.Kernel4Ideal Cert.Kernel4Ideal.Gen Cert.Product

section Body

variable {F : FTy → Type} [FloatOps F]

/-- One device's rows of a block of two. -/
def slab (b : Fin 2) (w : FVec F S2x1024x1024 .bf16) : FVec F S1x1024x1024 .bf16 := fun j => w (ix3 b (j 1) (j 2))

theorem ld_first (w : FVec F S2x1024x1024 .bf16) :
    View.ld (Val := Elt F) (e' := .bf16) w (Rect.unit (s := S2x1024x1024) ![0, 0, 0] S1x1024x1024.size inb_S2x1024x1024_S1x1024x1024_0_0_0) = slab 0 w :=
  funext fun j => show _ = w (ix3 0 (j 1) (j 2)) from View.ld_unit_apply_of _ _ _ _ j (ix3 0 (j 1) (j 2)) fun a => by
    have h0 : (j 0).val < 1 := (j 0).isLt
    match a with
    | ⟨0, _⟩ => show 0 = 0 + (j 0).val; omega
    | ⟨1, _⟩ => show (j 1).val = 0 + (j 1).val; omega
    | ⟨2, _⟩ => show (j 2).val = 0 + (j 2).val; omega

theorem ld_second (w : FVec F S2x1024x1024 .bf16) :
    View.ld (Val := Elt F) (e' := .bf16) w (Rect.unit (s := S2x1024x1024) ![1, 0, 0] S1x1024x1024.size inb_S2x1024x1024_S1x1024x1024_1_0_0) = slab 1 w :=
  funext fun j => show _ = w (ix3 1 (j 1) (j 2)) from View.ld_unit_apply_of _ _ _ _ j (ix3 1 (j 1) (j 2)) fun a => by
    have h0 : (j 0).val < 1 := (j 0).isLt
    match a with
    | ⟨0, _⟩ => show 1 = 1 + (j 0).val; omega
    | ⟨1, _⟩ => show (j 1).val = 0 + (j 1).val; omega
    | ⟨2, _⟩ => show (j 2).val = 0 + (j 2).val; omega

/-- The product of the two blocks of a point, a device's columns at a time. -/
def part (x : FVec F S1024x2048 .bf16) (w : FVec F S2x1024x1024 .bf16) : FVec F S1024x1024 .f32 :=
  k0_pay1 x (slab 0 w) (slab 1 w)

theorem pay (x : FVec F S1024x2048 .bf16) (w : FVec F S2x1024x1024 .bf16) :
    k0_pay1 x (View.ld (Val := Elt F) (e' := .bf16) w (Rect.unit (s := S2x1024x1024) ![0, 0, 0] S1x1024x1024.size inb_S2x1024x1024_S1x1024x1024_0_0_0))
      (View.ld (Val := Elt F) (e' := .bf16) w (Rect.unit (s := S2x1024x1024) ![1, 0, 0] S1x1024x1024.size inb_S2x1024x1024_S1x1024x1024_1_0_0)) = part x w :=
  congrArg₂ (k0_pay1 x) (ld_first w) (ld_second w)

variable (c : Dev nD) (i : grid0.Coords) (a3 : Memref sig .tc .vmem S1024x2048 .bf16) (h3 : a3.IsWhole)
  (a4 : Memref sig .tc .vmem S2x1024x1024 .bf16) (h4 : a4.IsWhole) (a5 : Memref sig .tc .vmem S1024x1024 .f32) (h5 : a5.IsWhole)
  (a6 : Memref sig .tc .vmem S1024x1024 .f32) (h6 : a6.IsWhole)
  (x : FVec F S1024x2048 .bf16) (w : FVec F S2x1024x1024 .bf16) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S1024x2048) zero2, shapeCast_self]
  exact pay x w

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S1024x2048) zero2, View.ld_unit_zero (S := S1024x1024) zero2,
    shapeCast_self]
  exact congrArg (addf s) (pay x w)

/-- The last point writes the sum. -/
theorem last (hc0 : ¬cond0_0 i) (hc1 : cond0_1 i) (hc2 : cond0_2 i) :
    out0_C_2 c i a3 h3 a4 h4 a5 h5 a6 h6 hc0 hc1 hc2 x w s = addf s (part x w) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x1024) _ zero2]
  unfold k0_pay3
  simp only [View.readAt_eq_ld, h3.read_unread, h4.read_unread, h6.read_unread, View.ld_unit_zero (S := S1024x2048) zero2, View.ld_unit_zero (S := S1024x1024) zero2,
    shapeCast_self]
  exact congrArg (addf s) (pay x w)

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 4 = 0) (h1 : 1 ≤ t.val % 4) (h2 : t.val % 4 = 3) :
    (outsAt0 m c t.val t.isLt).1 = addf (outsAt0 m c (t.val - 1) (Nat.lt_of_le_of_lt (Nat.sub_le _ _) t.isLt)).2 (part (F := F) (iblk m c 0 t) (iblk m c 1 t)) := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- What the last point of a run writes back. -/
theorem written (n : ℕ) (hn : 4 * n + 3 < cfg0.N) :
    (outsAt0 m c (4 * n + 3) hn).1 = addf (addf (addf (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩)) := by
  have h4 := carried_last c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  rw [← h1]
  refine h4.trans ?_
  refine congrArg (fun s => addf s _) (h3.trans ?_)
  exact congrArg (fun s => addf s _) h2

end Body

/-! ## Read at an index -/

section Read

variable (m : (ℓ : Loc nD τ sig) → Buf (Elt Ideal) ℓ) (c : Dev nD)

/-- The left operand before it is rounded. -/
def left : FVec Ideal S8192x8192 .f32 := m (c, main_arg2)

/-- The right operand before it is rounded. -/
def right : FVec Ideal S2048x8192 .f32 := m (c, main_arg1)

/-- The left operand as the call reads it. -/
theorem V_left : V m c main_v0 = (truncf .bf16 (left m c) bitsLt_bf16_f32 : FVec Ideal S8192x8192 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 8 ∧ win0_0.index t (1 : Fin 2) = t.val % 4
    ∧ win0_1.index t (0 : Fin 3) = t.val % 4 ∧ win0_1.index t (1 : Fin 3) = t.val / 4 % 2 ∧ win0_1.index t (2 : Fin 3) = 0 :=
  (by decide +kernel : ∀ t : Fin grid0.N, _)

theorem left_at (t : Fin cfg0.N) (k : Fin 2048) (p : Fin 1024) (K : Fin 8192) (P : Fin 8192) (hK : K.val = (t.val % 4) * 2048 + k.val)
    (hP : P.val = (t.val / 8) * 1024 + p.val) :
    (iblk m c 0 t : FVec Ideal S1024x2048 .bf16) (ix2 p k) = left m c (ix2 P K) := by
  unfold iblk
  rw [View.read_apply]
  refine (congrFun (V_left m c) (((cfg0.win 0).blk t).view.emb (ix2 p k))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * k.val = K.val; rw [(places t).2.1]; omega

/-- The right operand as the call reads it. -/
theorem V_right : V m c main_v3 = (truncf .bf16 (transpose S8x2048x1024 [1, 0, 2] (shapeCast S2048x8x1024 (right m c) shapeCasts_S2048x8192_S2048x8x1024) transposes_S2048x8x1024_S8x2048x1024_1_0_2 : FVec Ideal S8x2048x1024 .f32) bitsLt_bf16_f32 : FVec Ideal S8x2048x1024 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem right_at (t : Fin cfg0.N) (b : Fin 2) (k : Fin 1024) (q : Fin 1024) (K : Fin 8192) (Q : Fin 2048)
    (hK : K.val = (t.val % 4) * 2048 + b.val * 1024 + k.val) (hQ : Q.val = (t.val / 4 % 2) * 1024 + q.val) :
    (iblk m c 1 t : FVec Ideal S2x1024x1024 .bf16) (ix3 b q k) = right m c (ix2 Q K) := by
  unfold iblk
  rw [View.read_apply]
  refine (congrFun (V_right m c) (((cfg0.win 1).blk t).view.emb (ix3 b q k))).trans ?_
  have e : (((cfg0.win 1).blk t).view.emb (ix3 b q k) : S8x2048x1024.Idx) = ix3 (⟨(t.val % 4) * 2 + b.val, by omega⟩ : Fin 8) Q k := by
    funext a
    apply Fin.ext
    match a with
    | ⟨0, _⟩ => show win0_1.index t 0 * 2 + 1 * b.val = (t.val % 4) * 2 + b.val; rw [(places t).2.2.1]; omega
    | ⟨1, _⟩ => show win0_1.index t 1 * 1024 + 1 * q.val = Q.val; rw [(places t).2.2.2.1]; omega
    | ⟨2, _⟩ => show win0_1.index t 2 * 1024 + 1 * k.val = k.val; rw [(places t).2.2.2.2]; omega
  refine (congrArg _ e).trans ?_
  refine (transpose_apply [1, 0, 2] (shapeCast S2048x8x1024 (right m c) shapeCasts_S2048x8192_S2048x8x1024)
    transposes_S2048x8x1024_S8x2048x1024_1_0_2 _ (ix3 Q (⟨(t.val % 4) * 2 + b.val, by omega⟩ : Fin 8) k)
    (fun a => match a with | ⟨0, _⟩ => rfl | ⟨1, _⟩ => rfl | ⟨2, _⟩ => rfl)).trans ?_
  refine shapeCast_apply (right m c) shapeCasts_S2048x8192_S2048x8x1024 _ (ix2 Q K) ?_
  rewrite [Shape.rowMajor_val_two, Shape.rowMajor_val_three]
  show Q.val * 8192 + K.val = (Q.val * 8 + ((t.val % 4) * 2 + b.val)) * 1024 + k.val
  omega

/-- A product of two blocks from its terms. -/
theorem half_at (xs ys : FVec Ideal S1024x1024 .bf16) (p q : Fin 1024) (f : Fin 1024 → EReal)
    (h : ∀ k, xs (ix2 p k) * ys (ix2 q k) = f k) :
    FloatOps.matmul dot_S1024x1024_S1024x1024_S1024x1024_1_1_0_0_n_n none xs ys (constant S1024x1024 .f32 0x00000000#32) (ix2 p q) = ∑ k, f k := by
  refine (Ideal.matmul_transposedRhs_apply none _ _ _ p q).trans ?_
  refine ((congrArg (· + _) (show (constant S1024x1024 .f32 0x00000000#32 : FVec Ideal S1024x1024 .f32) (ix2 p q) = 0 from Ideal.ofBits_zero_f32)).trans (zero_add _)).trans ?_
  exact Finset.sum_congr rfl fun k _ => h k

/-- The loaded rows of one device. -/
theorem slab_at (b : Fin 2) (w : FVec Ideal S2x1024x1024 .bf16) (q k : Fin 1024) :
    shapeCast S1024x1024 (slab b w) shapeCasts_S1x1024x1024_S1024x1024 (ix2 q k) = w (ix3 b q k) :=
  shapeCast_1ab_ab_apply _ _ _ _

/-- One term of the host's product. -/
def term (P : Fin 8192) (Q : Fin 2048) (K : Fin 8192) : EReal :=
  left m c (ix2 P K) * right m c (ix2 Q K)

theorem part_at (t : Fin cfg0.N) (p : Fin 1024) (q : Fin 1024) (P : Fin 8192) (Q : Fin 2048) (r : ℕ) (hr : r < 4) (ht : t.val % 4 = r)
    (hP : P.val = (t.val / 8) * 1024 + p.val) (hQ : Q.val = (t.val / 4 % 2) * 1024 + q.val) :
    part (F := Ideal) (iblk m c 0 t) (iblk m c 1 t) (ix2 p q) = ∑ k : Fin 2048, term m c P Q ⟨r * 2048 + k.val, by omega⟩ := by
  rw [sum_split (show 2048 = 1024 + 1024 from rfl) fun k : Fin 2048 => term m c P Q ⟨r * 2048 + k.val, by omega⟩]
  unfold part k0_pay1
  simp only [shapeCast_self]
  refine congrArg₂ (· + ·) (half_at _ _ p q _ fun k => ?_) (half_at _ _ p q _ fun k => ?_)
  · rw [slab_at, right_at m c t 0 k q ⟨r * 2048 + k.val, by omega⟩ Q (by rw [ht]; show r * 2048 + k.val = r * 2048 + 0 * 1024 + k.val; omega) hQ]
    refine congrArg (· * _) ((extractStridedSlice_apply _ _ _ _ (ix2 p (⟨k.val, by omega⟩ : Fin 2048)) (fun a => ?_)).trans
      (left_at m c t ⟨k.val, by omega⟩ p ⟨r * 2048 + k.val, by omega⟩ P (by rw [ht]) hP))
    match a with
    | ⟨0, _⟩ => show p.val = 0 + p.val; omega
    | ⟨1, _⟩ => show k.val = 0 + k.val; omega
  · rw [slab_at, right_at m c t 1 k q ⟨r * 2048 + (1024 + k.val), by omega⟩ Q (by rw [ht]; show r * 2048 + (1024 + k.val) = r * 2048 + 1 * 1024 + k.val; omega) hQ]
    refine congrArg (· * _) ((extractStridedSlice_apply _ _ _ _ (ix2 p (⟨1024 + k.val, by omega⟩ : Fin 2048)) (fun a => ?_)).trans
      (left_at m c t ⟨1024 + k.val, by omega⟩ p ⟨r * 2048 + (1024 + k.val), by omega⟩ P (by rw [ht]) hP))
    match a with
    | ⟨0, _⟩ => show p.val = 0 + p.val; omega
    | ⟨1, _⟩ => show 1024 + k.val = 1024 + k.val; rfl

/-- What the last point of a run writes, at an index. -/
theorem written_at (n : ℕ) (hn : 4 * n + 3 < cfg0.N) (p : Fin 1024) (q : Fin 1024) (P : Fin 8192) (Q : Fin 2048)
    (hP : P.val = (n / 2) * 1024 + p.val) (hQ : Q.val = (n % 2) * 1024 + q.val) :
    (outsAt0 m c (4 * n + 3) hn).1 (ix2 p q) = ∑ K : Fin 8192, term m c P Q K := by
  rw [written c m n hn]
  exact sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- An element of the array the call leaves. -/
theorem final_at (P : Fin 8192) (Q : Fin 2048) : (Value.G2 m c : FVec Ideal S8192x2048 .f32) (ix2 P Q) = ∑ K : Fin 8192, term m c P Q K := by
  have hN : cfg0.N = 64 := N_0
  have hn : Value.run2Of (ix2 P Q) = 2 * (P.val / 1024 - 0) + 1 * (Q.val / 1024 - 0) := rfl
  have hb : Value.pt2Of (ix2 P Q) < cfg0.N := by
    show 4 * Value.run2Of (ix2 P Q) + 3 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written_at m c _ hb _ _ P Q (by rw [hn]; dsimp only; omega) (by rw [hn]; dsimp only; omega)

/-- An element of the host's result. -/
theorem host_at (P : Fin 8192) (Q : Fin 2048) :
    (Cert.Reference4Ideal.Read.val_main_v1 (F := Ideal) (m (c, main_arg1)) (m (c, main_arg2)) : FVec Ideal S8192x2048 .f32) (ix2 P Q)
      = ∑ K : Fin 8192, term m c P Q K := by
  refine (Cert.Reference4Ideal.Read.val_main_v1_apply _ _ _).trans ?_
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same : (Value.G2 m c : FVec Ideal S8192x2048 .f32)
    = Cert.Reference4Ideal.Read.val_main_v1 (F := Ideal) (m (c, main_arg1)) (m (c, main_arg2)) := by
  funext y
  rw [eq_ix2 y]
  exact (final_at m c _ _).trans (host_at m c _ _).symm

end Read

/-! ## The claims -/

theorem ref_rests : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run m ρ)

theorem same_result : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => Cert.Kernel4Ideal.Value.G2 m c, Cert.Kernel4Ideal.Value.run m ρ, ?_⟩
  refine (θ_run Cert.Reference4Ideal.defs _ _).mono (fun r h c => ⟨(h c).1.trans ?_, (h c).2⟩) (Cert.Reference4Ideal.Value.run m' ρ')
  refine (Cert.Reference4Ideal.Read.val_main_v1_eq (F := Ideal) _ _).trans (Eq.trans ?_ (same m c).symm)
  exact congrArg₂ (fun a b => Cert.Reference4Ideal.Read.val_main_v1 (F := Ideal) a b) (hargs c).2.1 (hargs c).2.2

end Cert.K4

end
-- ==== Proof.K5.lean ====
/-
  The first channel-mixer weight's gradient, a device's columns after another's: what the call leaves is the host's product.
-/
module

public import proofs.«01_k».proof.Proof.Product
public import proofs.«01_k».proof.Defs
public import Idealize.ShloMosaic.Lib.Quiescent
public import proofs.«01_k».proof.Proof.Gen.Kernel5Ideal.Value
public import proofs.«01_k».proof.Proof.Gen.Reference5Ideal.Read
public import Idealize.ShloMosaic.Lib.Tactic
public import Idealize.ShloMosaic.Lib.ValueLayout

@[expose] public section

set_option maxRecDepth 16384

noncomputable section

namespace Cert.K5

open Idealize.ShloMosaic Idealize.ShloMosaic.TcCoe Idealize.SL.Sem Idealize.ShloMosaic.StableHlo Idealize.ShloMosaic.ValueIdx
open Cert.Kernel5Ideal Cert.Kernel5Ideal.Gen Cert.Product

section Body

variable {F : FTy → Type} [FloatOps F]

/-- The product of the two blocks of a point. -/
def part (x : FVec F S2048x1024 .bf16) (w : FVec F S2048x1024 .bf16) : FVec F S1024x1024 .f32 :=
  FloatOps.matmul dot_S2048x1024_S2048x1024_S1024x1024_0_0_1_1_n_n none x w (constant S1024x1024 .f32 0x00000000#32)

theorem pay (x : FVec F S2048x1024 .bf16) (w : FVec F S2048x1024 .bf16) : k0_pay1 x w = part x w := by
  unfold k0_pay1 part
  simp only [shapeCast_self]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .bf16) (h5 : a5.IsWhole)
  (a6 : Memref sig .tc .vmem S1024x1024 .f32) (h6 : a6.IsWhole)
  (x : FVec F S2048x1024 .bf16) (w : FVec F S2048x1024 .bf16) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S2048x1024) zero2, shapeCast_self, pay]

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S2048x1024) zero2, View.ld_unit_zero (S := S1024x1024) zero2,
    shapeCast_self, pay]

/-- The last point writes the sum, rounded. -/
theorem last (hc0 : ¬cond0_0 i) (hc1 : cond0_1 i) (hc2 : cond0_2 i) :
    out0_C_2 c i a3 h3 a4 h4 a5 h5 a6 h6 hc0 hc1 hc2 x w s = k0_pay4 (addf s (part x w)) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero3, View.readCov_unit_zero (S := S1024x1024) _ zero2]
  unfold k0_pay3
  simp only [View.readAt_eq_ld, h3.read_unread, h4.read_unread, h6.read_unread, View.ld_unit_zero (S := S2048x1024) zero2, View.ld_unit_zero (S := S1024x1024) zero2,
    shapeCast_self, pay]

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 4 = 0) (h1 : 1 ≤ t.val % 4) (h2 : t.val % 4 = 3) :
    (outsAt0 m c t.val t.isLt).1 = k0_pay4 (addf (outsAt0 m c (t.val - 1) (Nat.lt_of_le_of_lt (Nat.sub_le _ _) t.isLt)).2 (part (F := F) (iblk m c 0 t) (iblk m c 1 t))) := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- What the last point of a run writes back. -/
theorem written (n : ℕ) (hn : 4 * n + 3 < cfg0.N) :
    (outsAt0 m c (4 * n + 3) hn).1 = k0_pay4 (addf (addf (addf (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩))) := by
  have h4 := carried_last c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  rw [← h1]
  refine h4.trans ?_
  refine congrArg (fun s => k0_pay4 (addf s _)) (h3.trans ?_)
  exact congrArg (fun s => addf s _) h2

end Body

/-! ## Read at an index -/

section Read

variable (m : (ℓ : Loc nD τ sig) → Buf (Elt Ideal) ℓ) (c : Dev nD)

/-- The left operand before it is rounded. -/
def left : FVec Ideal S8192x2048 .f32 := m (c, main_arg0)

/-- The right operand before it is rounded. -/
def right : FVec Ideal S8192x8192 .f32 := m (c, main_arg2)

/-- The left operand as the call reads it. -/
theorem V_left : V m c main_v0 = (truncf .bf16 (left m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S8192x8192 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val % 4 ∧ win0_0.index t (1 : Fin 2) = t.val / 32
    ∧ win0_1.index t (0 : Fin 2) = t.val % 4 ∧ win0_1.index t (1 : Fin 2) = t.val / 4 % 8 :=
  (by decide +kernel : ∀ t : Fin grid0.N, _)

theorem left_at (t : Fin cfg0.N) (k : Fin 2048) (p : Fin 1024) (K : Fin 8192) (P : Fin 2048) (hK : K.val = (t.val % 4) * 2048 + k.val)
    (hP : P.val = (t.val / 32) * 1024 + p.val) :
    (iblk m c 0 t : FVec Ideal S2048x1024 .bf16) (ix2 k p) = left m c (ix2 K P) := by
  unfold iblk
  rw [View.read_apply]
  refine (congrFun (V_left m c) (((cfg0.win 0).blk t).view.emb (ix2 k p))).trans ?_
  show left m c _ = _
  congr 1
  funext a
  apply Fin.ext
  match a with
  | ⟨0, _⟩ => show win0_0.index t 0 * 2048 + 1 * k.val = K.val; rw [(places t).1]; omega
  | ⟨1, _⟩ => show win0_0.index t 1 * 1024 + 1 * p.val = P.val; rw [(places t).2.1]; omega

theorem right_at (t : Fin cfg0.N) (k : Fin 2048) (q : Fin 1024) (K : Fin 8192) (Q : Fin 8192) (hK : K.val = (t.val % 4) * 2048 + k.val)
    (hQ : Q.val = (t.val / 4 % 8) * 1024 + q.val) :
    (iblk m c 1 t : FVec Ideal S2048x1024 .bf16) (ix2 k q) = right m c (ix2 K Q) := by
  unfold iblk
  rw [View.read_apply]
  refine (congrFun (V_right m c) (((cfg0.win 1).blk t).view.emb (ix2 k q))).trans ?_
  show right m c _ = _
  congr 1
  funext a
  apply Fin.ext
  match a with
  | ⟨0, _⟩ => show win0_1.index t 0 * 2048 + 1 * k.val = K.val; rw [(places t).2.2.1]; omega
  | ⟨1, _⟩ => show win0_1.index t 1 * 1024 + 1 * q.val = Q.val; rw [(places t).2.2.2]; omega

/-- One term of the host's product. -/
def term (P : Fin 2048) (Q : Fin 8192) (K : Fin 8192) : EReal :=
  left m c (ix2 K P) * right m c (ix2 K Q)

theorem part_at (t : Fin cfg0.N) (p : Fin 1024) (q : Fin 1024) (P : Fin 2048) (Q : Fin 8192) (r : ℕ) (hr : r < 4) (ht : t.val % 4 = r)
    (hP : P.val = (t.val / 32) * 1024 + p.val) (hQ : Q.val = (t.val / 4 % 8) * 1024 + q.val) :
    part (F := Ideal) (iblk m c 0 t) (iblk m c 1 t) (ix2 p q) = ∑ k : Fin 2048, term m c P Q ⟨r * 2048 + k.val, by omega⟩ := by
  unfold part
  refine (byRows_apply _ _ _ _ p q).trans ?_
  refine ((congrArg (· + _) (show (constant S1024x1024 .f32 0x00000000#32 : FVec Ideal S1024x1024 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- What the last point of a run writes, at an index. -/
theorem written_at (n : ℕ) (hn : 4 * n + 3 < cfg0.N) (p : Fin 1024) (q : Fin 1024) (P : Fin 2048) (Q : Fin 8192)
    (hP : P.val = (n / 8) * 1024 + p.val) (hQ : Q.val = (n % 8) * 1024 + q.val) :
    (outsAt0 m c (4 * n + 3) hn).1 (ix3 0 p q) = ∑ K : Fin 8192, term m c P Q K := by
  rw [written c m n hn]
  unfold k0_pay4
  refine (shapeCast_ab_1ab_apply _ _ _ _ _).trans ?_
  exact sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- An element of the array the call leaves. -/
theorem final_at (J : Fin 8) (P : Fin 2048) (q : Fin 1024) : (Value.G2 m c : FVec Ideal S8x2048x1024 .bf16) (ix3 J P q)
    = ∑ K : Fin 8192, term m c P ⟨J.val * 1024 + q.val, by omega⟩ K := by
  have hN : cfg0.N = 64 := N_0
  have hn : Value.run2Of (ix3 J P q) = 1 * (J.val / 1 - 0) + 8 * (P.val / 1024 - 0) + 16 * (q.val / 1024 - 0) := rfl
  have hb : Value.pt2Of (ix3 J P q) < cfg0.N := by
    show 4 * Value.run2Of (ix3 J P q) + 3 < _
    omega
  unfold Value.G2
  rw [dif_pos hb, ← Value.outsAt0_sweep m c _ hb]
  have hy : Value.loc2Of (ix3 J P q) = ix3 (0 : Fin 1) (⟨P.val % 1024, Nat.mod_lt _ (by decide)⟩ : Fin 1024) q := by
    funext a
    match a with
    | ⟨0, _⟩ => exact Fin.ext (Nat.mod_one _)
    | ⟨1, _⟩ => rfl
    | ⟨2, _⟩ => exact Fin.ext (Nat.mod_eq_of_lt q.isLt)
  rw [hy]
  exact written_at m c _ hb _ _ P _ (by rw [hn]; dsimp only; omega) (by rw [hn]; dsimp only; omega)

/-- An element of the host's result. -/
theorem host_at (J : Fin 8) (P : Fin 2048) (q : Fin 1024) :
    (Cert.Reference5Ideal.Read.val_main_v5 (F := Ideal) (m (c, main_arg0)) (m (c, main_arg2)) : FVec Ideal S8x2048x1024 .bf16) (ix3 J P q)
      = ∑ K : Fin 8192, term m c P ⟨J.val * 1024 + q.val, by omega⟩ K := by
  refine (Cert.Reference5Ideal.Read.val_main_v4_apply (F := Ideal) _ _ (ix3 J P q)).trans ?_
  refine (Cert.Reference5Ideal.Read.val_main_v3_apply (F := Ideal) _ _ _).trans ?_
  refine (Cert.Reference5Ideal.Read.val_main_v2_apply (F := Ideal) _ _ _).trans ?_
  refine (Cert.Reference5Ideal.Read.val_main_v1_apply _ _ _).trans ?_
  refine Finset.sum_congr rfl fun K _ => (mul_comm _ _).trans ?_
  refine congrArg₂ (· * ·) (congrArg (left m c) ?_) (congrArg (right m c) ?_)
  · funext a; match a with | ⟨0, _⟩ => rfl | ⟨1, _⟩ => exact Fin.ext (show ((P.val * 8 + J.val) * 1024 + q.val) / 8192 = P.val by omega)
  · funext a; match a with | ⟨0, _⟩ => rfl | ⟨1, _⟩ => exact Fin.ext (show ((P.val * 8 + J.val) * 1024 + q.val) % 8192 = J.val * 1024 + q.val by omega)

theorem same : (Value.G2 m c : FVec Ideal S8x2048x1024 .bf16)
    = Cert.Reference5Ideal.Read.val_main_v5 (F := Ideal) (m (c, main_arg0)) (m (c, main_arg2)) := by
  funext y
  rw [eq_ix3 y]
  exact (final_at m c _ _ _).trans (host_at m c _ _ _).symm

end Read

/-! ## The claims -/

theorem ref_rests : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run m ρ)

theorem same_result : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => Cert.Kernel5Ideal.Value.G2 m c, Cert.Kernel5Ideal.Value.run m ρ, ?_⟩
  refine (θ_run Cert.Reference5Ideal.defs _ _).mono (fun r h c => ⟨(h c).1.trans ?_, (h c).2⟩) (Cert.Reference5Ideal.Value.run m' ρ')
  refine (Cert.Reference5Ideal.Read.val_main_v5_eq (F := Ideal) _ _).trans (Eq.trans ?_ (same m c).symm)
  exact congrArg₂ (fun a b => Cert.Reference5Ideal.Read.val_main_v5 (F := Ideal) a b) (hargs c).1 (hargs c).2.2

end Cert.K5

end
-- ==== Proof.K6.lean ====
/-
  The gradient of the state-space mixer's gated output: what the call leaves is the host's product.
-/
module

public import proofs.«01_k».proof.Proof.Product
public import proofs.«01_k».proof.Defs
public import Idealize.ShloMosaic.Lib.Quiescent
public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.K6

open Idealize.ShloMosaic hiding ix2 ix3 eq_ix2 eq_ix3
open Idealize.ShloMosaic.TcCoe Idealize.SL.Sem Idealize.ShloMosaic.StableHlo Idealize.ShloMosaic.ValueIdx
open Cert.Kernel6Ideal Cert.Kernel6Ideal.Gen Cert.Product

section Body

variable {F : FTy → Type} [FloatOps F]

/-- The product of the two blocks of a point. -/
def part (x : FVec F S1024x2048 .bf16) (w : FVec F S1024x2048 .bf16) : FVec F S1024x1024 .f32 :=
  FloatOps.matmul dot_S1024x2048_S1024x2048_S1024x1024_1_1_0_0_n_n none x w (constant S1024x1024 .f32 0x00000000#32)

theorem out_eq (x : FVec F S1024x2048 .bf16) (w : FVec F S1024x2048 .bf16) : out0_2 x w = part x w := by
  unfold out0_2
  rw [View.canon_unit_zero zero2]
  simp only [View.ld_unit_zero (S := S1024x2048) zero2, View.ld_unit_zero (S := S1024x2048) zero2]
  unfold k0_pay1 part
  simp only [shapeCast_self]

end Body

/-! ## Read at an index -/

section Read

variable (m : (ℓ : Loc nD τ sig) → Buf (Elt Ideal) ℓ) (c : Dev nD)

/-- The left operand before it is rounded. -/
def left : FVec Ideal S8192x2048 .f32 := m (c, main_arg2)

/-- The right operand before it is rounded. -/
def right : FVec Ideal S4096x2048 .f32 := m (c, main_arg1)

/-- The left operand as the call reads it. -/
theorem V_left : V m c main_v0 = (truncf .bf16 (left m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S4096x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 4
    ∧ win0_0.index t (1 : Fin 2) = 0
    ∧ win0_1.index t (0 : Fin 2) = t.val % 4
    ∧ win0_1.index t (1 : Fin 2) = 0
    ∧ win0_2.index t (0 : Fin 2) = t.val / 4
    ∧ win0_2.index t (1 : Fin 2) = t.val % 4 :=
  (by decide +kernel : ∀ t : Fin grid0.N, _)

theorem left_at (t : Fin cfg0.N) (p : Fin 1024) (K : Fin 2048) (P : Fin 8192) (hP : P.val = (t.val / 4) * 1024 + p.val) :
    (iblk m c 0 t : FVec Ideal S1024x2048 .bf16) (ix2 p K) = left m c (ix2 P K) := by
  unfold iblk
  rw [View.read_apply]
  refine (congrFun (V_left m c) (((cfg0.win 0).blk t).view.emb (ix2 p K))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * K.val = K.val; rw [(places t).2.1]; omega

theorem right_at (t : Fin cfg0.N) (q : Fin 1024) (K : Fin 2048) (Q : Fin 4096) (hQ : Q.val = (t.val % 4) * 1024 + q.val) :
    (iblk m c 1 t : FVec Ideal S1024x2048 .bf16) (ix2 q K) = right m c (ix2 Q K) := by
  unfold iblk
  rw [View.read_apply]
  refine (congrFun (V_right m c) (((cfg0.win 1).blk t).view.emb (ix2 q K))).trans ?_
  show right m c _ = _
  congr 1
  funext a
  apply Fin.ext
  match a with
  | ⟨0, _⟩ => show win0_1.index t 0 * 1024 + 1 * q.val = Q.val; rw [(places t).2.2.1]; omega
  | ⟨1, _⟩ => show win0_1.index t 1 * 2048 + 1 * K.val = K.val; rw [(places t).2.2.2.1]; omega

/-- An element of the host's product. -/
def dot (P : Fin 8192) (Q : Fin 4096) : EReal := ∑ K : Fin 2048, left m c (ix2 P K) * right m c (ix2 Q K)

theorem part_at (t : Fin cfg0.N) (p : Fin 1024) (q : Fin 1024) (P : Fin 8192) (Q : Fin 4096)
    (hP : P.val = (t.val / 4) * 1024 + p.val) (hQ : Q.val = (t.val % 4) * 1024 + q.val) :
    part (F := Ideal) (iblk m c 0 t) (iblk m c 1 t) (ix2 p q) = dot m c P Q := by
  unfold part
  refine (Ideal.matmul_transposedRhs_apply none _ _ _ p q).trans ?_
  refine ((congrArg (· + _) (show (constant S1024x1024 .f32 0x00000000#32 : FVec Ideal S1024x1024 .f32) (ix2 p q) = 0 from Ideal.ofBits_zero_f32)).trans (zero_add _)).trans ?_
  unfold dot
  refine Finset.sum_congr rfl fun K _ => ?_
  rw [left_at m c t p K P hP, right_at m c t q K Q hQ]

/-- The row of the result that a row of a point's block is. -/
def rowOf (t : Fin cfg0.N) (p : Fin 1024) : Fin 8192 :=
  ⟨(t.val / 4) * 1024 + p.val, by have h := t.isLt; have hN : cfg0.N = 32 := N_0; omega⟩

/-- The column of the result that a column of a point's block is. -/
def colOf (t : Fin cfg0.N) (q : Fin 1024) : Fin 4096 :=
  ⟨(t.val % 4) * 1024 + q.val, by omega⟩

theorem emb2 (t : Fin cfg0.N) (p : Fin 1024) (q : Fin 1024) :
    (((cfg0.win 2).blk t).view.emb (ix2 p q) : S8192x4096.Idx) = ix2 (rowOf t p) (colOf t q) := by
  funext a
  apply Fin.ext
  match a with
  | ⟨0, _⟩ => show win0_2.index t 0 * 1024 + 1 * p.val = (t.val / 4) * 1024 + p.val; rw [(places t).2.2.2.2.1]; omega
  | ⟨1, _⟩ => show win0_2.index t 1 * 1024 + 1 * q.val = (t.val % 4) * 1024 + q.val; rw [(places t).2.2.2.2.2]; omega

/-- An element of the host's result. -/
theorem host_at (P : Fin 8192) (Q : Fin 4096) :
    (Cert.Reference6Ideal.Read.val_main_v1 (F := Ideal) (m (c, main_arg1)) (m (c, main_arg2)) : FVec Ideal S8192x4096 .f32) (ix2 P Q) = dot m c P Q := by
  refine (Cert.Reference6Ideal.Read.val_main_v1_apply _ _ _).trans ?_
  unfold dot
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same : ((dats m 0 c).arrAt 2 cfg0.N : FVec Ideal S8192x4096 .f32)
    = Cert.Reference6Ideal.Read.val_main_v1 (F := Ideal) (m (c, main_arg1)) (m (c, main_arg2)) := by
  refine (dats m 0 c).arrAt_eq_of_covers 2 _ (by decide +kernel) fun t hf y => ?_
  blk_simp
  rw [after0_2, out_eq]
  have hy : y = ix2 (y 0 : Fin 1024) (y 1 : Fin 1024) := eq_ix2 y
  rw [hy]
  refine Eq.trans ?_ (congrArg (Cert.Reference6Ideal.Read.val_main_v1 (F := Ideal) (m (c, main_arg1)) (m (c, main_arg2)) : FVec Ideal S8192x4096 .f32) (emb2 t (y 0) (y 1))).symm
  refine Eq.trans ?_ (host_at m c (rowOf t (y 0)) (colOf t (y 1))).symm
  exact part_at m c t (y 0) (y 1) _ _ rfl rfl

end Read

/-! ## The claims -/

theorem ref_rests : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run m ρ)

theorem same_result : Cert.algebraic_Kernel6Ideal_Reference6Ideal (hKernel6Ideal := Cert.Kernel6Ideal.Gen.facts)
    (hReference6Ideal := Cert.Reference6Ideal.Gen.facts) := by
  intro m ρ m' ρ' _ hargs
  refine ⟨fun c => (Cert.Kernel6Ideal.Gen.dats m 0 c).arrAt 2 Cert.Kernel6Ideal.cfg0.N, Cert.Kernel6Ideal.Value.run_blocks m ρ, ?_⟩
  refine (θ_run Cert.Reference6Ideal.defs _ _).mono (fun r h c => ⟨(h c).1.trans ?_, (h c).2⟩) (Cert.Reference6Ideal.Value.run m' ρ')
  refine (Cert.Reference6Ideal.Read.val_main_v1_eq (F := Ideal) _ _).trans (Eq.trans ?_ (same m c).symm)
  exact congrArg₂ (fun a b => Cert.Reference6Ideal.Read.val_main_v1 (F := Ideal) a b) (hargs c).2.1 (hargs c).2.2

end Cert.K6

end
-- ==== Proof.K7.lean ====
/-
  The gradient of the state-space mixer's output weight: what the call leaves is the host's product.
-/
module

public import proofs.«01_k».proof.Proof.Product
public import proofs.«01_k».proof.Defs
public import Idealize.ShloMosaic.Lib.Quiescent
public import proofs.«01_k».proof.Proof.Gen.Kernel7Ideal.Value
public import proofs.«01_k».proof.Proof.Gen.Reference7Ideal.Read
public import Idealize.ShloMosaic.Lib.Tactic

@[expose] public section

set_option maxRecDepth 16384

noncomputable section

namespace Cert.K7

open Idealize.ShloMosaic Idealize.ShloMosaic.TcCoe Idealize.SL.Sem Idealize.ShloMosaic.StableHlo Idealize.ShloMosaic.ValueIdx
open Cert.Kernel7Ideal Cert.Kernel7Ideal.Gen Cert.Product

section Body

variable {F : FTy → Type} [FloatOps F]

/-- The product of the two blocks of a point. -/
def part (x : FVec F S2048x1024 .bf16) (w : FVec F S2048x1024 .bf16) : FVec F S1024x1024 .f32 :=
  FloatOps.matmul dot_S2048x1024_S2048x1024_S1024x1024_0_0_1_1_n_n none x w (constant S1024x1024 .f32 0x00000000#32)

theorem pay (x : FVec F S2048x1024 .bf16) (w : FVec F S2048x1024 .bf16) : k0_pay1 x w = part x w := by
  unfold k0_pay1 part
  simp only [shapeCast_self]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : FVec F S2048x1024 .bf16) (w : FVec F S2048x1024 .bf16) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S2048x1024) zero2, shapeCast_self, pay]

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S2048x1024) zero2, View.ld_unit_zero (S := S1024x1024) zero2,
    shapeCast_self, pay]

/-- The last point writes the sum, rounded. -/
theorem last (hc0 : ¬cond0_0 i) (hc1 : cond0_1 i) (hc2 : cond0_2 i) :
    out0_C_2 c i a3 h3 a4 h4 a5 h5 a6 h6 hc0 hc1 hc2 x w s = truncf .bf16 (addf s (part x w)) bitsLt_bf16_f32 := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x1024) _ zero2]
  unfold k0_pay4 k0_pay3
  simp only [View.readAt_eq_ld, h3.read_unread, h4.read_unread, h6.read_unread, View.ld_unit_zero (S := S2048x1024) zero2, View.ld_unit_zero (S := S1024x1024) zero2,
    shapeCast_self, pay]

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 4 = 0) (h1 : 1 ≤ t.val % 4) (h2 : t.val % 4 = 3) :
    (outsAt0 m c t.val t.isLt).1 = truncf .bf16 (addf (outsAt0 m c (t.val - 1) (Nat.lt_of_le_of_lt (Nat.sub_le _ _) t.isLt)).2 (part (F := F) (iblk m c 0 t) (iblk m c 1 t))) bitsLt_bf16_f32 := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- What the last point of a run writes back. -/
theorem written (n : ℕ) (hn : 4 * n + 3 < cfg0.N) :
    (outsAt0 m c (4 * n + 3) hn).1 = truncf .bf16 (addf (addf (addf (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩))) bitsLt_bf16_f32 := by
  have h4 := carried_last c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  rw [← h1]
  refine h4.trans ?_
  refine congrArg (fun s => truncf .bf16 (addf s _) bitsLt_bf16_f32) (h3.trans ?_)
  exact congrArg (fun s => addf s _) h2

end Body

/-! ## Read at an index -/

section Read

variable (m : (ℓ : Loc nD τ sig) → Buf (Elt Ideal) ℓ) (c : Dev nD)

/-- The left operand before it is rounded. -/
def left : FVec Ideal S8192x4096 .f32 := m (c, main_arg0)

/-- The right operand before it is rounded. -/
def right : FVec Ideal S8192x2048 .f32 := m (c, main_arg2)

/-- The left operand as the call reads it. -/
theorem V_left : V m c main_v0 = (truncf .bf16 (left m c) bitsLt_bf16_f32 : FVec Ideal S8192x4096 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val % 4 ∧ win0_0.index t (1 : Fin 2) = t.val / 8
    ∧ win0_1.index t (0 : Fin 2) = t.val % 4 ∧ win0_1.index t (1 : Fin 2) = t.val / 4 % 2 :=
  (by decide +kernel : ∀ t : Fin grid0.N, _)

theorem left_at (t : Fin cfg0.N) (k : Fin 2048) (p : Fin 1024) (K : Fin 8192) (P : Fin 4096) (hK : K.val = (t.val % 4) * 2048 + k.val)
    (hP : P.val = (t.val / 8) * 1024 + p.val) :
    (iblk m c 0 t : FVec Ideal S2048x1024 .bf16) (ix2 k p) = left m c (ix2 K P) := by
  unfold iblk
  rw [View.read_apply]
  refine (congrFun (V_left m c) (((cfg0.win 0).blk t).view.emb (ix2 k p))).trans ?_
  show left m c _ = _
  congr 1
  funext a
  apply Fin.ext
  match a with
  | ⟨0, _⟩ => show win0_0.index t 0 * 2048 + 1 * k.val = K.val; rw [(places t).1]; omega
  | ⟨1, _⟩ => show win0_0.index t 1 * 1024 + 1 * p.val = P.val; rw [(places t).2.1]; omega

theorem right_at (t : Fin cfg0.N) (k : Fin 2048) (q : Fin 1024) (K : Fin 8192) (Q : Fin 2048) (hK : K.val = (t.val % 4) * 2048 + k.val)
    (hQ : Q.val = (t.val / 4 % 2) * 1024 + q.val) :
    (iblk m c 1 t : FVec Ideal S2048x1024 .bf16) (ix2 k q) = right m c (ix2 K Q) := by
  unfold iblk
  rw [View.read_apply]
  refine (congrFun (V_right m c) (((cfg0.win 1).blk t).view.emb (ix2 k q))).trans ?_
  show right m c _ = _
  congr 1
  funext a
  apply Fin.ext
  match a with
  | ⟨0, _⟩ => show win0_1.index t 0 * 2048 + 1 * k.val = K.val; rw [(places t).2.2.1]; omega
  | ⟨1, _⟩ => show win0_1.index t 1 * 1024 + 1 * q.val = Q.val; rw [(places t).2.2.2]; omega

/-- One term of the host's product. -/
def term (P : Fin 4096) (Q : Fin 2048) (K : Fin 8192) : EReal :=
  left m c (ix2 K P) * right m c (ix2 K Q)

theorem part_at (t : Fin cfg0.N) (p : Fin 1024) (q : Fin 1024) (P : Fin 4096) (Q : Fin 2048) (r : ℕ) (hr : r < 4) (ht : t.val % 4 = r)
    (hP : P.val = (t.val / 8) * 1024 + p.val) (hQ : Q.val = (t.val / 4 % 2) * 1024 + q.val) :
    part (F := Ideal) (iblk m c 0 t) (iblk m c 1 t) (ix2 p q) = ∑ k : Fin 2048, term m c P Q ⟨r * 2048 + k.val, by omega⟩ := by
  unfold part
  refine (byRows_apply _ _ _ _ p q).trans ?_
  refine ((congrArg (· + _) (show (constant S1024x1024 .f32 0x00000000#32 : FVec Ideal S1024x1024 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- What the last point of a run writes, at an index. -/
theorem written_at (n : ℕ) (hn : 4 * n + 3 < cfg0.N) (p : Fin 1024) (q : Fin 1024) (P : Fin 4096) (Q : Fin 2048)
    (hP : P.val = (n / 2) * 1024 + p.val) (hQ : Q.val = (n % 2) * 1024 + q.val) :
    (outsAt0 m c (4 * n + 3) hn).1 (ix2 p q) = ∑ K : Fin 8192, term m c P Q K := by
  rw [written c m n hn]
  exact sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- An element of the array the call leaves. -/
theorem final_at (P : Fin 4096) (Q : Fin 2048) : (Value.G2 m c : FVec Ideal S4096x2048 .bf16) (ix2 P Q) = ∑ K : Fin 8192, term m c P Q K := by
  have hN : cfg0.N = 32 := N_0
  have hn : Value.run2Of (ix2 P Q) = 2 * (P.val / 1024 - 0) + 1 * (Q.val / 1024 - 0) := rfl
  have hb : Value.pt2Of (ix2 P Q) < cfg0.N := by
    show 4 * Value.run2Of (ix2 P Q) + 3 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written_at m c _ hb _ _ P Q (by rw [hn]; dsimp only; omega) (by rw [hn]; dsimp only; omega)

/-- An element of the host's result. -/
theorem host_at (P : Fin 4096) (Q : Fin 2048) :
    (Cert.Reference7Ideal.Read.val_main_v3 (F := Ideal) (m (c, main_arg0)) (m (c, main_arg2)) : FVec Ideal S4096x2048 .bf16) (ix2 P Q)
      = ∑ K : Fin 8192, term m c P Q K := by
  refine (Cert.Reference7Ideal.Read.val_main_v2_apply (F := Ideal) _ _ (ix2 P Q)).trans ?_
  refine (Cert.Reference7Ideal.Read.val_main_v1_apply _ _ _).trans ?_
  refine Finset.sum_congr rfl fun K _ => (mul_comm _ _).trans ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same : (Value.G2 m c : FVec Ideal S4096x2048 .bf16)
    = Cert.Reference7Ideal.Read.val_main_v3 (F := Ideal) (m (c, main_arg0)) (m (c, main_arg2)) := by
  funext y
  rw [eq_ix2 y]
  exact (final_at m c _ _).trans (host_at m c _ _).symm

end Read

/-! ## The claims -/

theorem ref_rests : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run m ρ)

theorem same_result : Cert.algebraic_Kernel7Ideal_Reference7Ideal (hKernel7Ideal := Cert.Kernel7Ideal.Gen.facts)
    (hReference7Ideal := Cert.Reference7Ideal.Gen.facts) := by
  intro m ρ m' ρ' _ hargs
  refine ⟨fun c => Cert.Kernel7Ideal.Value.G2 m c, Cert.Kernel7Ideal.Value.run m ρ, ?_⟩
  refine (θ_run Cert.Reference7Ideal.defs _ _).mono (fun r h c => ⟨(h c).1.trans ?_, (h c).2⟩) (Cert.Reference7Ideal.Value.run m' ρ')
  refine (Cert.Reference7Ideal.Read.val_main_v3_eq (F := Ideal) _ _).trans (Eq.trans ?_ (same m c).symm)
  exact congrArg₂ (fun a b => Cert.Reference7Ideal.Read.val_main_v3 (F := Ideal) a b) (hargs c).1 (hargs c).2.2

end Cert.K7

end
-- ==== Proof.Padded.lean ====
/-
  A matrix whose columns are padded with zeros, read at an index.
-/
module

public import Idealize.ShloMosaic.Lib.KernelVsHost
public import Idealize.ShloMosaic.Lib.ValueIdx
public import Idealize.ShloMosaic.PureOps.Ideal.Laws

@[expose] public section

noncomputable section

namespace Cert.Product

open Idealize.ShloMosaic Idealize.ShloMosaic.ValueIdx

variable {a b b' p : ℕ} (x : FVec Ideal ⟨2, ![a, b]⟩ .f32) {u : Shape} (v : FVec Ideal u .f32)
  (h : (⟨2, ![a, b]⟩ : Shape).Pads ![0, 0] ![0, p] ![0, 0] ⟨2, ![a, b']⟩) (hu : 0 < u.numel) (i : Fin a) (j : Fin b')

/-- At a column of the matrix: the matrix. -/
theorem pad_in (hj : j.val < b) : pad ⟨2, ![a, b']⟩ ![0, 0] ![0, p] ![0, 0] x v h hu (ix2 i j) = x (ix2 i ⟨j.val, hj⟩) := by
  refine pad_apply_of_inside _ _ _ x v h hu (ix2 i j) (ix2 i ⟨j.val, hj⟩) fun q => ?_
  match q with
  | ⟨0, _⟩ => show i.val = 0 + i.val * (0 + 1); omega
  | ⟨1, _⟩ => show j.val = 0 + j.val * (0 + 1); omega

/-- At a later column: the padding. -/
theorem pad_out (hj : ¬j.val < b) : pad ⟨2, ![a, b']⟩ ![0, 0] ![0, p] ![0, 0] x v h hu (ix2 i j) = v (Shape.Idx.first hu) := by
  refine pad_apply_of_not_inside _ _ _ x v h hu (ix2 i j) (1 : Fin 2) fun hin => hj ?_
  have h2 : (j.val - 0) / (0 + 1) < b := hin.2.2
  omega

/-- The integer zero as a float is zero. -/
theorem zero_word (s : Shape) (k : s.Idx) : (sitofp .f32 (constantI s 32 0#32) : FVec Ideal s .f32) k = 0 := by
  show ((BitVec.toInt 0#32 : ℝ) : EReal) = 0
  simp

end Cert.Product

end
-- ==== Proof.K8.lean ====
/-
  The gradient of the state-space mixer's input: what the call leaves is the host's product.
-/
module

public import proofs.«01_k».proof.Proof.Product
public import proofs.«01_k».proof.Defs
public import Idealize.ShloMosaic.Lib.Quiescent
public import proofs.«01_k».proof.Proof.Gen.Kernel8Ideal.Value
public import proofs.«01_k».proof.Proof.Gen.Reference8Ideal.Read
public import Idealize.ShloMosaic.Lib.Tactic
public import proofs.«01_k».proof.Proof.Padded

@[expose] public section

set_option maxRecDepth 16384

noncomputable section

namespace Cert.K8

open Idealize.ShloMosaic Idealize.ShloMosaic.TcCoe Idealize.SL.Sem Idealize.ShloMosaic.StableHlo Idealize.ShloMosaic.ValueIdx
open Cert.Kernel8Ideal Cert.Kernel8Ideal.Gen Cert.Product

section Body

variable {F : FTy → Type} [FloatOps F]

/-- The product of the two blocks of a point. -/
def part (x : FVec F S1024x3456 .bf16) (w : FVec F S1024x3456 .bf16) : FVec F S1024x1024 .f32 :=
  FloatOps.matmul dot_S1024x3456_S1024x3456_S1024x1024_1_1_0_0_n_n none x w (constant S1024x1024 .f32 0x00000000#32)

theorem pay (x : FVec F S1024x3456 .bf16) (w : FVec F S1024x3456 .bf16) : k0_pay1 x w = part x w := by
  unfold k0_pay1 part
  simp only [shapeCast_self]

variable (c : Dev nD) (i : grid0.Coords) (a3 : Memref sig .tc .vmem S1024x3456 .bf16) (h3 : a3.IsWhole)
  (a4 : Memref sig .tc .vmem S1024x3456 .bf16) (h4 : a4.IsWhole) (a5 : Memref sig .tc .vmem S1024x1024 .f32) (h5 : a5.IsWhole)
  (a6 : Memref sig .tc .vmem S1024x1024 .f32) (h6 : a6.IsWhole)
  (x : FVec F S1024x3456 .bf16) (w : FVec F S1024x3456 .bf16) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S1024x3456) zero2, shapeCast_self, pay]

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S1024x3456) zero2, View.ld_unit_zero (S := S1024x1024) zero2,
    shapeCast_self, pay]

/-- The last point writes the sum. -/
theorem last (hc0 : ¬cond0_0 i) (hc1 : cond0_1 i) (hc2 : cond0_2 i) :
    out0_C_2 c i a3 h3 a4 h4 a5 h5 a6 h6 hc0 hc1 hc2 x w s = addf s (part x w) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x1024) _ zero2]
  unfold k0_pay3
  simp only [View.readAt_eq_ld, h3.read_unread, h4.read_unread, h6.read_unread, View.ld_unit_zero (S := S1024x3456) zero2, View.ld_unit_zero (S := S1024x1024) zero2,
    shapeCast_self, pay]

variable (m : (ℓ : Loc nD τ sig) → Buf (Elt F) ℓ)

theorem carried_first (t : Fin cfg0.N) (h : t.val % 3 = 0) (h1 : ¬1 ≤ t.val % 3) (h2 : ¬t.val % 3 = 2) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 3 = 0) (h1 : 1 ≤ t.val % 3) (h2 : ¬t.val % 3 = 2) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 3 = 0) (h1 : 1 ≤ t.val % 3) (h2 : t.val % 3 = 2) :
    (outsAt0 m c t.val t.isLt).1 = addf (outsAt0 m c (t.val - 1) (Nat.lt_of_le_of_lt (Nat.sub_le _ _) t.isLt)).2 (part (F := F) (iblk m c 0 t) (iblk m c 1 t)) := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 3) (hn : 3 * n + 2 < cfg0.N) : 3 * n + r < cfg0.N := by omega

/-- What the last point of a run writes back. -/
theorem written (n : ℕ) (hn : 3 * n + 2 < cfg0.N) :
    (outsAt0 m c (3 * n + 2) hn).1 = addf (addf (part (F := F) (iblk m c 0 ⟨3 * n + 0, bound 0 (by decide) hn⟩) (iblk m c 1 ⟨3 * n + 0, bound 0 (by decide) hn⟩))
        (part (F := F) (iblk m c 0 ⟨3 * n + 1, bound 1 (by decide) hn⟩) (iblk m c 1 ⟨3 * n + 1, bound 1 (by decide) hn⟩)))
        (part (F := F) (iblk m c 0 ⟨3 * n + 2, hn⟩) (iblk m c 1 ⟨3 * n + 2, hn⟩)) := by
  have h3 := carried_last c m ⟨3 * n + 2, hn⟩ (by dsimp only; omega) (by dsimp only; omega) (by dsimp only; omega)
  have h2 := carried_later c m ⟨3 * n + 1, bound 1 (by decide) hn⟩ (by dsimp only; omega) (by dsimp only; omega) (by dsimp only; omega)
  have h1 := carried_first c m ⟨3 * n + 0, bound 0 (by decide) hn⟩ (by dsimp only; omega) (by dsimp only; omega) (by dsimp only; omega)
  rw [← h1]
  refine h3.trans ?_
  exact congrArg (fun s => addf s _) h2

end Body

/-! ## Read at an index -/

section Read

variable (m : (ℓ : Loc nD τ sig) → Buf (Elt Ideal) ℓ) (c : Dev nD)

/-- The left operand before it is rounded. -/
def left : FVec Ideal S8192x10368 .f32 := pad S8192x10368 ![0, 0] ![0, 64] ![0, 0] (m (c, main_arg2) : FVec Ideal S8192x10304 .f32) (sitofp .f32 (constantI S_ 32 0#32)) pads_S8192x10304_S8192x10368_000_0640 h_S_

/-- The right operand before it is rounded. -/
def right : FVec Ideal S2048x10368 .f32 := pad S2048x10368 ![0, 0] ![0, 64] ![0, 0] (m (c, main_arg1) : FVec Ideal S2048x10304 .f32) (sitofp .f32 (constantI S_ 32 0#32)) pads_S2048x10304_S2048x10368_000_0640 h_S_

/-- The left operand as the call reads it. -/
theorem V_left : V m c main_v1 = (truncf .bf16 (left m c) bitsLt_bf16_f32 : FVec Ideal S8192x10368 .bf16) := by
  simp only [V, hostOps0, hostOps0_1, hostOps0_2, hostOps0_3, hostOps0_4, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v3 = (truncf .bf16 (right m c) bitsLt_bf16_f32 : FVec Ideal S2048x10368 .bf16) := by
  simp only [V, hostOps0, hostOps0_1, hostOps0_2, hostOps0_3, hostOps0_4, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 6 ∧ win0_0.index t (1 : Fin 2) = t.val % 3
    ∧ win0_1.index t (0 : Fin 2) = t.val / 3 % 2 ∧ win0_1.index t (1 : Fin 2) = t.val % 3 :=
  (by decide +kernel : ∀ t : Fin grid0.N, _)

theorem left_at (t : Fin cfg0.N) (k : Fin 3456) (p : Fin 1024) (K : Fin 10368) (P : Fin 8192) (hK : K.val = (t.val % 3) * 3456 + k.val)
    (hP : P.val = (t.val / 6) * 1024 + p.val) :
    (iblk m c 0 t : FVec Ideal S1024x3456 .bf16) (ix2 p k) = left m c (ix2 P K) := by
  unfold iblk
  rw [View.read_apply]
  refine (congrFun (V_left m c) (((cfg0.win 0).blk t).view.emb (ix2 p k))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 3456 + 1 * k.val = K.val; rw [(places t).2.1]; omega

theorem right_at (t : Fin cfg0.N) (k : Fin 3456) (q : Fin 1024) (K : Fin 10368) (Q : Fin 2048) (hK : K.val = (t.val % 3) * 3456 + k.val)
    (hQ : Q.val = (t.val / 3 % 2) * 1024 + q.val) :
    (iblk m c 1 t : FVec Ideal S1024x3456 .bf16) (ix2 q k) = right m c (ix2 Q K) := by
  unfold iblk
  rw [View.read_apply]
  refine (congrFun (V_right m c) (((cfg0.win 1).blk t).view.emb (ix2 q k))).trans ?_
  show right m c _ = _
  congr 1
  funext a
  apply Fin.ext
  match a with
  | ⟨0, _⟩ => show win0_1.index t 0 * 1024 + 1 * q.val = Q.val; rw [(places t).2.2.1]; omega
  | ⟨1, _⟩ => show win0_1.index t 1 * 3456 + 1 * k.val = K.val; rw [(places t).2.2.2]; omega

/-- One term of the host's product. -/
def term (P : Fin 8192) (Q : Fin 2048) (K : Fin 10368) : EReal :=
  left m c (ix2 P K) * right m c (ix2 Q K)

theorem part_at (t : Fin cfg0.N) (p : Fin 1024) (q : Fin 1024) (P : Fin 8192) (Q : Fin 2048) (r : ℕ) (hr : r < 3) (ht : t.val % 3 = r)
    (hP : P.val = (t.val / 6) * 1024 + p.val) (hQ : Q.val = (t.val / 3 % 2) * 1024 + q.val) :
    part (F := Ideal) (iblk m c 0 t) (iblk m c 1 t) (ix2 p q) = ∑ k : Fin 3456, term m c P Q ⟨r * 3456 + k.val, by omega⟩ := by
  unfold part
  refine (Ideal.matmul_transposedRhs_apply none _ _ _ p q).trans ?_
  refine ((congrArg (· + _) (show (constant S1024x1024 .f32 0x00000000#32 : FVec Ideal S1024x1024 .f32) (ix2 p q) = 0 from Ideal.ofBits_zero_f32)).trans (zero_add _)).trans ?_
  refine Finset.sum_congr rfl fun k _ => ?_
  rw [left_at m c t k p ⟨r * 3456 + k.val, by omega⟩ P (by rw [ht]) hP, right_at m c t k q ⟨r * 3456 + k.val, by omega⟩ Q (by rw [ht]) hQ]
  rfl

/-- What the last point of a run writes, at an index. -/
theorem written_at (n : ℕ) (hn : 3 * n + 2 < cfg0.N) (p : Fin 1024) (q : Fin 1024) (P : Fin 8192) (Q : Fin 2048)
    (hP : P.val = (n / 2) * 1024 + p.val) (hQ : Q.val = (n % 2) * 1024 + q.val) :
    (outsAt0 m c (3 * n + 2) hn).1 (ix2 p q) = ∑ K : Fin 10368, term m c P Q K := by
  rw [written c m n hn]
  exact sum_three_of (b := 3456) rfl (term m c P Q)
    (part_at m c ⟨3 * n + 0, bound 0 (by decide) hn⟩ p q P Q 0 (by decide) (by dsimp only; omega) (by dsimp only; omega) (by dsimp only; omega))
    (part_at m c ⟨3 * n + 1, bound 1 (by decide) hn⟩ p q P Q 1 (by decide) (by dsimp only; omega) (by dsimp only; omega) (by dsimp only; omega))
    (part_at m c ⟨3 * n + 2, hn⟩ p q P Q 2 (by decide) (by dsimp only; omega) (by dsimp only; omega) (by dsimp only; omega))

/-- An element of the array the call leaves. -/
theorem final_at (P : Fin 8192) (Q : Fin 2048) : (Value.G2 m c : FVec Ideal S8192x2048 .f32) (ix2 P Q) = ∑ K : Fin 10368, term m c P Q K := by
  have hN : cfg0.N = 48 := N_0
  have hn : Value.run2Of (ix2 P Q) = 2 * (P.val / 1024 - 0) + 1 * (Q.val / 1024 - 0) := rfl
  have hb : Value.pt2Of (ix2 P Q) < cfg0.N := by
    show 3 * Value.run2Of (ix2 P Q) + 2 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written_at m c _ hb _ _ P Q (by rw [hn]; dsimp only; omega) (by rw [hn]; dsimp only; omega)

theorem left_in (i : Fin 8192) (j : Fin 10368) (hj : j.val < 10304) :
    left m c (ix2 i j) = (m (c, main_arg2) : FVec Ideal S8192x10304 .f32) (ix2 i ⟨j.val, hj⟩) := by
  unfold left
  exact pad_in _ _ _ _ i j hj

theorem left_out (i : Fin 8192) (j : Fin 10368) (hj : ¬j.val < 10304) : left m c (ix2 i j) = 0 := by
  unfold left
  exact (pad_out _ _ _ _ i j hj).trans (zero_word _ _)

theorem right_in (i : Fin 2048) (j : Fin 10368) (hj : j.val < 10304) :
    right m c (ix2 i j) = (m (c, main_arg1) : FVec Ideal S2048x10304 .f32) (ix2 i ⟨j.val, hj⟩) := by
  unfold right
  exact pad_in _ _ _ _ i j hj

theorem right_out (i : Fin 2048) (j : Fin 10368) (hj : ¬j.val < 10304) : right m c (ix2 i j) = 0 := by
  unfold right
  exact (pad_out _ _ _ _ i j hj).trans (zero_word _ _)

/-- An element of the host's result. -/
theorem host_at (P : Fin 8192) (Q : Fin 2048) :
    (Cert.Reference8Ideal.Read.val_main_v1 (F := Ideal) (m (c, main_arg1)) (m (c, main_arg2)) : FVec Ideal S8192x2048 .f32) (ix2 P Q)
      = ∑ K : Fin 10368, term m c P Q K := by
  refine (Cert.Reference8Ideal.Read.val_main_v1_apply _ _ _).trans ?_
  rw [sum_split (show 10368 = 10304 + 64 from rfl) (term m c P Q)]
  refine (add_zero _).symm.trans (congrArg₂ (· + ·) (Finset.sum_congr rfl fun K _ => ?_) (Finset.sum_eq_zero fun K _ => ?_).symm)
  · refine congrArg₂ (· * ·) (Eq.trans (congrArg (m (c, main_arg2) : FVec Ideal S8192x10304 .f32) ?_) (left_in m c P ⟨K.val, by omega⟩ K.isLt).symm)
      (Eq.trans (congrArg (m (c, main_arg1) : FVec Ideal S2048x10304 .f32) ?_) (right_in m c Q ⟨K.val, by omega⟩ K.isLt).symm)
    · funext a; match a with | ⟨0, _⟩ => rfl | ⟨1, _⟩ => rfl
    · funext a; match a with | ⟨0, _⟩ => rfl | ⟨1, _⟩ => rfl
  · exact (congrArg (left m c (ix2 P ⟨10304 + K.val, by omega⟩) * ·) (right_out m c Q ⟨10304 + K.val, by omega⟩ (by dsimp only; omega))).trans (mul_zero _)

theorem same : (Value.G2 m c : FVec Ideal S8192x2048 .f32)
    = Cert.Reference8Ideal.Read.val_main_v1 (F := Ideal) (m (c, main_arg1)) (m (c, main_arg2)) := by
  funext y
  rw [eq_ix2 y]
  exact (final_at m c _ _).trans (host_at m c _ _).symm

end Read

/-! ## The claims -/

theorem ref_rests : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩) (Cert.Reference8Ideal.Value.run m ρ)

theorem same_result : Cert.algebraic_Kernel8Ideal_Reference8Ideal (hKernel8Ideal := Cert.Kernel8Ideal.Gen.facts)
    (hReference8Ideal := Cert.Reference8Ideal.Gen.facts) := by
  intro m ρ m' ρ' _ hargs
  refine ⟨fun c => Cert.Kernel8Ideal.Value.G2 m c, Cert.Kernel8Ideal.Value.run m ρ, ?_⟩
  refine (θ_run Cert.Reference8Ideal.defs _ _).mono (fun r h c => ⟨(h c).1.trans ?_, (h c).2⟩) (Cert.Reference8Ideal.Value.run m' ρ')
  refine (Cert.Reference8Ideal.Read.val_main_v1_eq (F := Ideal) _ _).trans (Eq.trans ?_ (same m c).symm)
  exact congrArg₂ (fun a b => Cert.Reference8Ideal.Read.val_main_v1 (F := Ideal) a b) (hargs c).2.1 (hargs c).2.2

end Cert.K8

end
-- ==== Proof.K9.lean ====
/-
  The gradient of the state-space mixer's input weight, its columns padded: what the call leaves is the host's product.
-/
module

public import proofs.«01_k».proof.Proof.Product
public import proofs.«01_k».proof.Defs
public import Idealize.ShloMosaic.Lib.Quiescent
public import proofs.«01_k».proof.Proof.Gen.Kernel9Ideal.Value
public import proofs.«01_k».proof.Proof.Gen.Reference9Ideal.Read
public import Idealize.ShloMosaic.Lib.Tactic
public import proofs.«01_k».proof.Proof.Padded

@[expose] public section

set_option maxRecDepth 16384

noncomputable section

namespace Cert.K9

open Idealize.ShloMosaic Idealize.ShloMosaic.TcCoe Idealize.SL.Sem Idealize.ShloMosaic.StableHlo Idealize.ShloMosaic.ValueIdx
open Cert.Kernel9Ideal Cert.Kernel9Ideal.Gen Cert.Product

section Body

variable {F : FTy → Type} [FloatOps F]

/-- The product of the two blocks of a point. -/
def part (x : FVec F S2048x1024 .bf16) (w : FVec F S2048x1152 .bf16) : FVec F S1024x1152 .f32 :=
  FloatOps.matmul dot_S2048x1024_S2048x1152_S1024x1152_0_0_1_1_n_n none x w (constant S1024x1152 .f32 0x00000000#32)

theorem pay (x : FVec F S2048x1024 .bf16) (w : FVec F S2048x1152 .bf16) : k0_pay1 x w = part x w := by
  unfold k0_pay1 part
  simp only [shapeCast_self]

variable (c : Dev nD) (i : grid0.Coords) (a3 : Memref sig .tc .vmem S2048x1024 .bf16) (h3 : a3.IsWhole)
  (a4 : Memref sig .tc .vmem S2048x1152 .bf16) (h4 : a4.IsWhole) (a5 : Memref sig .tc .vmem S1024x1152 .bf16) (h5 : a5.IsWhole)
  (a6 : Memref sig .tc .vmem S1024x1152 .f32) (h6 : a6.IsWhole)
  (x : FVec F S2048x1024 .bf16) (w : FVec F S2048x1152 .bf16) (s : FVec F S1024x1152 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S2048x1024) zero2, View.ld_unit_zero (S := S2048x1152) zero2, shapeCast_self, pay]

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S2048x1024) zero2, View.ld_unit_zero (S := S2048x1152) zero2, View.ld_unit_zero (S := S1024x1152) zero2,
    shapeCast_self, pay]

/-- The last point writes the sum, rounded. -/
theorem last (hc0 : ¬cond0_0 i) (hc1 : cond0_1 i) (hc2 : cond0_2 i) :
    out0_C_2 c i a3 h3 a4 h4 a5 h5 a6 h6 hc0 hc1 hc2 x w s = truncf .bf16 (addf s (part x w)) bitsLt_bf16_f32 := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x1152) _ zero2]
  unfold k0_pay4 k0_pay3
  simp only [View.readAt_eq_ld, h3.read_unread, h4.read_unread, h6.read_unread, View.ld_unit_zero (S := S2048x1024) zero2, View.ld_unit_zero (S := S2048x1152) zero2, View.ld_unit_zero (S := S1024x1152) zero2,
    shapeCast_self, pay]

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 4 = 0) (h1 : 1 ≤ t.val % 4) (h2 : t.val % 4 = 3) :
    (outsAt0 m c t.val t.isLt).1 = truncf .bf16 (addf (outsAt0 m c (t.val - 1) (Nat.lt_of_le_of_lt (Nat.sub_le _ _) t.isLt)).2 (part (F := F) (iblk m c 0 t) (iblk m c 1 t))) bitsLt_bf16_f32 := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- What the last point of a run writes back. -/
theorem written (n : ℕ) (hn : 4 * n + 3 < cfg0.N) :
    (outsAt0 m c (4 * n + 3) hn).1 = truncf .bf16 (addf (addf (addf (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩))) bitsLt_bf16_f32 := by
  have h4 := carried_last c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  rw [← h1]
  refine h4.trans ?_
  refine congrArg (fun s => truncf .bf16 (addf s _) bitsLt_bf16_f32) (h3.trans ?_)
  exact congrArg (fun s => addf s _) h2

end Body

/-! ## Read at an index -/

section Read

variable (m : (ℓ : Loc nD τ sig) → Buf (Elt Ideal) ℓ) (c : Dev nD)

/-- The left operand before it is rounded. -/
def left : FVec Ideal S8192x2048 .f32 := m (c, main_arg0)

/-- The right operand before it is rounded. -/
def right : FVec Ideal S8192x10368 .f32 := pad S8192x10368 ![0, 0] ![0, 64] ![0, 0] (m (c, main_arg2) : FVec Ideal S8192x10304 .f32) (sitofp .f32 (constantI S_ 32 0#32)) pads_S8192x10304_S8192x10368_000_0640 h_S_

/-- The left operand as the call reads it. -/
theorem V_left : V m c main_v0 = (truncf .bf16 (left m c) bitsLt_bf16_f32 : FVec Ideal S8192x2048 .bf16) := by
  simp only [V, hostOps0, hostOps0_1, hostOps0_2, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v2 = (truncf .bf16 (right m c) bitsLt_bf16_f32 : FVec Ideal S8192x10368 .bf16) := by
  simp only [V, hostOps0, hostOps0_1, hostOps0_2, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val % 4 ∧ win0_0.index t (1 : Fin 2) = t.val / 36
    ∧ win0_1.index t (0 : Fin 2) = t.val % 4 ∧ win0_1.index t (1 : Fin 2) = t.val / 4 % 9 :=
  (by decide +kernel : ∀ t : Fin grid0.N, _)

theorem left_at (t : Fin cfg0.N) (k : Fin 2048) (p : Fin 1024) (K : Fin 8192) (P : Fin 2048) (hK : K.val = (t.val % 4) * 2048 + k.val)
    (hP : P.val = (t.val / 36) * 1024 + p.val) :
    (iblk m c 0 t : FVec Ideal S2048x1024 .bf16) (ix2 k p) = left m c (ix2 K P) := by
  unfold iblk
  rw [View.read_apply]
  refine (congrFun (V_left m c) (((cfg0.win 0).blk t).view.emb (ix2 k p))).trans ?_
  show left m c _ = _
  congr 1
  funext a
  apply Fin.ext
  match a with
  | ⟨0, _⟩ => show win0_0.index t 0 * 2048 + 1 * k.val = K.val; rw [(places t).1]; omega
  | ⟨1, _⟩ => show win0_0.index t 1 * 1024 + 1 * p.val = P.val; rw [(places t).2.1]; omega

theorem right_at (t : Fin cfg0.N) (k : Fin 2048) (q : Fin 1152) (K : Fin 8192) (Q : Fin 10368) (hK : K.val = (t.val % 4) * 2048 + k.val)
    (hQ : Q.val = (t.val / 4 % 9) * 1152 + q.val) :
    (iblk m c 1 t : FVec Ideal S2048x1152 .bf16) (ix2 k q) = right m c (ix2 K Q) := by
  unfold iblk
  rw [View.read_apply]
  refine (congrFun (V_right m c) (((cfg0.win 1).blk t).view.emb (ix2 k q))).trans ?_
  show right m c _ = _
  congr 1
  funext a
  apply Fin.ext
  match a with
  | ⟨0, _⟩ => show win0_1.index t 0 * 2048 + 1 * k.val = K.val; rw [(places t).2.2.1]; omega
  | ⟨1, _⟩ => show win0_1.index t 1 * 1152 + 1 * q.val = Q.val; rw [(places t).2.2.2]; omega

/-- One term of the host's product. -/
def term (P : Fin 2048) (Q : Fin 10368) (K : Fin 8192) : EReal :=
  left m c (ix2 K P) * right m c (ix2 K Q)

theorem part_at (t : Fin cfg0.N) (p : Fin 1024) (q : Fin 1152) (P : Fin 2048) (Q : Fin 10368) (r : ℕ) (hr : r < 4) (ht : t.val % 4 = r)
    (hP : P.val = (t.val / 36) * 1024 + p.val) (hQ : Q.val = (t.val / 4 % 9) * 1152 + q.val) :
    part (F := Ideal) (iblk m c 0 t) (iblk m c 1 t) (ix2 p q) = ∑ k : Fin 2048, term m c P Q ⟨r * 2048 + k.val, by omega⟩ := by
  unfold part
  refine (byRows_apply _ _ _ _ p q).trans ?_
  refine ((congrArg (· + _) (show (constant S1024x1152 .f32 0x00000000#32 : FVec Ideal S1024x1152 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- What the last point of a run writes, at an index. -/
theorem written_at (n : ℕ) (hn : 4 * n + 3 < cfg0.N) (p : Fin 1024) (q : Fin 1152) (P : Fin 2048) (Q : Fin 10368)
    (hP : P.val = (n / 9) * 1024 + p.val) (hQ : Q.val = (n % 9) * 1152 + q.val) :
    (outsAt0 m c (4 * n + 3) hn).1 (ix2 p q) = ∑ K : Fin 8192, term m c P Q K := by
  rw [written c m n hn]
  exact sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- An element of the array the call leaves. -/
theorem final_at (P : Fin 2048) (Q : Fin 10368) : (Value.G2 m c : FVec Ideal S2048x10368 .bf16) (ix2 P Q) = ∑ K : Fin 8192, term m c P Q K := by
  have hN : cfg0.N = 72 := N_0
  have hn : Value.run2Of (ix2 P Q) = 9 * (P.val / 1024 - 0) + 1 * (Q.val / 1152 - 0) := rfl
  have hb : Value.pt2Of (ix2 P Q) < cfg0.N := by
    show 4 * Value.run2Of (ix2 P Q) + 3 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 1152, Nat.mod_lt _ (by decide)⟩ : Fin 1152) := by
    funext a; match a with | ⟨0, _⟩ => rfl | ⟨1, _⟩ => rfl
  rw [hy]
  exact written_at m c _ hb _ _ P Q (by rw [hn]; dsimp only; omega) (by rw [hn]; dsimp only; omega)

theorem right_in (i : Fin 8192) (j : Fin 10368) (hj : j.val < 10304) :
    right m c (ix2 i j) = (m (c, main_arg2) : FVec Ideal S8192x10304 .f32) (ix2 i ⟨j.val, hj⟩) := by
  unfold right
  exact pad_in _ _ _ _ i j hj

theorem right_out (i : Fin 8192) (j : Fin 10368) (hj : ¬j.val < 10304) : right m c (ix2 i j) = 0 := by
  unfold right
  exact (pad_out _ _ _ _ i j hj).trans (zero_word _ _)

/-- An element of the host's result. -/
theorem host_at (P : Fin 2048) (Q : Fin 10368) :
    (Cert.Reference9Ideal.Read.val_main_v4 (F := Ideal) (m (c, main_arg0)) (m (c, main_arg2)) : FVec Ideal S2048x10368 .bf16) (ix2 P Q)
      = ∑ K : Fin 8192, term m c P Q K := by
  refine (show _ = Cert.Reference9Ideal.Read.val_main_v3 (F := Ideal) (m (c, main_arg0)) (m (c, main_arg2)) (ix2 P Q) from rfl).trans ?_
  unfold Cert.Reference9Ideal.Read.val_main_v3
  by_cases hq : Q.val < 10304
  · refine (pad_in _ _ _ _ P Q hq).trans ?_
    refine (Cert.Reference9Ideal.Read.val_main_v2_apply (F := Ideal) _ _ _).trans ?_
    refine (Cert.Reference9Ideal.Read.val_main_v1_apply _ _ _).trans ?_
    refine Finset.sum_congr rfl fun K _ => (mul_comm _ _).trans ?_
    refine congrArg₂ (· * ·) (congrArg (left m c) ?_) (Eq.trans (congrArg (m (c, main_arg2) : FVec Ideal S8192x10304 .f32) ?_) (right_in m c K Q hq).symm)
    · funext a; match a with | ⟨0, _⟩ => rfl | ⟨1, _⟩ => rfl
    · funext a; match a with | ⟨0, _⟩ => rfl | ⟨1, _⟩ => rfl
  · refine (pad_out _ _ _ _ P Q hq).trans ((zero_word _ _).trans (Finset.sum_eq_zero fun K _ => ?_).symm)
    exact (congrArg (left m c (ix2 K P) * ·) (right_out m c K Q hq)).trans (mul_zero _)

theorem same : (Value.G2 m c : FVec Ideal S2048x10368 .bf16)
    = Cert.Reference9Ideal.Read.val_main_v4 (F := Ideal) (m (c, main_arg0)) (m (c, main_arg2)) := by
  funext y
  rw [eq_ix2 y]
  exact (final_at m c _ _).trans (host_at m c _ _).symm

end Read

/-! ## The claims -/

theorem ref_rests : Cert.quiescent_Reference9Ideal (hReference9Ideal := Cert.Reference9Ideal.Gen.facts) := fun m ρ _ =>
  (θ_run Cert.Reference9Ideal.defs _ _).mono
    (fun r h => ⟨fun c => (h c).2, sem_eq_zero_of_no_sems (by decide) r.2⟩) (Cert.Reference9Ideal.Value.run m ρ)

theorem same_result : Cert.algebraic_Kernel9Ideal_Reference9Ideal (hKernel9Ideal := Cert.Kernel9Ideal.Gen.facts)
    (hReference9Ideal := Cert.Reference9Ideal.Gen.facts) := by
  intro m ρ m' ρ' _ hargs
  refine ⟨fun c => Cert.Kernel9Ideal.Value.G2 m c, Cert.Kernel9Ideal.Value.run m ρ, ?_⟩
  refine (θ_run Cert.Reference9Ideal.defs _ _).mono (fun r h c => ⟨(h c).1.trans ?_, (h c).2⟩) (Cert.Reference9Ideal.Value.run m' ρ')
  refine (Cert.Reference9Ideal.Read.val_main_v4_eq (F := Ideal) _ _).trans (Eq.trans ?_ (same m c).symm)
  exact congrArg₂ (fun a b => Cert.Reference9Ideal.Read.val_main_v4 (F := Ideal) a b) (hargs c).1 (hargs c).2.2

end Cert.K9

end
-- ==== Proof.K10.lean ====
/-
  The gradient of the pooling and attention mixer's joined output: what the call leaves is the host's product.
-/
module

public import proofs.«01_k».proof.Proof.Product
public import proofs.«01_k».proof.Defs
public import Idealize.ShloMosaic.Lib.Quiescent
public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.K10

open Idealize.ShloMosaic hiding ix2 ix3 eq_ix2 eq_ix3
open Idealize.ShloMosaic.TcCoe Idealize.SL.Sem Idealize.ShloMosaic.StableHlo Idealize.ShloMosaic.ValueIdx
open Cert.Kernel10Ideal Cert.Kernel10Ideal.Gen Cert.Product

section Body

variable {F : FTy → Type} [FloatOps F]

/-- The product of the two blocks of a point. -/
def part (x : FVec F S1024x2048 .bf16) (w : FVec F S1024x2048 .bf16) : FVec F S1024x1024 .f32 :=
  FloatOps.matmul dot_S1024x2048_S1024x2048_S1024x1024_1_1_0_0_n_n none x w (constant S1024x1024 .f32 0x00000000#32)

theorem out_eq (x : FVec F S1024x2048 .bf16) (w : FVec F S1024x2048 .bf16) : out0_2 x w = part x w := by
  unfold out0_2
  rw [View.canon_unit_zero zero2]
  simp only [View.ld_unit_zero (S := S1024x2048) zero2, View.ld_unit_zero (S := S1024x2048) zero2]
  unfold k0_pay1 part
  simp only [shapeCast_self]

end Body

/-! ## Read at an index -/

section Read

variable (m : (ℓ : Loc nD τ sig) → Buf (Elt Ideal) ℓ) (c : Dev nD)

/-- The left operand before it is rounded. -/
def left : FVec Ideal S8192x2048 .f32 := m (c, main_arg2)

/-- The right operand before it is rounded. -/
def right : FVec Ideal S1024x2048 .f32 := m (c, main_arg1)

/-- The left operand as the call reads it. -/
theorem V_left : V m c main_v0 = (truncf .bf16 (left m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S1024x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 1
    ∧ win0_0.index t (1 : Fin 2) = 0
    ∧ win0_1.index t (0 : Fin 2) = t.val % 1
    ∧ win0_1.index t (1 : Fin 2) = 0
    ∧ win0_2.index t (0 : Fin 2) = t.val / 1
    ∧ win0_2.index t (1 : Fin 2) = t.val % 1 :=
  (by decide +kernel : ∀ t : Fin grid0.N, _)

theorem left_at (t : Fin cfg0.N) (p : Fin 1024) (K : Fin 2048) (P : Fin 8192) (hP : P.val = (t.val / 1) * 1024 + p.val) :
    (iblk m c 0 t : FVec Ideal S1024x2048 .bf16) (ix2 p K) = left m c (ix2 P K) := by
  unfold iblk
  rw [View.read_apply]
  refine (congrFun (V_left m c) (((cfg0.win 0).blk t).view.emb (ix2 p K))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * K.val = K.val; rw [(places t).2.1]; omega

theorem right_at (t : Fin cfg0.N) (q : Fin 1024) (K : Fin 2048) (Q : Fin 1024) (hQ : Q.val = (t.val % 1) * 1024 + q.val) :
    (iblk m c 1 t : FVec Ideal S1024x2048 .bf16) (ix2 q K) = right m c (ix2 Q K) := by
  unfold iblk
  rw [View.read_apply]
  refine (congrFun (V_right m c) (((cfg0.win 1).blk t).view.emb (ix2 q K))).trans ?_
  show right m c _ = _
  congr 1
  funext a
  apply Fin.ext
  match a with
  | ⟨0, _⟩ => show win0_1.index t 0 * 1024 + 1 * q.val = Q.val; rw [(places t).2.2.1]; omega
  | ⟨1, _⟩ => show win0_1.index t 1 * 2048 + 1 * K.val = K.val; rw [(places t).2.2.2.1]; omega

/-- An element of the host's product. -/
def dot (P : Fin 8192) (Q : Fin 1024) : EReal := ∑ K : Fin 2048, left m c (ix2 P K) * right m c (ix2 Q K)

theorem part_at (t : Fin cfg0.N) (p : Fin 1024) (q : Fin 1024) (P : Fin 8192) (Q : Fin 1024)
    (hP : P.val = (t.val / 1) * 1024 + p.val) (hQ : Q.val = (t.val % 1) * 1024 + q.val) :
    part (F := Ideal) (iblk m c 0 t) (iblk m c 1 t) (ix2 p q) = dot m c P Q := by
  unfold part
  refine (Ideal.matmul_transposedRhs_apply none _ _ _ p q).trans ?_
  refine ((congrArg (· + _) (show (constant S1024x1024 .f32 0x00000000#32 : FVec Ideal S1024x1024 .f32) (ix2 p q) = 0 from Ideal.ofBits_zero_f32)).trans (zero_add _)).trans ?_
  unfold dot
  refine Finset.sum_congr rfl fun K _ => ?_
  rw [left_at m c t p K P hP, right_at m c t q K Q hQ]

/-- The row of the result that a row of a point's block is. -/
def rowOf (t : Fin cfg0.N) (p : Fin 1024) : Fin 8192 :=
  ⟨(t.val / 1) * 1024 + p.val, by have h := t.isLt; have hN : cfg0.N = 8 := N_0; omega⟩

/-- The column of the result that a column of a point's block is. -/
def colOf (t : Fin cfg0.N) (q : Fin 1024) : Fin 1024 :=
  ⟨(t.val % 1) * 1024 + q.val, by omega⟩

theorem emb2 (t : Fin cfg0.N) (p : Fin 1024) (q : Fin 1024) :
    (((cfg0.win 2).blk t).view.emb (ix2 p q) : S8192x1024.Idx) = ix2 (rowOf t p) (colOf t q) := by
  funext a
  apply Fin.ext
  match a with
  | ⟨0, _⟩ => show win0_2.index t 0 * 1024 + 1 * p.val = (t.val / 1) * 1024 + p.val; rw [(places t).2.2.2.2.1]; omega
  | ⟨1, _⟩ => show win0_2.index t 1 * 1024 + 1 * q.val = (t.val % 1) * 1024 + q.val; rw [(places t).2.2.2.2.2]; omega

/-- An element of the host's result. -/
theorem host_at (P : Fin 8192) (Q : Fin 1024) :
    (Cert.Reference10Ideal.Read.val_main_v1 (F := Ideal) (m (c, main_arg1)) (m (c, main_arg2)) : FVec Ideal S8192x1024 .f32) (ix2 P Q) = dot m c P Q := by
  refine (Cert.Reference10Ideal.Read.val_main_v1_apply _ _ _).trans ?_
  unfold dot
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same : ((dats m 0 c).arrAt 2 cfg0.N : FVec Ideal S8192x1024 .f32)
    = Cert.Reference10Ideal.Read.val_main_v1 (F := Ideal) (m (c, main_arg1)) (m (c, main_arg2)) := by
  refine (dats m 0 c).arrAt_eq_of_covers 2 _ (by decide +kernel) fun t hf y => ?_
  blk_simp
  rw [after0_2, out_eq]
  have hy : y = ix2 (y 0 : Fin 1024) (y 1 : Fin 1024) := eq_ix2 y
  rw [hy]
  refine Eq.trans ?_ (congrArg (Cert.Reference10Ideal.Read.val_main_v1 (F := Ideal) (m (c, main_arg1)) (m (c, main_arg2)) : FVec Ideal S8192x1024 .f32) (emb2 t (y 0) (y 1))).symm
  refine Eq.trans ?_ (host_at m c (rowOf t (y 0)) (colOf t (y 1))).symm
  exact part_at m c t (y 0) (y 1) _ _ rfl rfl

end Read

/-! ## The claims -/

theorem ref_rests : Cert.quiescent_Reference10Ideal (hReference10Ideal := Cert.Reference10Ideal.Gen.facts) := fun m ρ _ =>
  (θ_run Cert.Reference10Ideal.defs _ _).mono
    (fun r h => ⟨fun c => (h c).2, sem_eq_zero_of_no_sems (by decide) r.2⟩) (Cert.Reference10Ideal.Value.run m ρ)

theorem same_result : Cert.algebraic_Kernel10Ideal_Reference10Ideal (hKernel10Ideal := Cert.Kernel10Ideal.Gen.facts)
    (hReference10Ideal := Cert.Reference10Ideal.Gen.facts) := by
  intro m ρ m' ρ' _ hargs
  refine ⟨fun c => (Cert.Kernel10Ideal.Gen.dats m 0 c).arrAt 2 Cert.Kernel10Ideal.cfg0.N, Cert.Kernel10Ideal.Value.run_blocks m ρ, ?_⟩
  refine (θ_run Cert.Reference10Ideal.defs _ _).mono (fun r h c => ⟨(h c).1.trans ?_, (h c).2⟩) (Cert.Reference10Ideal.Value.run m' ρ')
  refine (Cert.Reference10Ideal.Read.val_main_v1_eq (F := Ideal) _ _).trans (Eq.trans ?_ (same m c).symm)
  exact congrArg₂ (fun a b => Cert.Reference10Ideal.Read.val_main_v1 (F := Ideal) a b) (hargs c).2.1 (hargs c).2.2

end Cert.K10

end
-- ==== Proof.K11.lean ====
/-
  The gradient of the pooling and attention mixer's output weight: what the call leaves is the host's product.
-/
module

public import proofs.«01_k».proof.Proof.Product
public import proofs.«01_k».proof.Defs
public import Idealize.ShloMosaic.Lib.Quiescent
public import proofs.«01_k».proof.Proof.Gen.Kernel11Ideal.Value
public import proofs.«01_k».proof.Proof.Gen.Reference11Ideal.Read
public import Idealize.ShloMosaic.Lib.Tactic

@[expose] public section

set_option maxRecDepth 16384

noncomputable section

namespace Cert.K11

open Idealize.ShloMosaic Idealize.ShloMosaic.TcCoe Idealize.SL.Sem Idealize.ShloMosaic.StableHlo Idealize.ShloMosaic.ValueIdx
open Cert.Kernel11Ideal Cert.Kernel11Ideal.Gen Cert.Product

section Body

variable {F : FTy → Type} [FloatOps F]

/-- The product of the two blocks of a point. -/
def part (x : FVec F S2048x1024 .bf16) (w : FVec F S2048x1024 .bf16) : FVec F S1024x1024 .f32 :=
  FloatOps.matmul dot_S2048x1024_S2048x1024_S1024x1024_0_0_1_1_n_n none x w (constant S1024x1024 .f32 0x00000000#32)

theorem pay (x : FVec F S2048x1024 .bf16) (w : FVec F S2048x1024 .bf16) : k0_pay1 x w = part x w := by
  unfold k0_pay1 part
  simp only [shapeCast_self]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : FVec F S2048x1024 .bf16) (w : FVec F S2048x1024 .bf16) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S2048x1024) zero2, shapeCast_self, pay]

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S2048x1024) zero2, View.ld_unit_zero (S := S1024x1024) zero2,
    shapeCast_self, pay]

/-- The last point writes the sum, rounded. -/
theorem last (hc0 : ¬cond0_0 i) (hc1 : cond0_1 i) (hc2 : cond0_2 i) :
    out0_C_2 c i a3 h3 a4 h4 a5 h5 a6 h6 hc0 hc1 hc2 x w s = truncf .bf16 (addf s (part x w)) bitsLt_bf16_f32 := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x1024) _ zero2]
  unfold k0_pay4 k0_pay3
  simp only [View.readAt_eq_ld, h3.read_unread, h4.read_unread, h6.read_unread, View.ld_unit_zero (S := S2048x1024) zero2, View.ld_unit_zero (S := S1024x1024) zero2,
    shapeCast_self, pay]

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 4 = 0) (h1 : 1 ≤ t.val % 4) (h2 : t.val % 4 = 3) :
    (outsAt0 m c t.val t.isLt).1 = truncf .bf16 (addf (outsAt0 m c (t.val - 1) (Nat.lt_of_le_of_lt (Nat.sub_le _ _) t.isLt)).2 (part (F := F) (iblk m c 0 t) (iblk m c 1 t))) bitsLt_bf16_f32 := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- What the last point of a run writes back. -/
theorem written (n : ℕ) (hn : 4 * n + 3 < cfg0.N) :
    (outsAt0 m c (4 * n + 3) hn).1 = truncf .bf16 (addf (addf (addf (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩))) bitsLt_bf16_f32 := by
  have h4 := carried_last c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  rw [← h1]
  refine h4.trans ?_
  refine congrArg (fun s => truncf .bf16 (addf s _) bitsLt_bf16_f32) (h3.trans ?_)
  exact congrArg (fun s => addf s _) h2

end Body

/-! ## Read at an index -/

section Read

variable (m : (ℓ : Loc nD τ sig) → Buf (Elt Ideal) ℓ) (c : Dev nD)

/-- The left operand before it is rounded. -/
def left : FVec Ideal S8192x1024 .f32 := m (c, main_arg0)

/-- The right operand before it is rounded. -/
def right : FVec Ideal S8192x2048 .f32 := m (c, main_arg2)

/-- The left operand as the call reads it. -/
theorem V_left : V m c main_v0 = (truncf .bf16 (left m c) bitsLt_bf16_f32 : FVec Ideal S8192x1024 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val % 4 ∧ win0_0.index t (1 : Fin 2) = t.val / 8
    ∧ win0_1.index t (0 : Fin 2) = t.val % 4 ∧ win0_1.index t (1 : Fin 2) = t.val / 4 % 2 :=
  (by decide +kernel : ∀ t : Fin grid0.N, _)

theorem left_at (t : Fin cfg0.N) (k : Fin 2048) (p : Fin 1024) (K : Fin 8192) (P : Fin 1024) (hK : K.val = (t.val % 4) * 2048 + k.val)
    (hP : P.val = (t.val / 8) * 1024 + p.val) :
    (iblk m c 0 t : FVec Ideal S2048x1024 .bf16) (ix2 k p) = left m c (ix2 K P) := by
  unfold iblk
  rw [View.read_apply]
  refine (congrFun (V_left m c) (((cfg0.win 0).blk t).view.emb (ix2 k p))).trans ?_
  show left m c _ = _
  congr 1
  funext a
  apply Fin.ext
  match a with
  | ⟨0, _⟩ => show win0_0.index t 0 * 2048 + 1 * k.val = K.val; rw [(places t).1]; omega
  | ⟨1, _⟩ => show win0_0.index t 1 * 1024 + 1 * p.val = P.val; rw [(places t).2.1]; omega

theorem right_at (t : Fin cfg0.N) (k : Fin 2048) (q : Fin 1024) (K : Fin 8192) (Q : Fin 2048) (hK : K.val = (t.val % 4) * 2048 + k.val)
    (hQ : Q.val = (t.val / 4 % 2) * 1024 + q.val) :
    (iblk m c 1 t : FVec Ideal S2048x1024 .bf16) (ix2 k q) = right m c (ix2 K Q) := by
  unfold iblk
  rw [View.read_apply]
  refine (congrFun (V_right m c) (((cfg0.win 1).blk t).view.emb (ix2 k q))).trans ?_
  show right m c _ = _
  congr 1
  funext a
  apply Fin.ext
  match a with
  | ⟨0, _⟩ => show win0_1.index t 0 * 2048 + 1 * k.val = K.val; rw [(places t).2.2.1]; omega
  | ⟨1, _⟩ => show win0_1.index t 1 * 1024 + 1 * q.val = Q.val; rw [(places t).2.2.2]; omega

/-- One term of the host's product. -/
def term (P : Fin 1024) (Q : Fin 2048) (K : Fin 8192) : EReal :=
  left m c (ix2 K P) * right m c (ix2 K Q)

theorem part_at (t : Fin cfg0.N) (p : Fin 1024) (q : Fin 1024) (P : Fin 1024) (Q : Fin 2048) (r : ℕ) (hr : r < 4) (ht : t.val % 4 = r)
    (hP : P.val = (t.val / 8) * 1024 + p.val) (hQ : Q.val = (t.val / 4 % 2) * 1024 + q.val) :
    part (F := Ideal) (iblk m c 0 t) (iblk m c 1 t) (ix2 p q) = ∑ k : Fin 2048, term m c P Q ⟨r * 2048 + k.val, by omega⟩ := by
  unfold part
  refine (byRows_apply _ _ _ _ p q).trans ?_
  refine ((congrArg (· + _) (show (constant S1024x1024 .f32 0x00000000#32 : FVec Ideal S1024x1024 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- What the last point of a run writes, at an index. -/
theorem written_at (n : ℕ) (hn : 4 * n + 3 < cfg0.N) (p : Fin 1024) (q : Fin 1024) (P : Fin 1024) (Q : Fin 2048)
    (hP : P.val = (n / 2) * 1024 + p.val) (hQ : Q.val = (n % 2) * 1024 + q.val) :
    (outsAt0 m c (4 * n + 3) hn).1 (ix2 p q) = ∑ K : Fin 8192, term m c P Q K := by
  rw [written c m n hn]
  exact sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- An element of the array the call leaves. -/
theorem final_at (P : Fin 1024) (Q : Fin 2048) : (Value.G2 m c : FVec Ideal S1024x2048 .bf16) (ix2 P Q) = ∑ K : Fin 8192, term m c P Q K := by
  have hN : cfg0.N = 8 := N_0
  have hn : Value.run2Of (ix2 P Q) = 2 * (P.val / 1024 - 0) + 1 * (Q.val / 1024 - 0) := rfl
  have hb : Value.pt2Of (ix2 P Q) < cfg0.N := by
    show 4 * Value.run2Of (ix2 P Q) + 3 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written_at m c _ hb _ _ P Q (by rw [hn]; dsimp only; omega) (by rw [hn]; dsimp only; omega)

/-- An element of the host's result. -/
theorem host_at (P : Fin 1024) (Q : Fin 2048) :
    (Cert.Reference11Ideal.Read.val_main_v3 (F := Ideal) (m (c, main_arg0)) (m (c, main_arg2)) : FVec Ideal S1024x2048 .bf16) (ix2 P Q)
      = ∑ K : Fin 8192, term m c P Q K := by
  refine (Cert.Reference11Ideal.Read.val_main_v2_apply (F := Ideal) _ _ (ix2 P Q)).trans ?_
  refine (Cert.Reference11Ideal.Read.val_main_v1_apply _ _ _).trans ?_
  refine Finset.sum_congr rfl fun K _ => (mul_comm _ _).trans ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same : (Value.G2 m c : FVec Ideal S1024x2048 .bf16)
    = Cert.Reference11Ideal.Read.val_main_v3 (F := Ideal) (m (c, main_arg0)) (m (c, main_arg2)) := by
  funext y
  rw [eq_ix2 y]
  exact (final_at m c _ _).trans (host_at m c _ _).symm

end Read

/-! ## The claims -/

theorem ref_rests : Cert.quiescent_Reference11Ideal (hReference11Ideal := Cert.Reference11Ideal.Gen.facts) := fun m ρ _ =>
  (θ_run Cert.Reference11Ideal.defs _ _).mono
    (fun r h => ⟨fun c => (h c).2, sem_eq_zero_of_no_sems (by decide) r.2⟩) (Cert.Reference11Ideal.Value.run m ρ)

theorem same_result : Cert.algebraic_Kernel11Ideal_Reference11Ideal (hKernel11Ideal := Cert.Kernel11Ideal.Gen.facts)
    (hReference11Ideal := Cert.Reference11Ideal.Gen.facts) := by
  intro m ρ m' ρ' _ hargs
  refine ⟨fun c => Cert.Kernel11Ideal.Value.G2 m c, Cert.Kernel11Ideal.Value.run m ρ, ?_⟩
  refine (θ_run Cert.Reference11Ideal.defs _ _).mono (fun r h c => ⟨(h c).1.trans ?_, (h c).2⟩) (Cert.Reference11Ideal.Value.run m' ρ')
  refine (Cert.Reference11Ideal.Read.val_main_v3_eq (F := Ideal) _ _).trans (Eq.trans ?_ (same m c).symm)
  exact congrArg₂ (fun a b => Cert.Reference11Ideal.Read.val_main_v3 (F := Ideal) a b) (hargs c).1 (hargs c).2.2

end Cert.K11

end
-- ==== Proof.Slab.lean ====
/-
  The columns of the attention and pooling mixer's input projection, laid out by slab: queries, keys and values of one head
  group after another, then the pooling's input.
-/
module

public import Idealize.ShloMosaic.Lib.KernelVsHost
public import Idealize.ShloMosaic.Lib.ValueIdx
public import Idealize.ShloMosaic.PureOps.Ideal.Laws

@[expose] public section

noncomputable section

namespace Cert.Product

open Idealize.ShloMosaic Idealize.ShloMosaic.ValueIdx

/-- The slab of a block of 512 columns; the block of a slab is found by the same rule. -/
def slab (j : ℕ) : ℕ := if j < 9 then 3 * (j % 3) + j / 3 else 9

theorem slab_lt (j : ℕ) : slab j < 10 := by
  unfold slab
  split <;> omega

theorem slab_slab (j : ℕ) (h : j < 10) : slab (slab j) = j := by
  unfold slab
  by_cases hj : j < 9
  · rw [if_pos hj, if_pos (by omega)]; omega
  · rw [if_neg hj, if_neg (by decide)]; omega

/-- The column that an entry of a slab is. -/
def slabCol (s : Fin 10) (e : Fin 512) : Fin 5120 :=
  ⟨slab s.val * 512 + e.val, by have := slab_lt s.val; omega⟩

/-- A slab's column, laid out by slab, is at the slab itself. -/
theorem slabCol_of (s : ℕ) (hs : s < 10) (e : Fin 512) (Q : Fin 5120) (hQ : Q.val = s * 512 + e.val) :
    slabCol ⟨slab s, slab_lt s⟩ e = Q := by
  apply Fin.ext
  show slab (slab s) * 512 + e.val = Q.val
  rw [slab_slab s hs, hQ]

variable {α : Type} {n : ℕ}

/-- The head groups' columns by slab. -/
theorem heads_at (x : (⟨2, ![n, 5120]⟩ : Shape).Idx → α)
    (h1 : (⟨2, ![n, 5120]⟩ : Shape).Slices ![0, 0] ⟨2, ![n, 4608]⟩)
    (h2 : (⟨2, ![n, 4608]⟩ : Shape).ShapeCasts ⟨4, ![n, 3, 3, 512]⟩)
    (h3 : (⟨4, ![n, 3, 3, 512]⟩ : Shape).Transposes [2, 1, 0, 3] ⟨4, ![3, 3, n, 512]⟩)
    (h4 : (⟨4, ![3, 3, n, 512]⟩ : Shape).ShapeCasts ⟨3, ![9, n, 512]⟩)
    (s : Fin 9) (P : Fin n) (e : Fin 512) :
    shapeCast ⟨3, ![9, n, 512]⟩ (transpose ⟨4, ![3, 3, n, 512]⟩ [2, 1, 0, 3]
      (shapeCast ⟨4, ![n, 3, 3, 512]⟩ (extractStridedSlice ⟨2, ![n, 4608]⟩ ![0, 0] x h1) h2) h3) h4 (ix3 s P e)
      = x (ix2 P (slabCol ⟨s.val, by omega⟩ e)) := by
  have hs := s.isLt
  have ea : s.val / 3 < 3 := by omega
  have eb : s.val % 3 < 3 := by omega
  refine (shapeCast_apply _ h4 _ (ix4 (⟨s.val / 3, ea⟩ : Fin 3) (⟨s.val % 3, eb⟩ : Fin 3) P e) ?_).trans ?_
  · rewrite [Shape.rowMajor_val_four, Shape.rowMajor_val_three]
    show ((s.val / 3 * 3 + s.val % 3) * n + P.val) * 512 + e.val = (s.val * n + P.val) * 512 + e.val
    rw [show s.val / 3 * 3 + s.val % 3 = s.val by omega]
  refine (transpose_apply [2, 1, 0, 3] _ h3 _ (ix4 P (⟨s.val % 3, eb⟩ : Fin 3) (⟨s.val / 3, ea⟩ : Fin 3) e)
    (fun a => match a with | ⟨0, _⟩ => rfl | ⟨1, _⟩ => rfl | ⟨2, _⟩ => rfl | ⟨3, _⟩ => rfl)).trans ?_
  have el : (s.val % 3 * 3 + s.val / 3) * 512 + e.val < 4608 := by omega
  refine (shapeCast_apply _ h2 _ (ix2 P (⟨(s.val % 3 * 3 + s.val / 3) * 512 + e.val, el⟩ : Fin 4608)) ?_).trans ?_
  · rewrite [Shape.rowMajor_val_four, Shape.rowMajor_val_two]
    show P.val * 4608 + ((s.val % 3 * 3 + s.val / 3) * 512 + e.val) = ((P.val * 3 + s.val % 3) * 3 + s.val / 3) * 512 + e.val
    omega
  refine extractStridedSlice_apply ![0, 0] x h1 _ _ (fun a => match a with | ⟨0, _⟩ => ?_ | ⟨1, _⟩ => ?_)
  · exact (Nat.zero_add _).symm
  · show slab s.val * 512 + e.val = 0 + ((s.val % 3 * 3 + s.val / 3) * 512 + e.val)
    unfold slab
    rw [if_pos hs]
    omega

/-- The pooling's columns. -/
theorem rest_at (hn : n ≠ 1) (x : (⟨2, ![n, 5120]⟩ : Shape).Idx → α)
    (h5 : (⟨2, ![n, 5120]⟩ : Shape).Slices ![0, 4608] ⟨2, ![n, 512]⟩)
    (h6 : (⟨2, ![n, 512]⟩ : Shape).BroadcastsInDim ⟨3, ![1, n, 512]⟩ (![1, 2] : Fin 2 → Fin 3))
    (P : Fin n) (e : Fin 512) :
    broadcastInDim ⟨3, ![1, n, 512]⟩ (![1, 2] : Fin 2 → Fin 3) h6 (extractStridedSlice ⟨2, ![n, 512]⟩ ![0, 4608] x h5) (ix3 (0 : Fin 1) P e)
      = x (ix2 P (slabCol 9 e)) := by
  refine (broadcastInDim_apply _ h6 _ _ (ix2 P e) (fun a => match a with | ⟨0, _⟩ => ?_ | ⟨1, _⟩ => ?_)).trans ?_
  · show P.val = if n = 1 then 0 else P.val
    rw [if_neg hn]
  · show e.val = if (512 : ℕ) = 1 then 0 else e.val
    rw [if_neg (by decide)]
  refine extractStridedSlice_apply ![0, 4608] x h5 _ _ (fun a => match a with | ⟨0, _⟩ => ?_ | ⟨1, _⟩ => ?_)
  · exact (Nat.zero_add _).symm
  · rfl

/-- All the columns by slab. -/
theorem slabs_at (hn : n ≠ 1) (x : (⟨2, ![n, 5120]⟩ : Shape).Idx → α)
    (h1 : (⟨2, ![n, 5120]⟩ : Shape).Slices ![0, 0] ⟨2, ![n, 4608]⟩)
    (h2 : (⟨2, ![n, 4608]⟩ : Shape).ShapeCasts ⟨4, ![n, 3, 3, 512]⟩)
    (h3 : (⟨4, ![n, 3, 3, 512]⟩ : Shape).Transposes [2, 1, 0, 3] ⟨4, ![3, 3, n, 512]⟩)
    (h4 : (⟨4, ![3, 3, n, 512]⟩ : Shape).ShapeCasts ⟨3, ![9, n, 512]⟩)
    (h5 : (⟨2, ![n, 5120]⟩ : Shape).Slices ![0, 4608] ⟨2, ![n, 512]⟩)
    (h6 : (⟨2, ![n, 512]⟩ : Shape).BroadcastsInDim ⟨3, ![1, n, 512]⟩ (![1, 2] : Fin 2 → Fin 3))
    (h7 : Shape.Concatenates [⟨3, ![9, n, 512]⟩, ⟨3, ![1, n, 512]⟩] ⟨3, ![10, n, 512]⟩ 0)
    (s : Fin 10) (P : Fin n) (e : Fin 512) :
    concatenate ⟨3, ![10, n, 512]⟩ 0 [⟨⟨3, ![9, n, 512]⟩, shapeCast ⟨3, ![9, n, 512]⟩ (transpose ⟨4, ![3, 3, n, 512]⟩ [2, 1, 0, 3]
        (shapeCast ⟨4, ![n, 3, 3, 512]⟩ (extractStridedSlice ⟨2, ![n, 4608]⟩ ![0, 0] x h1) h2) h3) h4⟩,
      ⟨⟨3, ![1, n, 512]⟩, broadcastInDim ⟨3, ![1, n, 512]⟩ (![1, 2] : Fin 2 → Fin 3) h6 (extractStridedSlice ⟨2, ![n, 512]⟩ ![0, 4608] x h5)⟩] h7 (ix3 s P e)
      = x (ix2 P (slabCol s e)) := by
  by_cases hs : s.val < 9
  · refine (concatenate_pair_apply_left (t := ⟨3, ![10, n, 512]⟩) (s₁ := ⟨3, ![9, n, 512]⟩) (s₂ := ⟨3, ![1, n, 512]⟩) 0 _ _ h7 _ rfl
      (ix3 (⟨s.val, hs⟩ : Fin 9) P e) (fun b => match b with | ⟨0, _⟩ => rfl | ⟨1, _⟩ => rfl | ⟨2, _⟩ => rfl)).trans ?_
    exact heads_at x h1 h2 h3 h4 ⟨s.val, hs⟩ P e
  · have e9 : s = 9 := Fin.ext (show s.val = 9 by omega)
    subst e9
    refine (concatenate_pair_apply_right (t := ⟨3, ![10, n, 512]⟩) (s₁ := ⟨3, ![9, n, 512]⟩) (s₂ := ⟨3, ![1, n, 512]⟩) 0 _ _ h7 _ rfl rfl
      (ix3 (0 : Fin 1) P e) (fun b hb => match b with | ⟨0, _⟩ => absurd rfl hb | ⟨1, _⟩ => rfl | ⟨2, _⟩ => rfl) rfl).trans ?_
    exact rest_at hn x h5 h6 P e

/-- The columns of a matrix in the order of the slabs, side by side. -/
theorem ordered_at (x : (⟨2, ![n, 5120]⟩ : Shape).Idx → α)
    (h1 : (⟨2, ![n, 5120]⟩ : Shape).Slices ![0, 0] ⟨2, ![n, 4608]⟩)
    (h2 : (⟨2, ![n, 4608]⟩ : Shape).ShapeCasts ⟨4, ![n, 3, 3, 512]⟩)
    (h3 : (⟨4, ![n, 3, 3, 512]⟩ : Shape).Transposes [0, 2, 1, 3] ⟨4, ![n, 3, 3, 512]⟩)
    (h4 : (⟨4, ![n, 3, 3, 512]⟩ : Shape).ShapeCasts ⟨2, ![n, 4608]⟩)
    (h5 : (⟨2, ![n, 5120]⟩ : Shape).Slices ![0, 4608] ⟨2, ![n, 512]⟩)
    (h7 : Shape.Concatenates [⟨2, ![n, 4608]⟩, ⟨2, ![n, 512]⟩] ⟨2, ![n, 5120]⟩ 1)
    (s : Fin 10) (P : Fin n) (e : Fin 512) (Q : Fin 5120) (hQ : Q.val = s.val * 512 + e.val) :
    concatenate ⟨2, ![n, 5120]⟩ 1 [⟨⟨2, ![n, 4608]⟩, shapeCast ⟨2, ![n, 4608]⟩ (transpose ⟨4, ![n, 3, 3, 512]⟩ [0, 2, 1, 3]
        (shapeCast ⟨4, ![n, 3, 3, 512]⟩ (extractStridedSlice ⟨2, ![n, 4608]⟩ ![0, 0] x h1) h2) h3) h4⟩,
      ⟨⟨2, ![n, 512]⟩, extractStridedSlice ⟨2, ![n, 512]⟩ ![0, 4608] x h5⟩] h7 (ix2 P Q)
      = x (ix2 P (slabCol s e)) := by
  by_cases hs : s.val < 9
  · have hq : Q.val < 4608 := by omega
    refine (concatenate_pair_apply_left (t := ⟨2, ![n, 5120]⟩) (s₁ := ⟨2, ![n, 4608]⟩) (s₂ := ⟨2, ![n, 512]⟩) 1 _ _ h7 _ rfl
      (ix2 P (⟨Q.val, hq⟩ : Fin 4608)) (fun b => match b with | ⟨0, _⟩ => rfl | ⟨1, _⟩ => rfl)).trans ?_
    have ea : s.val / 3 < 3 := by omega
    have eb : s.val % 3 < 3 := by omega
    refine (shapeCast_apply _ h4 _ (ix4 P (⟨s.val / 3, ea⟩ : Fin 3) (⟨s.val % 3, eb⟩ : Fin 3) e) ?_).trans ?_
    · rewrite [Shape.rowMajor_val_four, Shape.rowMajor_val_two]
      show ((P.val * 3 + s.val / 3) * 3 + s.val % 3) * 512 + e.val = P.val * 4608 + Q.val
      omega
    refine (transpose_apply [0, 2, 1, 3] _ h3 (ix4 P (⟨s.val / 3, ea⟩ : Fin 3) (⟨s.val % 3, eb⟩ : Fin 3) e) (ix4 P (⟨s.val % 3, eb⟩ : Fin 3) (⟨s.val / 3, ea⟩ : Fin 3) e)
      (fun a => match a with | ⟨0, _⟩ => rfl | ⟨1, _⟩ => rfl | ⟨2, _⟩ => rfl | ⟨3, _⟩ => rfl)).trans ?_
    have el : (s.val % 3 * 3 + s.val / 3) * 512 + e.val < 4608 := by omega
    refine (shapeCast_apply _ h2 _ (ix2 P (⟨(s.val % 3 * 3 + s.val / 3) * 512 + e.val, el⟩ : Fin 4608)) ?_).trans ?_
    · rewrite [Shape.rowMajor_val_four, Shape.rowMajor_val_two]
      show P.val * 4608 + ((s.val % 3 * 3 + s.val / 3) * 512 + e.val) = ((P.val * 3 + s.val % 3) * 3 + s.val / 3) * 512 + e.val
      omega
    refine extractStridedSlice_apply ![0, 0] x h1 _ _ (fun a => match a with | ⟨0, _⟩ => ?_ | ⟨1, _⟩ => ?_)
    · exact (Nat.zero_add _).symm
    · show slab s.val * 512 + e.val = 0 + ((s.val % 3 * 3 + s.val / 3) * 512 + e.val)
      unfold slab
      rw [if_pos hs]
      omega
  · have e9 : s = 9 := Fin.ext (show s.val = 9 by omega)
    subst e9
    refine (concatenate_pair_apply_right (t := ⟨2, ![n, 5120]⟩) (s₁ := ⟨2, ![n, 4608]⟩) (s₂ := ⟨2, ![n, 512]⟩) 1 _ _ h7 _ rfl rfl
      (ix2 P e) (fun b hb => match b with | ⟨0, _⟩ => rfl | ⟨1, _⟩ => absurd rfl hb) ?_).trans ?_
    · show e.val + 4608 = Q.val
      rw [hQ]
      show e.val + 4608 = 9 * 512 + e.val
      omega
    refine extractStridedSlice_apply ![0, 4608] x h5 _ _ (fun a => match a with | ⟨0, _⟩ => ?_ | ⟨1, _⟩ => ?_)
    · exact (Nat.zero_add _).symm
    · rfl

/-- A sum over all columns, slab by slab: ten sums of 512. -/
theorem sum_slabs (f : Fin 5120 → EReal) : ∑ Q : Fin 5120, f Q = ∑ s : Fin 10, ∑ e : Fin 512, f (slabCol s e) := by
  have hinv : Function.Involutive (fun s : Fin 10 => (⟨slab s.val, slab_lt s.val⟩ : Fin 10)) :=
    fun s => Fin.ext (slab_slab s.val s.isLt)
  have e1 : ∑ Q : Fin 5120, f Q = ∑ p : Fin 10 × Fin 512, f (finProdFinEquiv p) :=
    (Equiv.sum_comp (finProdFinEquiv (m := 10) (n := 512)) f).symm
  rw [e1, Fintype.sum_prod_type]
  refine (Equiv.sum_comp hinv.toPerm (fun s : Fin 10 => ∑ e : Fin 512, f (finProdFinEquiv (s, e)))).symm.trans ?_
  refine Finset.sum_congr rfl fun s _ => Finset.sum_congr rfl fun e _ => congrArg f (Fin.ext ?_)
  show e.val + 512 * slab s.val = slab s.val * 512 + e.val
  omega

end Cert.Product

end
-- ==== Proof.K12.lean ====
/-
  The gradient of the attention and pooling mixer's input: what the call leaves is the host's product.
-/
module

public import proofs.«01_k».proof.Proof.Product
public import proofs.«01_k».proof.Defs
public import Idealize.ShloMosaic.Lib.Quiescent
public import proofs.«01_k».proof.Proof.Gen.Kernel12Ideal.Value
public import proofs.«01_k».proof.Proof.Gen.Reference12Ideal.Read
public import Idealize.ShloMosaic.Lib.Tactic
public import proofs.«01_k».proof.Proof.Slab
public import Idealize.ShloMosaic.Lib.ValueLayout

@[expose] public section

set_option maxRecDepth 16384

noncomputable section

namespace Cert.K12

open Idealize.ShloMosaic Idealize.ShloMosaic.TcCoe Idealize.SL.Sem Idealize.ShloMosaic.StableHlo Idealize.ShloMosaic.ValueIdx
open Cert.Kernel12Ideal Cert.Kernel12Ideal.Gen Cert.Product

section Body

variable {F : FTy → Type} [FloatOps F]

/-- The product of one of a point's five slabs with its 512 columns of the weight. -/
def one (b d : ℕ) (hx : S5x1024x512.Slices ![b, 0, 0] S1x1024x512) (hw : S1024x2560.Slices ![0, d] S1024x512)
    (x : FVec F S5x1024x512 .bf16) (w : FVec F S1024x2560 .bf16) : FVec F S1024x1024 .f32 :=
  FloatOps.matmul dot_S1024x512_S1024x512_S1024x1024_1_1_0_0_n_n none
    (shapeCast S1024x512 (extractStridedSlice S1x1024x512 ![b, 0, 0] x hx) shapeCasts_S1x1024x512_S1024x512)
    (extractStridedSlice S1024x512 ![0, d] w hw) (constant S1024x1024 .f32 0x00000000#32)

/-- The products of a point's five slabs, added. -/
def part (x : FVec F S5x1024x512 .bf16) (w : FVec F S1024x2560 .bf16) : FVec F S1024x1024 .f32 :=
  addf (addf (addf (addf (one 0 0 slices_S5x1024x512_o0_0_0_S1x1024x512 slices_S1024x2560_o0_0_S1024x512 x w)
    (one 1 512 slices_S5x1024x512_o1_0_0_S1x1024x512 slices_S1024x2560_o0_512_S1024x512 x w))
    (one 2 1024 slices_S5x1024x512_o2_0_0_S1x1024x512 slices_S1024x2560_o0_1024_S1024x512 x w))
    (one 3 1536 slices_S5x1024x512_o3_0_0_S1x1024x512 slices_S1024x2560_o0_1536_S1024x512 x w))
    (one 4 2048 slices_S5x1024x512_o4_0_0_S1x1024x512 slices_S1024x2560_o0_2048_S1024x512 x w)

theorem pay (x : FVec F S5x1024x512 .bf16) (w : FVec F S1024x2560 .bf16) : k0_pay1 x w = part x w := by
  unfold k0_pay1 part one
  simp only [shapeCast_self]

variable (c : Dev nD) (i : grid0.Coords) (a3 : Memref sig .tc .vmem S5x1024x512 .bf16) (h3 : a3.IsWhole)
  (a4 : Memref sig .tc .vmem S1024x2560 .bf16) (h4 : a4.IsWhole) (a5 : Memref sig .tc .vmem S1024x1024 .f32) (h5 : a5.IsWhole)
  (a6 : Memref sig .tc .vmem S1024x1024 .f32) (h6 : a6.IsWhole)
  (x : FVec F S5x1024x512 .bf16) (w : FVec F S1024x2560 .bf16) (s : FVec F S1024x1024 .f32)

/-- The first point of a run leaves its sum. -/
theorem first (hc0 : cond0_0 i) (hc1 : ¬cond0_1 i) (hc2 : ¬cond0_2 i) : sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, h6.read_unread, View.ld_unit_zero (S := S5x1024x512) zero3, View.ld_unit_zero (S := S1024x2560) zero2, shapeCast_self, pay]

/-- The last point of a run writes the sum so far with its own added. -/
theorem last (hc0 : ¬cond0_0 i) (hc1 : cond0_1 i) (hc2 : cond0_2 i) : out0_B_2 c i a3 h3 a4 h4 a5 h5 a6 h6 hc0 hc1 hc2 x w s = addf s (part x w) := by
  unfold out0_B_2
  rw [View.read_writes_eq_canon _ _ _ (cover0_B_2 c i a3 h3 a4 h4 a5 h5 a6 h6 hc0 hc1 hc2 x w s)]
  unfold kernelRun0_B
  dsimp only
  sl_unfold_words
  rw [View.canon_unit_zero zero2, View.readCov_unit_zero (S := S1024x1024) _ zero2]
  unfold k0_pay3
  simp only [View.readAt_eq_ld, h3.read_unread, h4.read_unread, h6.read_unread, View.ld_unit_zero (S := S5x1024x512) zero3, View.ld_unit_zero (S := S1024x2560) zero2, View.ld_unit_zero (S := S1024x1024) zero2, shapeCast_self, pay]

variable (m : (ℓ : Loc nD τ sig) → Buf (Elt F) ℓ)

theorem carried_first (t : Fin cfg0.N) (h : t.val % 2 = 0) (h1 : ¬t.val % 2 = 1) (h2 : ¬t.val % 2 = 1) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_last (t : Fin cfg0.N) (h : ¬t.val % 2 = 0) (h1 : t.val % 2 = 1) (h2 : t.val % 2 = 1) :
    (outsAt0 m c t.val t.isLt).1
      = addf (outsAt0 m c (t.val - 1) (Nat.lt_of_le_of_lt (Nat.sub_le _ _) t.isLt)).2 (part (F := F) (iblk m c 0 t) (iblk m c 1 t)) := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_B m c t h h1 h2]

/-- The points of a run. -/
theorem bound {n : ℕ} (r : ℕ) (hr : r < 2) (hn : 2 * n + 1 < cfg0.N) : 2 * n + r < cfg0.N := by omega

/-- The sum of a run. -/
def total (n : ℕ) (hn : 2 * n + 1 < cfg0.N) : FVec F S1024x1024 .f32 :=
  addf (part (F := F) (iblk m c 0 ⟨2 * n + 0, bound 0 (by decide) hn⟩) (iblk m c 1 ⟨2 * n + 0, bound 0 (by decide) hn⟩))
    (part (F := F) (iblk m c 0 ⟨2 * n + 1, hn⟩) (iblk m c 1 ⟨2 * n + 1, hn⟩))

/-- What the last point of a run writes back. -/
theorem written (n : ℕ) (hn : 2 * n + 1 < cfg0.N) : (outsAt0 m c (2 * n + 1) hn).1 = total c m n hn := by
  have h2 := carried_last c m ⟨2 * n + 1, hn⟩ (by dsimp only; omega) (by dsimp only; omega) (by dsimp only; omega)
  have h1 := carried_first c m ⟨2 * n + 0, bound 0 (by decide) hn⟩ (by dsimp only; omega) (by dsimp only; omega) (by dsimp only; omega)
  unfold total
  rw [← h1]
  refine h2.trans ?_
  rfl

end Body

/-! ## Read at an index -/

section Read

variable (m : (ℓ : Loc nD τ sig) → Buf (Elt Ideal) ℓ) (c : Dev nD)

/-- The result's gradient before it is rounded. -/
def left : FVec Ideal S8192x5120 .f32 := m (c, main_arg2)

/-- The weight before it is rounded. -/
def right : FVec Ideal S2048x5120 .f32 := m (c, main_arg1)

/-- The gradient as the call reads it. -/
theorem V_left : V m c main_v7 = (truncf .bf16 (concatenate S10x8192x512 0 [⟨S9x8192x512, shapeCast S9x8192x512 (transpose S3x3x8192x512 [2, 1, 0, 3]
      (shapeCast S8192x3x3x512 (extractStridedSlice S8192x4608 ![0, 0] (left m c) slices_S8192x5120_S8192x4608_0_0) shapeCasts_S8192x4608_S8192x3x3x512)
        transposes_S8192x3x3x512_S3x3x8192x512_2_1_0_3) shapeCasts_S3x3x8192x512_S9x8192x512⟩,
      ⟨S1x8192x512, broadcastInDim S1x8192x512 ![1, 2] bcast_S8192x512_S1x8192x512_1_2
        (extractStridedSlice S8192x512 ![0, 4608] (left m c) slices_S8192x5120_S8192x512_0_4608)⟩] concatenates_S9x8192x512_S1x8192x512_S10x8192x512_d0 : FVec Ideal S10x8192x512 .f32) bitsLt_bf16_f32 : FVec Ideal S10x8192x512 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The weight as the call reads it. -/
theorem V_right : V m c main_v14 = (truncf .bf16 (concatenate S2048x5120 1 [⟨S2048x4608, shapeCast S2048x4608 (transpose S2048x3x3x512 [0, 2, 1, 3]
      (shapeCast S2048x3x3x512 (extractStridedSlice S2048x4608 ![0, 0] (right m c) slices_S2048x5120_S2048x4608_0_0) shapeCasts_S2048x4608_S2048x3x3x512)
        transposes_S2048x3x3x512_S2048x3x3x512_0_2_1_3) shapeCasts_S2048x3x3x512_S2048x4608⟩,
      ⟨S2048x512, extractStridedSlice S2048x512 ![0, 4608] (right m c) slices_S2048x5120_S2048x512_0_4608⟩] concatenates_S2048x4608_S2048x512_S2048x5120_d1 : FVec Ideal S2048x5120 .f32) bitsLt_bf16_f32 : FVec Ideal S2048x5120 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 3) = t.val % 2
    ∧ win0_0.index t (1 : Fin 3) = t.val / 4
    ∧ win0_0.index t (2 : Fin 3) = 0
    ∧ win0_1.index t (0 : Fin 2) = t.val / 2 % 2
    ∧ win0_1.index t (1 : Fin 2) = t.val % 2 :=
  (by decide +kernel : ∀ t : Fin grid0.N, _)

theorem left_at (t : Fin cfg0.N) (b : Fin 5) (p : Fin 1024) (k : Fin 512) (s : Fin 10) (P : Fin 8192)
    (hs : s.val = (t.val % 2) * 5 + b.val) (hP : P.val = (t.val / 4) * 1024 + p.val) :
    (iblk m c 0 t : FVec Ideal S5x1024x512 .bf16) (ix3 b p k) = left m c (ix2 P (slabCol s k)) := by
  unfold iblk
  rw [View.read_apply]
  refine (congrFun (V_left m c) (((cfg0.win 0).blk t).view.emb (ix3 b p k))).trans ?_
  have e : (((cfg0.win 0).blk t).view.emb (ix3 b p k) : S10x8192x512.Idx) = ix3 s P k := by
    funext a
    apply Fin.ext
    match a with
    | ⟨0, _⟩ => show win0_0.index t 0 * 5 + 1 * b.val = s.val; rw [(places t).1]; omega
    | ⟨1, _⟩ => show win0_0.index t 1 * 1024 + 1 * p.val = P.val; rw [(places t).2.1]; omega
    | ⟨2, _⟩ => show win0_0.index t 2 * 512 + 1 * k.val = k.val; rw [(places t).2.2.1]; omega
  refine (congrArg _ e).trans ?_
  exact slabs_at (by decide) (left m c) _ _ _ _ _ _ concatenates_S9x8192x512_S1x8192x512_S10x8192x512_d0 s P k

theorem right_at (t : Fin cfg0.N) (q : Fin 1024) (j : Fin 2560) (k : Fin 512) (s : Fin 10) (Q : Fin 2048)
    (hs : (t.val % 2) * 2560 + j.val = s.val * 512 + k.val) (hQ : Q.val = (t.val / 2 % 2) * 1024 + q.val) :
    (iblk m c 1 t : FVec Ideal S1024x2560 .bf16) (ix2 q j) = right m c (ix2 Q (slabCol s k)) := by
  unfold iblk
  rw [View.read_apply]
  refine (congrFun (V_right m c) (((cfg0.win 1).blk t).view.emb (ix2 q j))).trans ?_
  have e : (((cfg0.win 1).blk t).view.emb (ix2 q j) : S2048x5120.Idx) = ix2 Q (⟨s.val * 512 + k.val, by omega⟩ : Fin 5120) := by
    funext a
    apply Fin.ext
    match a with
    | ⟨0, _⟩ => show win0_1.index t 0 * 1024 + 1 * q.val = Q.val; rw [(places t).2.2.2.1]; omega
    | ⟨1, _⟩ => show win0_1.index t 1 * 2560 + 1 * j.val = s.val * 512 + k.val; rw [(places t).2.2.2.2]; omega
  refine (congrArg _ e).trans ?_
  exact ordered_at (right m c) _ _ _ _ _ concatenates_S2048x4608_S2048x512_S2048x5120_d1 s Q k _ rfl

/-- The host's sum over the columns of one slab. -/
def slabSum (P : Fin 8192) (Q : Fin 2048) (s : Fin 10) : EReal :=
  ∑ k : Fin 512, left m c (ix2 P (slabCol s k)) * right m c (ix2 Q (slabCol s k))

/-- A product of two blocks of 512, at an index. -/
theorem prod_at (xs ys : FVec Ideal S1024x512 .bf16) (p q : Fin 1024) (f : Fin 512 → EReal) (h : ∀ k, xs (ix2 p k) * ys (ix2 q k) = f k) :
    FloatOps.matmul dot_S1024x512_S1024x512_S1024x1024_1_1_0_0_n_n none xs ys (constant S1024x1024 .f32 0x00000000#32) (ix2 p q) = ∑ k, f k := by
  refine (Ideal.matmul_transposedRhs_apply none _ _ _ p q).trans ?_
  refine ((congrArg (· + _) (show (constant S1024x1024 .f32 0x00000000#32 : FVec Ideal S1024x1024 .f32) (ix2 p q) = 0 from Ideal.ofBits_zero_f32)).trans (zero_add _)).trans ?_
  exact Finset.sum_congr rfl fun k _ => h k

theorem one_of (b d : ℕ) (hx : S5x1024x512.Slices ![b, 0, 0] S1x1024x512) (hw : S1024x2560.Slices ![0, d] S1024x512) (hb : b < 5) (hd : d = 512 * b)
    (x : FVec Ideal S5x1024x512 .bf16) (w : FVec Ideal S1024x2560 .bf16) (p q : Fin 1024) :
    one (F := Ideal) b d hx hw x w (ix2 p q) = ∑ k : Fin 512, x (ix3 (⟨b, hb⟩ : Fin 5) p k) * w (ix2 q (⟨d + k.val, by omega⟩ : Fin 2560)) := by
  unfold one
  refine prod_at _ _ p q _ fun k => congrArg₂ (· * ·) ?_ ?_
  · refine (shapeCast_1ab_ab_apply _ _ p k).trans ?_
    exact extractStridedSlice_apply ![b, 0, 0] x hx (ix3 (0 : Fin 1) p k) (ix3 (⟨b, hb⟩ : Fin 5) p k)
      (fun a => match a with | ⟨0, _⟩ => rfl | ⟨1, _⟩ => (Nat.zero_add _).symm | ⟨2, _⟩ => (Nat.zero_add _).symm)
  · exact extractStridedSlice_apply ![0, d] w hw (ix2 q k) (ix2 q (⟨d + k.val, by omega⟩ : Fin 2560))
      (fun a => match a with | ⟨0, _⟩ => (Nat.zero_add _).symm | ⟨1, _⟩ => rfl)

/-- The product of one of a point's slabs, at an index: the host's sum over the columns of that slab. -/
theorem one_at (b d : ℕ) (hx : S5x1024x512.Slices ![b, 0, 0] S1x1024x512) (hw : S1024x2560.Slices ![0, d] S1024x512) (hb : b < 5) (hd : d = 512 * b)
    (t : Fin cfg0.N) (r : ℕ) (hr : r < 2) (ht : t.val % 2 = r) (p q : Fin 1024) (P : Fin 8192) (Q : Fin 2048)
    (hP : P.val = (t.val / 4) * 1024 + p.val) (hQ : Q.val = (t.val / 2 % 2) * 1024 + q.val) :
    one (F := Ideal) b d hx hw (iblk m c 0 t) (iblk m c 1 t) (ix2 p q) = slabSum m c P Q ⟨r * 5 + b, by omega⟩ := by
  refine (one_of b d hx hw hb hd (iblk m c 0 t) (iblk m c 1 t) p q).trans ?_
  unfold slabSum
  refine Finset.sum_congr rfl fun k _ => congrArg₂ (· * ·) ?_ ?_
  · exact left_at m c t ⟨b, hb⟩ p k ⟨r * 5 + b, by omega⟩ P (by rw [ht]) hP
  · exact right_at m c t q ⟨d + k.val, by omega⟩ k ⟨r * 5 + b, by omega⟩ Q (by rw [ht]; show r * 2560 + (d + k.val) = (r * 5 + b) * 512 + k.val; omega) hQ

/-- The sum of a point, at an index: five of the host's ten slabs. -/
theorem part_at (t : Fin cfg0.N) (r : ℕ) (hr : r < 2) (ht : t.val % 2 = r) (p q : Fin 1024) (P : Fin 8192) (Q : Fin 2048)
    (hP : P.val = (t.val / 4) * 1024 + p.val) (hQ : Q.val = (t.val / 2 % 2) * 1024 + q.val) :
    part (F := Ideal) (iblk m c 0 t) (iblk m c 1 t) (ix2 p q) = ∑ b : Fin 5, slabSum m c P Q ⟨r * 5 + b.val, by omega⟩ := by
  unfold part
  have h := fun (b d : ℕ) hx hw hb hd => one_at m c b d hx hw hb hd t r hr ht p q P Q hP hQ
  refine (congrArg₂ (· + ·) (congrArg₂ (· + ·) (congrArg₂ (· + ·) (congrArg₂ (· + ·) (h 0 0 _ _ (by decide) rfl) (h 1 512 _ _ (by decide) rfl))
    (h 2 1024 _ _ (by decide) rfl)) (h 3 1536 _ _ (by decide) rfl)) (h 4 2048 _ _ (by decide) rfl)).trans ?_
  exact (Fin.sum_univ_five (fun b : Fin 5 => slabSum m c P Q ⟨r * 5 + b.val, by omega⟩)).symm

/-- The sum of a run, at an index. -/
theorem total_at (n : ℕ) (hn : 2 * n + 1 < cfg0.N) (p q : Fin 1024) (P : Fin 8192) (Q : Fin 2048)
    (hP : P.val = (n / 2) * 1024 + p.val) (hQ : Q.val = (n % 2) * 1024 + q.val) :
    total (F := Ideal) c m n hn (ix2 p q) = ∑ s : Fin 10, slabSum m c P Q s :=
  sum_two_of (b := 5) rfl (slabSum m c P Q)
    (part_at m c ⟨2 * n + 0, bound 0 (by decide) hn⟩ 0 (by decide) (by dsimp only; omega) p q P Q (by dsimp only; omega) (by dsimp only; omega))
    (part_at m c ⟨2 * n + 1, hn⟩ 1 (by decide) (by dsimp only; omega) p q P Q (by dsimp only; omega) (by dsimp only; omega))

/-- What the last point of a run writes back, at an index. -/
theorem written_at (n : ℕ) (hn : 2 * n + 1 < cfg0.N) (p q : Fin 1024) (P : Fin 8192) (Q : Fin 2048)
    (hP : P.val = (n / 2) * 1024 + p.val) (hQ : Q.val = (n % 2) * 1024 + q.val) :
    (outsAt0 m c (2 * n + 1) hn).1 (ix2 p q) = ∑ s : Fin 10, slabSum m c P Q s := by
  rw [written c m n hn]
  exact total_at m c n hn p q P Q hP hQ

/-- An element of what the call leaves. -/
theorem final_at (P : Fin 8192) (Q : Fin 2048) : (Value.G2 m c : FVec Ideal S8192x2048 .f32) (ix2 P Q) = ∑ s : Fin 10, slabSum m c P Q s := by
  have hN : cfg0.N = 32 := N_0
  have hn : Value.run2Of (ix2 P Q) = 2 * (P.val / 1024 - 0) + 1 * (Q.val / 1024 - 0) := rfl
  have hb : Value.pt2Of (ix2 P Q) < cfg0.N := by
    show 2 * Value.run2Of (ix2 P Q) + 1 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written_at m c _ hb _ _ P Q (by rw [hn]; dsimp only; omega) (by rw [hn]; dsimp only; omega)

/-- An element of the host's result: its sum over the columns, slab by slab. -/
theorem host_at (P : Fin 8192) (Q : Fin 2048) :
    (Cert.Reference12Ideal.Read.val_main_v1 (F := Ideal) (m (c, main_arg1)) (m (c, main_arg2)) : FVec Ideal S8192x2048 .f32) (ix2 P Q)
      = ∑ s : Fin 10, slabSum m c P Q s := by
  refine (Cert.Reference12Ideal.Read.val_main_v1_apply _ _ _).trans (Eq.trans ?_ (sum_slabs fun K => left m c (ix2 P K) * right m c (ix2 Q K)))
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same : (Value.G2 m c : FVec Ideal S8192x2048 .f32)
    = Cert.Reference12Ideal.Read.val_main_v1 (F := Ideal) (m (c, main_arg1)) (m (c, main_arg2)) := by
  funext y
  rw [eq_ix2 y]
  exact (final_at m c _ _).trans (host_at m c _ _).symm

end Read

/-! ## The claims -/

theorem ref_rests : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩) (Cert.Reference12Ideal.Value.run m ρ)

theorem same_result : Cert.algebraic_Kernel12Ideal_Reference12Ideal (hKernel12Ideal := Cert.Kernel12Ideal.Gen.facts)
    (hReference12Ideal := Cert.Reference12Ideal.Gen.facts) := by
  intro m ρ m' ρ' _ hargs
  refine ⟨fun c => Cert.Kernel12Ideal.Value.G2 m c, Cert.Kernel12Ideal.Value.run m ρ, ?_⟩
  refine (θ_run Cert.Reference12Ideal.defs _ _).mono (fun r h c => ⟨(h c).1.trans ?_, (h c).2⟩) (Cert.Reference12Ideal.Value.run m' ρ')
  refine (Cert.Reference12Ideal.Read.val_main_v1_eq (F := Ideal) _ _).trans (Eq.trans ?_ (same m c).symm)
  exact congrArg₂ (fun a b => Cert.Reference12Ideal.Read.val_main_v1 (F := Ideal) a b) (hargs c).2.1 (hargs c).2.2

end Cert.K12

end
-- ==== Proof.K13.lean ====
/-
  The gradient of the attention and pooling mixer's input weight: what the call leaves is the host's product.
-/
module

public import proofs.«01_k».proof.Proof.Product
public import proofs.«01_k».proof.Defs
public import Idealize.ShloMosaic.Lib.Quiescent
public import proofs.«01_k».proof.Proof.Gen.Kernel13Ideal.Value
public import proofs.«01_k».proof.Proof.Gen.Reference13Ideal.Read
public import Idealize.ShloMosaic.Lib.Tactic
public import proofs.«01_k».proof.Proof.Slab
public import Idealize.ShloMosaic.Lib.ValueLayout

@[expose] public section

set_option maxRecDepth 16384

noncomputable section

namespace Cert.K13

open Idealize.ShloMosaic Idealize.ShloMosaic.TcCoe Idealize.SL.Sem Idealize.ShloMosaic.StableHlo Idealize.ShloMosaic.ValueIdx
open Cert.Kernel13Ideal Cert.Kernel13Ideal.Gen Cert.Product

section Body

variable {F : FTy → Type} [FloatOps F]

/-- The product of the two blocks of a point. -/
def part (x : FVec F S2048x1024 .bf16) (w : FVec F S1x2048x512 .bf16) : FVec F S1024x512 .f32 :=
  FloatOps.matmul dot_S2048x1024_S2048x512_S1024x512_0_0_1_1_n_n none x (shapeCast S2048x512 w shapeCasts_S1x2048x512_S2048x512) (constant S1024x512 .f32 0x00000000#32)

theorem pay (x : FVec F S2048x1024 .bf16) (w : FVec F S1x2048x512 .bf16) : k0_pay1 x w = part x w := by
  unfold k0_pay1 part
  simp only [shapeCast_self]

variable (c : Dev nD) (i : grid0.Coords) (a3 : Memref sig .tc .vmem S2048x1024 .bf16) (h3 : a3.IsWhole)
  (a4 : Memref sig .tc .vmem S1x2048x512 .bf16) (h4 : a4.IsWhole) (a5 : Memref sig .tc .vmem S1024x512 .bf16) (h5 : a5.IsWhole)
  (a6 : Memref sig .tc .vmem S1024x512 .f32) (h6 : a6.IsWhole)
  (x : FVec F S2048x1024 .bf16) (w : FVec F S1x2048x512 .bf16) (s : FVec F S1024x512 .f32)

/-- The first point of a run leaves its product. -/
theorem first (hc0 : cond0_0 i) (hc1 : ¬cond0_1 i) (hc2 : ¬cond0_2 i) :
    sout0_A_0 c i a3 h3 a4 h4 a5 h5 a6 h6 hc0 hc1 hc2 x w = part x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero zero2]
  unfold k0_pay2
  simp only [View.readAt_eq_ld, h3.read_unread, h4.read_unread, View.ld_unit_zero (S := S2048x1024) zero2, View.ld_unit_zero (S := S1x2048x512) zero3, shapeCast_self, pay]

/-- A later point adds its product. -/
theorem later (hc0 : ¬cond0_0 i) (hc1 : cond0_1 i) (hc2 : ¬cond0_2 i) :
    sout0_B_0 c i a3 h3 a4 h4 a5 h5 a6 h6 hc0 hc1 hc2 x w s = addf s (part x w) := by
  unfold sout0_B_0
  rw [View.read_writes_eq_canon _ _ _ (scover0_B_0 c i a3 h3 a4 h4 a5 h5 a6 h6 hc0 hc1 hc2 x w s)]
  unfold kernelRun0_B
  dsimp only
  rw [View.canon_unit_zero zero2]
  unfold k0_pay3
  simp only [View.readAt_eq_ld, h3.read_unread, h4.read_unread, h6.read_unread, View.ld_unit_zero (S := S2048x1024) zero2, View.ld_unit_zero (S := S1x2048x512) zero3, View.ld_unit_zero (S := S1024x512) zero2,
    shapeCast_self, pay]

/-- The last point writes the sum, rounded. -/
theorem last (hc0 : ¬cond0_0 i) (hc1 : cond0_1 i) (hc2 : cond0_2 i) :
    out0_C_2 c i a3 h3 a4 h4 a5 h5 a6 h6 hc0 hc1 hc2 x w s = truncf .bf16 (addf s (part x w)) bitsLt_bf16_f32 := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zero2, View.readCov_unit_zero (S := S1024x512) _ zero2]
  unfold k0_pay4 k0_pay3
  simp only [View.readAt_eq_ld, h3.read_unread, h4.read_unread, h6.read_unread, View.ld_unit_zero (S := S2048x1024) zero2, View.ld_unit_zero (S := S1x2048x512) zero3, View.ld_unit_zero (S := S1024x512) zero2,
    shapeCast_self, pay]

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2 = part (F := F) (iblk m c 0 t) (iblk m c 1 t) := by
  have e := first c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2
      (part (F := F) (iblk m c 0 t) (iblk m c 1 t)) := by
  have e := later c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) (fun g => h2 ((hcond0_2 t).mp g))
  rw [← e, outsAt0_B m c t h h1 h2]

theorem carried_last (t : Fin cfg0.N) (h : ¬t.val % 4 = 0) (h1 : 1 ≤ t.val % 4) (h2 : t.val % 4 = 3) :
    (outsAt0 m c t.val t.isLt).1 = truncf .bf16 (addf (outsAt0 m c (t.val - 1) (Nat.lt_of_le_of_lt (Nat.sub_le _ _) t.isLt)).2 (part (F := F) (iblk m c 0 t) (iblk m c 1 t))) bitsLt_bf16_f32 := by
  have e := last c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- What the last point of a run writes back. -/
theorem written (n : ℕ) (hn : 4 * n + 3 < cfg0.N) :
    (outsAt0 m c (4 * n + 3) hn).1 = truncf .bf16 (addf (addf (addf (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩))) bitsLt_bf16_f32 := by
  have h4 := carried_last c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  rw [← h1]
  refine h4.trans ?_
  refine congrArg (fun s => truncf .bf16 (addf s _) bitsLt_bf16_f32) (h3.trans ?_)
  exact congrArg (fun s => addf s _) h2

end Body

/-! ## Read at an index -/

section Read

variable (m : (ℓ : Loc nD τ sig) → Buf (Elt Ideal) ℓ) (c : Dev nD)

/-- The left operand before it is rounded. -/
def left : FVec Ideal S8192x2048 .f32 := m (c, main_arg0)

/-- The right operand before it is rounded. -/
def right : FVec Ideal S8192x5120 .f32 := m (c, main_arg2)

/-- The left operand as the call reads it. -/
theorem V_left : V m c main_v0 = (truncf .bf16 (left m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v8 = (truncf .bf16 (concatenate S10x8192x512 0 [⟨S9x8192x512, shapeCast S9x8192x512 (transpose S3x3x8192x512 [2, 1, 0, 3]
      (shapeCast S8192x3x3x512 (extractStridedSlice S8192x4608 ![0, 0] (right m c) slices_S8192x5120_S8192x4608_0_0) shapeCasts_S8192x4608_S8192x3x3x512)
        transposes_S8192x3x3x512_S3x3x8192x512_2_1_0_3) shapeCasts_S3x3x8192x512_S9x8192x512⟩,
      ⟨S1x8192x512, broadcastInDim S1x8192x512 ![1, 2] bcast_S8192x512_S1x8192x512_1_2
        (extractStridedSlice S8192x512 ![0, 4608] (right m c) slices_S8192x5120_S8192x512_0_4608)⟩] concatenates_S9x8192x512_S1x8192x512_S10x8192x512_d0 : FVec Ideal S10x8192x512 .f32) bitsLt_bf16_f32 : FVec Ideal S10x8192x512 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val % 4 ∧ win0_0.index t (1 : Fin 2) = t.val / 40
    ∧ win0_1.index t (0 : Fin 3) = slab (t.val / 4 % 10) ∧ win0_1.index t (1 : Fin 3) = t.val % 4 ∧ win0_1.index t (2 : Fin 3) = 0 :=
  (by decide +kernel : ∀ t : Fin grid0.N, _)

theorem left_at (t : Fin cfg0.N) (k : Fin 2048) (p : Fin 1024) (K : Fin 8192) (P : Fin 2048) (hK : K.val = (t.val % 4) * 2048 + k.val)
    (hP : P.val = (t.val / 40) * 1024 + p.val) :
    (iblk m c 0 t : FVec Ideal S2048x1024 .bf16) (ix2 k p) = left m c (ix2 K P) := by
  unfold iblk
  rw [View.read_apply]
  refine (congrFun (V_left m c) (((cfg0.win 0).blk t).view.emb (ix2 k p))).trans ?_
  show left m c _ = _
  congr 1
  funext a
  apply Fin.ext
  match a with
  | ⟨0, _⟩ => show win0_0.index t 0 * 2048 + 1 * k.val = K.val; rw [(places t).1]; omega
  | ⟨1, _⟩ => show win0_0.index t 1 * 1024 + 1 * p.val = P.val; rw [(places t).2.1]; omega

theorem right_at (t : Fin cfg0.N) (k : Fin 2048) (q : Fin 512) (K : Fin 8192) (Q : Fin 5120) (hK : K.val = (t.val % 4) * 2048 + k.val)
    (hQ : Q.val = (t.val / 4 % 10) * 512 + q.val) :
    shapeCast S2048x512 (iblk m c 1 t : FVec Ideal S1x2048x512 .bf16) shapeCasts_S1x2048x512_S2048x512 (ix2 k q) = right m c (ix2 K Q) := by
  refine (shapeCast_1ab_ab_apply _ _ _ _).trans ?_
  unfold iblk
  rw [View.read_apply]
  refine (congrFun (V_right m c) (((cfg0.win 1).blk t).view.emb (ix3 (0 : Fin 1) k q))).trans ?_
  have e : (((cfg0.win 1).blk t).view.emb (ix3 (0 : Fin 1) k q) : S10x8192x512.Idx) = ix3 (⟨slab (t.val / 4 % 10), slab_lt _⟩ : Fin 10) K q := by
    funext a
    apply Fin.ext
    match a with
    | ⟨0, _⟩ => show win0_1.index t 0 * 1 + 1 * 0 = slab (t.val / 4 % 10); rw [(places t).2.2.1]; omega
    | ⟨1, _⟩ => show win0_1.index t 1 * 2048 + 1 * k.val = K.val; rw [(places t).2.2.2.1]; omega
    | ⟨2, _⟩ => show win0_1.index t 2 * 512 + 1 * q.val = q.val; rw [(places t).2.2.2.2]; omega
  refine (congrArg _ e).trans ?_
  refine (slabs_at (by decide) (right m c) _ _ _ _ _ _ concatenates_S9x8192x512_S1x8192x512_S10x8192x512_d0 (⟨slab (t.val / 4 % 10), slab_lt _⟩ : Fin 10) K q).trans ?_
  exact congrArg (fun Q => right m c (ix2 K Q)) (slabCol_of (t.val / 4 % 10) (Nat.mod_lt _ (by decide)) q Q hQ)

/-- One term of the host's product. -/
def term (P : Fin 2048) (Q : Fin 5120) (K : Fin 8192) : EReal :=
  left m c (ix2 K P) * right m c (ix2 K Q)

theorem part_at (t : Fin cfg0.N) (p : Fin 1024) (q : Fin 512) (P : Fin 2048) (Q : Fin 5120) (r : ℕ) (hr : r < 4) (ht : t.val % 4 = r)
    (hP : P.val = (t.val / 40) * 1024 + p.val) (hQ : Q.val = (t.val / 4 % 10) * 512 + q.val) :
    part (F := Ideal) (iblk m c 0 t) (iblk m c 1 t) (ix2 p q) = ∑ k : Fin 2048, term m c P Q ⟨r * 2048 + k.val, by omega⟩ := by
  unfold part
  refine (byRows_apply _ _ _ _ p q).trans ?_
  refine ((congrArg (· + _) (show (constant S1024x512 .f32 0x00000000#32 : FVec Ideal S1024x512 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- What the last point of a run writes, at an index. -/
theorem written_at (n : ℕ) (hn : 4 * n + 3 < cfg0.N) (p : Fin 1024) (q : Fin 512) (P : Fin 2048) (Q : Fin 5120)
    (hP : P.val = (n / 10) * 1024 + p.val) (hQ : Q.val = (n % 10) * 512 + q.val) :
    (outsAt0 m c (4 * n + 3) hn).1 (ix2 p q) = ∑ K : Fin 8192, term m c P Q K := by
  rw [written c m n hn]
  exact sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- An element of the array the call leaves. -/
theorem final_at (P : Fin 2048) (Q : Fin 5120) : (Value.G2 m c : FVec Ideal S2048x5120 .bf16) (ix2 P Q) = ∑ K : Fin 8192, term m c P Q K := by
  have hN : cfg0.N = 80 := N_0
  have hn : Value.run2Of (ix2 P Q) = 10 * (P.val / 1024 - 0) + 1 * (Q.val / 512 - 0) := rfl
  have hb : Value.pt2Of (ix2 P Q) < cfg0.N := by
    show 4 * Value.run2Of (ix2 P Q) + 3 < _
    omega
  unfold Value.G2
  rw [dif_pos hb, ← Value.outsAt0_sweep m c _ hb]
  have hy : Value.loc2Of (ix2 P Q) = ix2 (⟨P.val % 1024, Nat.mod_lt _ (by decide)⟩ : Fin 1024) (⟨Q.val % 512, Nat.mod_lt _ (by decide)⟩ : Fin 512) := by
    funext a; match a with | ⟨0, _⟩ => rfl | ⟨1, _⟩ => rfl
  rw [hy]
  exact written_at m c _ hb _ _ P Q (by rw [hn]; dsimp only; omega) (by rw [hn]; dsimp only; omega)

/-- An element of the host's result. -/
theorem host_at (P : Fin 2048) (Q : Fin 5120) :
    (Cert.Reference13Ideal.Read.val_main_v3 (F := Ideal) (m (c, main_arg0)) (m (c, main_arg2)) : FVec Ideal S2048x5120 .bf16) (ix2 P Q)
      = ∑ K : Fin 8192, term m c P Q K := by
  refine (Cert.Reference13Ideal.Read.val_main_v2_apply (F := Ideal) _ _ (ix2 P Q)).trans ?_
  refine (Cert.Reference13Ideal.Read.val_main_v1_apply _ _ _).trans ?_
  refine Finset.sum_congr rfl fun K _ => (mul_comm _ _).trans ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same : (Value.G2 m c : FVec Ideal S2048x5120 .bf16)
    = Cert.Reference13Ideal.Read.val_main_v3 (F := Ideal) (m (c, main_arg0)) (m (c, main_arg2)) := by
  funext y
  rw [eq_ix2 y]
  exact (final_at m c _ _).trans (host_at m c _ _).symm

end Read

/-! ## The claims -/

theorem ref_rests : Cert.quiescent_Reference13Ideal (hReference13Ideal := Cert.Reference13Ideal.Gen.facts) := fun m ρ _ =>
  (θ_run Cert.Reference13Ideal.defs _ _).mono
    (fun r h => ⟨fun c => (h c).2, sem_eq_zero_of_no_sems (by decide) r.2⟩) (Cert.Reference13Ideal.Value.run m ρ)

theorem same_result : Cert.algebraic_Kernel13Ideal_Reference13Ideal (hKernel13Ideal := Cert.Kernel13Ideal.Gen.facts)
    (hReference13Ideal := Cert.Reference13Ideal.Gen.facts) := by
  intro m ρ m' ρ' _ hargs
  refine ⟨fun c => Cert.Kernel13Ideal.Value.G2 m c, Cert.Kernel13Ideal.Value.run m ρ, ?_⟩
  refine (θ_run Cert.Reference13Ideal.defs _ _).mono (fun r h c => ⟨(h c).1.trans ?_, (h c).2⟩) (Cert.Reference13Ideal.Value.run m' ρ')
  refine (Cert.Reference13Ideal.Read.val_main_v3_eq (F := Ideal) _ _).trans (Eq.trans ?_ (same m c).symm)
  exact congrArg₂ (fun a b => Cert.Reference13Ideal.Read.val_main_v3 (F := Ideal) a b) (hargs c).1 (hargs c).2.2

end Cert.K13

end
-- ==== Proof.K14.lean ====
/-
  The channel mixers' first product with its squared rectifier: what the call leaves is what the host computes.
-/
module

public import proofs.«01_k».proof.Proof.Product
public import proofs.«01_k».proof.Defs
public import Idealize.ShloMosaic.Lib.Quiescent
public import proofs.«01_k».proof.Proof.Gen.Kernel14Ideal.Value
public import proofs.«01_k».proof.Proof.Gen.Reference14Ideal.Read
public import Idealize.ShloMosaic.Lib.Pipeline.ValueKit
public import Idealize.ShloMosaic.Lib.ValueLayout

@[expose] public section

set_option maxRecDepth 16384

noncomputable section

namespace Cert.K14

open Idealize.ShloMosaic hiding ix2 ix3 eq_ix2 eq_ix3
open Idealize.ShloMosaic.TcCoe Idealize.SL.Sem Idealize.ShloMosaic.StableHlo Idealize.ShloMosaic.ValueIdx
open Cert.Kernel14Ideal Cert.Kernel14Ideal.Gen Cert.Product

section Body

variable {F : FTy → Type} [FloatOps F]

/-- The product of the two blocks of a point. -/
def part (x : FVec F S1024x2048 .bf16) (w : FVec F S1x2048x1024 .bf16) : FVec F S1024x1024 .f32 :=
  FloatOps.matmul dot_S1024x2048_S2048x1024_S1024x1024_1_0_0_1_n_n none x (shapeCast S2048x1024 w shapeCasts_S1x2048x1024_S2048x1024) (constant S1024x1024 .f32 0x00000000#32)

theorem out_eq2 (x : FVec F S1024x2048 .bf16) (w : FVec F S1x2048x1024 .bf16) : out0_2 x w
    = truncf .bf16 (mulf (maximumf (part x w) (broadcast S1024x1024 (Scalar.ofBits .f32 0x00000000#32))) (maximumf (part x w) (broadcast S1024x1024 (Scalar.ofBits .f32 0x00000000#32)))) bitsLt_bf16_f32 := by
  unfold out0_2
  rw [View.canon_unit_zero zero2]
  simp only [View.ld_unit_zero (S := S1024x2048) zero2, View.ld_unit_zero (S := S1x2048x1024) zero3]
  unfold k0_pay2 k0_pay1 part
  simp only [shapeCast_self]

theorem out_eq3 (x : FVec F S1024x2048 .bf16) (w : FVec F S1x2048x1024 .bf16) : out0_3 x w = truncf .bf16 (part x w) bitsLt_bf16_f32 := by
  unfold out0_3
  rw [View.canon_unit_zero zero2]
  simp only [View.ld_unit_zero (S := S1024x2048) zero2, View.ld_unit_zero (S := S1x2048x1024) zero3]
  unfold k0_pay3 k0_pay1 part
  simp only [shapeCast_self]

end Body

/-! ## Read at an index -/

section Read

variable (m : (ℓ : Loc nD τ sig) → Buf (Elt Ideal) ℓ) (c : Dev nD)

/-- The left operand before it is rounded. -/
def left : FVec Ideal S8192x2048 .f32 := m (c, main_arg0)

/-- The right operand before it is rounded. -/
def right : FVec Ideal S2048x8192 .f32 := m (c, main_arg1)

/-- The left operand as the call reads it. -/
theorem V_left : V m c main_v0 = (truncf .bf16 (left m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v3 = (truncf .bf16 (transpose S8x2048x1024 [1, 0, 2] (shapeCast S2048x8x1024 (right m c) shapeCasts_S2048x8192_S2048x8x1024) transposes_S2048x8x1024_S8x2048x1024_1_0_2 : FVec Ideal S8x2048x1024 .f32) bitsLt_bf16_f32 : FVec Ideal S8x2048x1024 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 8
    ∧ win0_0.index t (1 : Fin 2) = 0
    ∧ win0_1.index t (0 : Fin 3) = t.val % 8
    ∧ win0_1.index t (1 : Fin 3) = 0
    ∧ win0_1.index t (2 : Fin 3) = 0
    ∧ win0_2.index t (0 : Fin 2) = t.val / 8
    ∧ win0_2.index t (1 : Fin 2) = t.val % 8
    ∧ win0_3.index t (0 : Fin 2) = t.val / 8
    ∧ win0_3.index t (1 : Fin 2) = t.val % 8 :=
  (by decide +kernel : ∀ t : Fin grid0.N, _)

theorem left_at (t : Fin cfg0.N) (p : Fin 1024) (K : Fin 2048) (P : Fin 8192) (hP : P.val = (t.val / 8) * 1024 + p.val) :
    (iblk m c 0 t : FVec Ideal S1024x2048 .bf16) (ix2 p K) = left m c (ix2 P K) := by
  unfold iblk
  rw [View.read_apply]
  refine (congrFun (V_left m c) (((cfg0.win 0).blk t).view.emb (ix2 p K))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * K.val = K.val; rw [(places t).2.1]; omega

theorem right_at (t : Fin cfg0.N) (q : Fin 1024) (K : Fin 2048) (Q : Fin 8192) (hQ : Q.val = (t.val % 8) * 1024 + q.val) :
    shapeCast S2048x1024 (iblk m c 1 t : FVec Ideal S1x2048x1024 .bf16) shapeCasts_S1x2048x1024_S2048x1024 (ix2 K q) = right m c (ix2 K Q) := by
  refine (shapeCast_1ab_ab_apply _ _ _ _).trans ?_
  unfold iblk
  rw [View.read_apply]
  refine (congrFun (V_right m c) (((cfg0.win 1).blk t).view.emb (ix3 (0 : Fin 1) K q))).trans ?_
  have e : (((cfg0.win 1).blk t).view.emb (ix3 (0 : Fin 1) K q) : S8x2048x1024.Idx) = ix3 (⟨t.val % 8, Nat.mod_lt _ (by decide)⟩ : Fin 8) K q := by
    funext a
    apply Fin.ext
    match a with
    | ⟨0, _⟩ => show win0_1.index t 0 * 1 + 1 * 0 = t.val % 8; rw [(places t).2.2.1]; omega
    | ⟨1, _⟩ => show win0_1.index t 1 * 2048 + 1 * K.val = K.val; rw [(places t).2.2.2.1]; omega
    | ⟨2, _⟩ => show win0_1.index t 2 * 1024 + 1 * q.val = q.val; rw [(places t).2.2.2.2.1]; omega
  refine (congrArg _ e).trans ?_
  refine (transpose_apply [1, 0, 2] (shapeCast S2048x8x1024 (right m c) shapeCasts_S2048x8192_S2048x8x1024)
    transposes_S2048x8x1024_S8x2048x1024_1_0_2 _ (ix3 K (⟨t.val % 8, Nat.mod_lt _ (by decide)⟩ : Fin 8) q)
    (fun a => match a with | ⟨0, _⟩ => rfl | ⟨1, _⟩ => rfl | ⟨2, _⟩ => rfl)).trans ?_
  refine shapeCast_apply (right m c) shapeCasts_S2048x8192_S2048x8x1024 _ (ix2 K Q) ?_
  rewrite [Shape.rowMajor_val_two, Shape.rowMajor_val_three]
  show K.val * 8192 + Q.val = (K.val * 8 + t.val % 8) * 1024 + q.val
  omega

/-- An element of the host's product. -/
def dot (P : Fin 8192) (Q : Fin 8192) : EReal := ∑ K : Fin 2048, left m c (ix2 P K) * right m c (ix2 K Q)

theorem part_at (t : Fin cfg0.N) (p : Fin 1024) (q : Fin 1024) (P : Fin 8192) (Q : Fin 8192)
    (hP : P.val = (t.val / 8) * 1024 + p.val) (hQ : Q.val = (t.val % 8) * 1024 + q.val) :
    part (F := Ideal) (iblk m c 0 t) (iblk m c 1 t) (ix2 p q) = dot m c P Q := by
  unfold part
  refine (Ideal.matmul_plain_apply none _ _ _ p q).trans ?_
  refine ((congrArg (· + _) (show (constant S1024x1024 .f32 0x00000000#32 : FVec Ideal S1024x1024 .f32) (ix2 p q) = 0 from Ideal.ofBits_zero_f32)).trans (zero_add _)).trans ?_
  unfold dot
  refine Finset.sum_congr rfl fun K _ => ?_
  rw [left_at m c t p K P hP, right_at m c t q K Q hQ]

/-- The row of the result that a row of a point's block is. -/
def rowOf (t : Fin cfg0.N) (p : Fin 1024) : Fin 8192 :=
  ⟨(t.val / 8) * 1024 + p.val, by have h := t.isLt; have hN : cfg0.N = 64 := N_0; omega⟩

/-- The column of the result that a column of a point's block is. -/
def colOf (t : Fin cfg0.N) (q : Fin 1024) : Fin 8192 :=
  ⟨(t.val % 8) * 1024 + q.val, by omega⟩

theorem emb2 (t : Fin cfg0.N) (p : Fin 1024) (q : Fin 1024) :
    (((cfg0.win 2).blk t).view.emb (ix2 p q) : S8192x8192.Idx) = ix2 (rowOf t p) (colOf t q) := by
  funext a
  apply Fin.ext
  match a with
  | ⟨0, _⟩ => show win0_2.index t 0 * 1024 + 1 * p.val = (t.val / 8) * 1024 + p.val; rw [(places t).2.2.2.2.2.1]; omega
  | ⟨1, _⟩ => show win0_2.index t 1 * 1024 + 1 * q.val = (t.val % 8) * 1024 + q.val; rw [(places t).2.2.2.2.2.2.1]; omega

theorem emb3 (t : Fin cfg0.N) (p : Fin 1024) (q : Fin 1024) :
    (((cfg0.win 3).blk t).view.emb (ix2 p q) : S8192x8192.Idx) = ix2 (rowOf t p) (colOf t q) := by
  funext a
  apply Fin.ext
  match a with
  | ⟨0, _⟩ => show win0_3.index t 0 * 1024 + 1 * p.val = (t.val / 8) * 1024 + p.val; rw [(places t).2.2.2.2.2.2.2.1]; omega
  | ⟨1, _⟩ => show win0_3.index t 1 * 1024 + 1 * q.val = (t.val % 8) * 1024 + q.val; rw [(places t).2.2.2.2.2.2.2.2]; omega

/-- An element of the host's result. -/
theorem host2_at (P : Fin 8192) (Q : Fin 8192) :
    (Cert.Reference14Ideal.Read.val_main_v3 (F := Ideal) (m (c, main_arg0)) (m (c, main_arg1)) : FVec Ideal S8192x8192 .bf16) (ix2 P Q) = max (dot m c P Q) (Ideal.ofBits .f32 0x00000000#32) * max (dot m c P Q) (Ideal.ofBits .f32 0x00000000#32) := by
  refine congrArg (fun d : EReal => max d (Ideal.ofBits .f32 0x00000000#32) * max d (Ideal.ofBits .f32 0x00000000#32)) (?_ : Cert.Reference14Ideal.Read.val_main_v0 (F := Ideal) (m (c, main_arg0)) (m (c, main_arg1)) (ix2 P Q) = _)
  refine (Cert.Reference14Ideal.Read.val_main_v0_apply _ _ _).trans ?_
  unfold dot
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same2 : ((dats m 0 c).arrAt 2 cfg0.N : FVec Ideal S8192x8192 .bf16)
    = Cert.Reference14Ideal.Read.val_main_v3 (F := Ideal) (m (c, main_arg0)) (m (c, main_arg1)) := by
  refine (dats m 0 c).arrAt_eq_of_covers 2 _ (by decide +kernel) fun t hf y => ?_
  blk_simp
  rw [after0_2, out_eq2]
  have hy : y = ix2 (y 0 : Fin 1024) (y 1 : Fin 1024) := eq_ix2 y
  rw [hy]
  refine Eq.trans ?_ (congrArg (Cert.Reference14Ideal.Read.val_main_v3 (F := Ideal) (m (c, main_arg0)) (m (c, main_arg1)) : FVec Ideal S8192x8192 .bf16) (emb2 t (y 0) (y 1))).symm
  refine Eq.trans ?_ (host2_at m c (rowOf t (y 0)) (colOf t (y 1))).symm
  have h := part_at m c t (y 0) (y 1) (rowOf t (y 0)) (colOf t (y 1)) rfl rfl
  exact congrArg (fun d : EReal => max d (Ideal.ofBits .f32 0x00000000#32) * max d (Ideal.ofBits .f32 0x00000000#32)) h
/-- An element of the host's result. -/
theorem host3_at (P : Fin 8192) (Q : Fin 8192) :
    (Cert.Reference14Ideal.Read.val_main_v4 (F := Ideal) (m (c, main_arg0)) (m (c, main_arg1)) : FVec Ideal S8192x8192 .bf16) (ix2 P Q) = dot m c P Q := by
  refine (Cert.Reference14Ideal.Read.val_main_v0_apply _ _ _).trans ?_
  unfold dot
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same3 : ((dats m 0 c).arrAt 3 cfg0.N : FVec Ideal S8192x8192 .bf16)
    = Cert.Reference14Ideal.Read.val_main_v4 (F := Ideal) (m (c, main_arg0)) (m (c, main_arg1)) := by
  refine (dats m 0 c).arrAt_eq_of_covers 3 _ (by decide +kernel) fun t hf y => ?_
  blk_simp
  rw [after0_3, out_eq3]
  have hy : y = ix2 (y 0 : Fin 1024) (y 1 : Fin 1024) := eq_ix2 y
  rw [hy]
  refine Eq.trans ?_ (congrArg (Cert.Reference14Ideal.Read.val_main_v4 (F := Ideal) (m (c, main_arg0)) (m (c, main_arg1)) : FVec Ideal S8192x8192 .bf16) (emb3 t (y 0) (y 1))).symm
  refine Eq.trans ?_ (host3_at m c (rowOf t (y 0)) (colOf t (y 1))).symm
  exact part_at m c t (y 0) (y 1) _ _ rfl rfl

end Read

/-! ## The claims -/

theorem ref_rests : Cert.quiescent_Reference14Ideal (hReference14Ideal := Cert.Reference14Ideal.Gen.facts) := fun m ρ _ =>
  (θ_run Cert.Reference14Ideal.defs _ _).mono
    (fun r h => ⟨fun c => (h c).2.2, sem_eq_zero_of_no_sems (by decide) r.2⟩) (Cert.Reference14Ideal.Value.run m ρ)

theorem same_result : Cert.algebraic_Kernel14Ideal_Reference14Ideal (hKernel14Ideal := Cert.Kernel14Ideal.Gen.facts)
    (hReference14Ideal := Cert.Reference14Ideal.Gen.facts) := by
  intro m ρ m' ρ' _ hargs
  refine ⟨fun c => (Cert.Kernel14Ideal.Gen.dats m 0 c).arrAt 2 Cert.Kernel14Ideal.cfg0.N, fun c => (Cert.Kernel14Ideal.Gen.dats m 0 c).arrAt 3 Cert.Kernel14Ideal.cfg0.N, Cert.Kernel14Ideal.Value.run_blocks m ρ, ?_⟩
  refine (θ_run Cert.Reference14Ideal.defs _ _).mono (fun r h c => ⟨(h c).1.trans ?_, (h c).2.1.trans ?_, (h c).2.2⟩) (Cert.Reference14Ideal.Value.run m' ρ')
  · refine (Cert.Reference14Ideal.Read.val_main_v3_eq (F := Ideal) _ _).trans (Eq.trans ?_ (same2 m c).symm)
    exact congrArg₂ (fun a b => Cert.Reference14Ideal.Read.val_main_v3 (F := Ideal) a b) (hargs c).1 (hargs c).2
  · refine (Cert.Reference14Ideal.Read.val_main_v4_eq (F := Ideal) _ _).trans (Eq.trans ?_ (same3 m c).symm)
    exact congrArg₂ (fun a b => Cert.Reference14Ideal.Read.val_main_v4 (F := Ideal) a b) (hargs c).1 (hargs c).2

end Cert.K14

end
-- ==== Proof.K15.lean ====
/-
  The channel mixers' second product, gated and added to the residual: what the call leaves is what the host computes.
-/
module

public import proofs.«01_k».proof.Proof.Product
public import proofs.«01_k».proof.Defs
public import Idealize.ShloMosaic.Lib.Quiescent
public import proofs.«01_k».proof.Proof.Gen.Kernel15Ideal.Value
public import proofs.«01_k».proof.Proof.Gen.Reference15Ideal.Read
public import Idealize.ShloMosaic.Lib.Tactic
public import Idealize.ShloMosaic.Lib.ValueLayout

@[expose] public section

set_option maxRecDepth 16384

noncomputable section

namespace Cert.K15

open Idealize.ShloMosaic Idealize.ShloMosaic.TcCoe Idealize.SL.Sem Idealize.ShloMosaic.StableHlo Idealize.ShloMosaic.ValueIdx
open Cert.Kernel15Ideal Cert.Kernel15Ideal.Gen Cert.Product

section Body

variable {F : FTy → Type} [FloatOps F]

/-- The product of the two blocks of a point. -/
def part (x : FVec F S1024x2048 .bf16) (w : FVec F S2048x1024 .bf16) : FVec F S1024x1024 .f32 :=
  FloatOps.matmul dot_S1024x2048_S2048x1024_S1024x1024_1_0_0_1_n_n none x w (constant S1024x1024 .f32 0x00000000#32)

/-- The residual's block with the gated sum added. -/
def gated (s u : FVec F S1024x1024 .f32) (g : FVec F S1x1024 .f32) : FVec F S1024x1024 .f32 :=
  addf u (mulf (broadcastTo S1024x1024 g broadcasts_S1x1024_S1024x1024) s)

theorem pay (x : FVec F S1024x2048 .bf16) (w : FVec F S2048x1024 .bf16) : k0_pay1 x w = part x w := by
  unfold k0_pay1 part
  simp only [shapeCast_self]

theorem pay_gated (s u : FVec F S1024x1024 .f32) (g : FVec F S1x1024 .f32) : k0_pay4 s u g = gated s u g := by
  unfold k0_pay4 gated
  simp only [shapeCast_self]

variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x : FVec F S1024x2048 .bf16) (w : FVec F S2048x1024 .bf16) (u : FVec F S1024x1024 .f32) (g : FVec F S1x1024 .f32) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 a7 h7 a8 h8 a9 h9 hc0 hc1 hc2 x w u g = part x w := by
  unfold sout0_A_0
  rw [View.read_writes_eq_canon _ _ _ (scover0_A_0 c i a3 h3 a4 h4 a5 h5 a6 h6 a7 h7 a8 h8 a9 h9 hc0 hc1 hc2 x w u g)]
  unfold kernelRun0_A
  dsimp only
  rw [View.canon_unit_zero zero2]
  unfold k0_pay2
  simp only [View.readAt_eq_ld, h3.read_unread, h4.read_unread, h5.read_unread, h6.read_unread, h9.read_unread, View.ld_unit_zero (S := S1024x2048) zero2, View.ld_unit_zero (S := S2048x1024) zero2, shapeCast_self, pay]

/-- A later point adds its product. -/
theorem later (hc0 : ¬cond0_0 i) (hc1 : cond0_1 i) (hc2 : ¬cond0_2 i) :
    sout0_B_0 c i a3 h3 a4 h4 a5 h5 a6 h6 a7 h7 a8 h8 a9 h9 hc0 hc1 hc2 x w u g s = addf s (part x w) := by
  unfold sout0_B_0
  rw [View.read_writes_eq_canon _ _ _ (scover0_B_0 c i a3 h3 a4 h4 a5 h5 a6 h6 a7 h7 a8 h8 a9 h9 hc0 hc1 hc2 x w u g s)]
  unfold kernelRun0_B
  dsimp only
  rw [View.canon_unit_zero zero2]
  unfold k0_pay3
  simp only [View.readAt_eq_ld, h3.read_unread, h4.read_unread, h5.read_unread, h6.read_unread, h9.read_unread, View.ld_unit_zero (S := S1024x2048) zero2, View.ld_unit_zero (S := S2048x1024) zero2, View.ld_unit_zero (S := S1024x1024) zero2, View.ld_unit_zero (S := S1x1024) zero2,
    shapeCast_self, pay]

/-- What the last point writes to result 4. -/
theorem last4 (hc0 : ¬cond0_0 i) (hc1 : cond0_1 i) (hc2 : cond0_2 i) :
    out0_C_4 c i a3 h3 a4 h4 a5 h5 a6 h6 a7 h7 a8 h8 a9 h9 hc0 hc1 hc2 x w u g s = gated (addf s (part x w)) u g := by
  unfold out0_C_4
  rw [View.read_writes_eq_canon _ _ _ (cover0_C_4 c i a3 h3 a4 h4 a5 h5 a6 h6 a7 h7 a8 h8 a9 h9 hc0 hc1 hc2 x w u g s)]
  unfold kernelRun0_C
  dsimp only
  sl_unfold_words
  rw [View.canon_unit_zero zero2, View.readCov_unit_zero (S := S1024x1024) _ zero2]
  unfold k0_pay3
  simp only [View.readAt_eq_ld, h3.read_unread, h4.read_unread, h5.read_unread, h6.read_unread, h9.read_unread, View.ld_unit_zero (S := S1024x2048) zero2, View.ld_unit_zero (S := S2048x1024) zero2, View.ld_unit_zero (S := S1024x1024) zero2, View.ld_unit_zero (S := S1x1024) zero2,
    shapeCast_self, pay, pay_gated]

/-- What the last point writes to result 5. -/
theorem last5 (hc0 : ¬cond0_0 i) (hc1 : cond0_1 i) (hc2 : cond0_2 i) :
    out0_C_5 c i a3 h3 a4 h4 a5 h5 a6 h6 a7 h7 a8 h8 a9 h9 hc0 hc1 hc2 x w u g s = truncf .bf16 (addf s (part x w)) bitsLt_bf16_f32 := by
  unfold out0_C_5
  rw [View.read_writes_eq_canon _ _ _ (cover0_C_5 c i a3 h3 a4 h4 a5 h5 a6 h6 a7 h7 a8 h8 a9 h9 hc0 hc1 hc2 x w u g s)]
  unfold kernelRun0_C
  dsimp only
  sl_unfold_words
  rw [View.canon_unit_zero zero2, View.readCov_unit_zero (S := S1024x1024) _ zero2]
  unfold k0_pay5 k0_pay3
  simp only [View.readAt_eq_ld, h3.read_unread, h4.read_unread, h5.read_unread, h6.read_unread, h9.read_unread, View.ld_unit_zero (S := S1024x2048) zero2, View.ld_unit_zero (S := S2048x1024) zero2, View.ld_unit_zero (S := S1024x1024) zero2, View.ld_unit_zero (S := S1x1024) zero2,
    shapeCast_self, pay, pay_gated]

variable (m : (ℓ : Loc nD τ sig) → Buf (Elt F) ℓ)

theorem carried_first (t : Fin cfg0.N) (h : t.val % 4 = 0) (h1 : ¬1 ≤ t.val % 4) (h2 : ¬t.val % 4 = 3) :
    (outsAt0 m c t.val t.isLt).2.2 = part (F := F) (iblk m c 0 t) (iblk m c 1 t) := by
  have e := first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) ((hcond0_0 t).mpr h) (fun g => h1 ((hcond0_1 t).mp g)) (fun g => h2 ((hcond0_2 t).mp g))
  rw [← e, outsAt0_A m c t h h1 h2]

theorem carried_later (t : Fin cfg0.N) (h : ¬t.val % 4 = 0) (h1 : 1 ≤ t.val % 4) (h2 : ¬t.val % 4 = 3) :
    (outsAt0 m c t.val t.isLt).2.2 = addf (outsAt0 m c (t.val - 1) (Nat.lt_of_le_of_lt (Nat.sub_le _ _) t.isLt)).2.2
      (part (F := F) (iblk m c 0 t) (iblk m c 1 t)) := by
  have e := later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (outsAt0 m c (t.val - 1) (Nat.lt_of_le_of_lt (Nat.sub_le _ _) t.isLt)).2.2
    (fun g => h ((hcond0_0 t).mp g)) ((hcond0_1 t).mpr h1) (fun g => h2 ((hcond0_2 t).mp g))
  rw [← e, outsAt0_B m c t h h1 h2]

theorem carried_last4 (t : Fin cfg0.N) (h : ¬t.val % 4 = 0) (h1 : 1 ≤ t.val % 4) (h2 : t.val % 4 = 3) :
    (outsAt0 m c t.val t.isLt).1 = gated (addf (outsAt0 m c (t.val - 1) (Nat.lt_of_le_of_lt (Nat.sub_le _ _) t.isLt)).2.2 (part (F := F) (iblk m c 0 t) (iblk m c 1 t))) (iblk m c 2 t) (iblk m c 3 t) := by
  have e := last4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (outsAt0 m c (t.val - 1) (Nat.lt_of_le_of_lt (Nat.sub_le _ _) t.isLt)).2.2
    (fun g => h ((hcond0_0 t).mp g)) ((hcond0_1 t).mpr h1) ((hcond0_2 t).mpr h2)
  rw [← e, outsAt0_C m c t h h1 h2]

theorem carried_last5 (t : Fin cfg0.N) (h : ¬t.val % 4 = 0) (h1 : 1 ≤ t.val % 4) (h2 : t.val % 4 = 3) :
    (outsAt0 m c t.val t.isLt).2.1 = truncf .bf16 (addf (outsAt0 m c (t.val - 1) (Nat.lt_of_le_of_lt (Nat.sub_le _ _) t.isLt)).2.2 (part (F := F) (iblk m c 0 t) (iblk m c 1 t))) bitsLt_bf16_f32 := by
  have e := last5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (outsAt0 m c (t.val - 1) (Nat.lt_of_le_of_lt (Nat.sub_le _ _) t.isLt)).2.2
    (fun g => h ((hcond0_0 t).mp g)) ((hcond0_1 t).mpr h1) ((hcond0_2 t).mpr h2)
  rw [← e, outsAt0_C m c t h h1 h2]

/-- The points of a run. -/
theorem bound {n : ℕ} (r : ℕ) (hr : r < 4) (hn : 4 * n + 3 < cfg0.N) : 4 * n + r < cfg0.N := by omega

/-- The sum of the products of a run. -/
def total (n : ℕ) (hn : 4 * n + 3 < cfg0.N) : FVec F S1024x1024 .f32 :=
  addf (addf (addf (part (F := F) (iblk m c 0 ⟨4 * n + 0, bound 0 (by decide) hn⟩) (iblk m c 1 ⟨4 * n + 0, bound 0 (by decide) hn⟩))
        (part (F := F) (iblk m c 0 ⟨4 * n + 1, bound 1 (by decide) hn⟩) (iblk m c 1 ⟨4 * n + 1, bound 1 (by decide) hn⟩)))
        (part (F := F) (iblk m c 0 ⟨4 * n + 2, bound 2 (by decide) hn⟩) (iblk m c 1 ⟨4 * n + 2, bound 2 (by decide) hn⟩)))
        (part (F := F) (iblk m c 0 ⟨4 * n + 3, hn⟩) (iblk m c 1 ⟨4 * n + 3, hn⟩))

/-- What the last point of a run writes back to result 4. -/
theorem written4 (n : ℕ) (hn : 4 * n + 3 < cfg0.N) :
    (outsAt0 m c (4 * n + 3) hn).1 = gated (total c m n hn) (iblk m c 2 ⟨4 * n + 3, hn⟩) (iblk m c 3 ⟨4 * n + 3, hn⟩) := by
  have h4 := carried_last4 c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  unfold total
  rw [← h1]
  refine h4.trans ?_
  refine congrArg (fun s => gated (F := F) (addf s _) (iblk m c 2 ⟨4 * n + 3, hn⟩) (iblk m c 3 ⟨4 * n + 3, hn⟩)) (h3.trans ?_)
  exact congrArg (fun s => addf s _) h2

/-- What the last point of a run writes back to result 5. -/
theorem written5 (n : ℕ) (hn : 4 * n + 3 < cfg0.N) :
    (outsAt0 m c (4 * n + 3) hn).2.1 = truncf .bf16 (total c m n hn) bitsLt_bf16_f32 := by
  have h4 := carried_last5 c m ⟨4 * n + 3, hn⟩ (by dsimp only; omega) (by dsimp only; omega) (by dsimp only; omega)
  have h3 := carried_later c m ⟨4 * n + 2, bound 2 (by decide) hn⟩ (by dsimp only; omega) (by dsimp only; omega) (by dsimp only; omega)
  have h2 := carried_later c m ⟨4 * n + 1, bound 1 (by decide) hn⟩ (by dsimp only; omega) (by dsimp only; omega) (by dsimp only; omega)
  have h1 := carried_first c m ⟨4 * n + 0, bound 0 (by decide) hn⟩ (by dsimp only; omega) (by dsimp only; omega) (by dsimp only; omega)
  unfold total
  rw [← h1]
  refine h4.trans ?_
  refine congrArg (fun s => truncf .bf16 (addf s _) bitsLt_bf16_f32) (h3.trans ?_)
  exact congrArg (fun s => addf s _) h2

end Body

/-! ## Read at an index -/

section Read

variable (m : (ℓ : Loc nD τ sig) → Buf (Elt Ideal) ℓ) (c : Dev nD)

/-- The left operand before it is rounded. -/
def left : FVec Ideal S8192x8192 .f32 := Cert.Reference15Ideal.Read.val_main_v1 (F := Ideal) (m (c, main_arg0))

/-- The right operand before it is rounded. -/
def right : FVec Ideal S8192x2048 .f32 := m (c, main_arg1)

/-- The residual. -/
def resid : FVec Ideal S8192x2048 .f32 := m (c, main_arg2)

/-- The gate. -/
def gate : FVec Ideal S2048 .f32 := m (c, main_arg3)

/-- The left operand as the call reads it. -/
theorem V_left : V m c main_v2 = (truncf .bf16 (left m c) bitsLt_bf16_f32 : FVec Ideal S8192x8192 .bf16) := by
  simp only [V, hostOps0, hostOps0_1, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v3 = (truncf .bf16 (right m c) bitsLt_bf16_f32 : FVec Ideal S8192x2048 .bf16) := by
  simp only [V, hostOps0, hostOps0_1, List.flatten_cons, List.flatten_nil, List.append_nil, List.cons_append,
      List.nil_append, TRef.nullary, TRef.binary, TRef.unary, TRef.toBuf, TRef.ofBuf, cast_eq]
  after_results_simp
  rfl

/-- The residual as the call reads it. -/
theorem V_resid : V m c main_arg2 = resid m c := by
  simp only [V, hostOps0, hostOps0_1, List.flatten_cons, List.flatten_nil, List.append_nil, List.cons_append,
      List.nil_append, TRef.nullary, TRef.binary, TRef.unary, TRef.toBuf, TRef.ofBuf, cast_eq]
  after_results_simp
  rfl

/-- The gate as the call reads it. -/
theorem V_gate : V m c main_v4 = (shapeCast S1x2048 (gate m c) shapeCasts_S2048_S1x2048 : FVec Ideal S1x2048 .f32) := by
  simp only [V, hostOps0, hostOps0_1, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 8
    ∧ win0_0.index t (1 : Fin 2) = t.val % 4
    ∧ win0_1.index t (0 : Fin 2) = t.val % 4
    ∧ win0_1.index t (1 : Fin 2) = t.val / 4 % 2
    ∧ win0_2.index t (0 : Fin 2) = t.val / 8
    ∧ win0_2.index t (1 : Fin 2) = t.val / 4 % 2
    ∧ win0_3.index t (0 : Fin 2) = 0
    ∧ win0_3.index t (1 : Fin 2) = t.val / 4 % 2 :=
  (by decide +kernel : ∀ t : Fin grid0.N, _)

theorem left_at (t : Fin cfg0.N) (k : Fin 2048) (p : Fin 1024) (K : Fin 8192) (P : Fin 8192)
    (hK : K.val = (t.val % 4) * 2048 + k.val) (hP : P.val = (t.val / 8) * 1024 + p.val) :
    (iblk m c 0 t : FVec Ideal S1024x2048 .bf16) (ix2 p k) = left m c (ix2 P K) := by
  unfold iblk
  rw [View.read_apply]
  refine (congrFun (V_left m c) (((cfg0.win 0).blk t).view.emb (ix2 p k))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * k.val = K.val; rw [(places t).2.1]; omega

theorem right_at (t : Fin cfg0.N) (k : Fin 2048) (q : Fin 1024) (K : Fin 8192) (Q : Fin 2048)
    (hK : K.val = (t.val % 4) * 2048 + k.val) (hQ : Q.val = (t.val / 4 % 2) * 1024 + q.val) :
    (iblk m c 1 t : FVec Ideal S2048x1024 .bf16) (ix2 k q) = right m c (ix2 K Q) := by
  unfold iblk
  rw [View.read_apply]
  refine (congrFun (V_right m c) (((cfg0.win 1).blk t).view.emb (ix2 k q))).trans ?_
  show right m c _ = _
  congr 1
  funext a
  apply Fin.ext
  match a with
  | ⟨0, _⟩ => show win0_1.index t 0 * 2048 + 1 * k.val = K.val; rw [(places t).2.2.1]; omega
  | ⟨1, _⟩ => show win0_1.index t 1 * 1024 + 1 * q.val = Q.val; rw [(places t).2.2.2.1]; omega

theorem resid_at (t : Fin cfg0.N) (p q : Fin 1024) (P : Fin 8192) (Q : Fin 2048)
    (hP : P.val = (t.val / 8) * 1024 + p.val) (hQ : Q.val = (t.val / 4 % 2) * 1024 + q.val) :
    (iblk m c 2 t : FVec Ideal S1024x1024 .f32) (ix2 p q) = resid m c (ix2 P Q) := by
  unfold iblk
  rw [View.read_apply]
  refine (congrFun (V_resid m c) (((cfg0.win 2).blk t).view.emb (ix2 p q))).trans ?_
  show resid m c _ = _
  congr 1
  funext a
  apply Fin.ext
  match a with
  | ⟨0, _⟩ => show win0_2.index t 0 * 1024 + 1 * p.val = P.val; rw [(places t).2.2.2.2.1]; omega
  | ⟨1, _⟩ => show win0_2.index t 1 * 1024 + 1 * q.val = Q.val; rw [(places t).2.2.2.2.2.1]; omega

theorem gate_at (t : Fin cfg0.N) (q : Fin 1024) (Q : Fin 2048) (hQ : Q.val = (t.val / 4 % 2) * 1024 + q.val) :
    (iblk m c 3 t : FVec Ideal S1x1024 .f32) (ix2 (0 : Fin 1) q) = gate m c (ix1 Q) := by
  unfold iblk
  rw [View.read_apply]
  refine (congrFun (V_gate m c) (((cfg0.win 3).blk t).view.emb (ix2 (0 : Fin 1) q))).trans ?_
  refine shapeCast_apply (gate m c) shapeCasts_S2048_S1x2048 _ (ix1 Q) ?_
  rewrite [Shape.rowMajor_val_one, Shape.rowMajor_val_two]
  show Q.val = (win0_3.index t 0 * 1 + 1 * 0) * 2048 + (win0_3.index t 1 * 1024 + 1 * q.val)
  have e : win0_3.index t 1 * 1024 + 1 * q.val = Q.val := by rw [(places t).2.2.2.2.2.2.2]; omega
  rw [(places t).2.2.2.2.2.2.1, e]
  simp only [Nat.zero_mul, Nat.mul_zero, Nat.zero_add, Nat.add_zero]

/-- One term of the host's product. -/
def term (P : Fin 8192) (Q : Fin 2048) (K : Fin 8192) : EReal :=
  left m c (ix2 P K) * right m c (ix2 K Q)

theorem part_at (t : Fin cfg0.N) (p q : Fin 1024) (P : Fin 8192) (Q : Fin 2048) (r : ℕ) (hr : r < 4) (ht : t.val % 4 = r)
    (hP : P.val = (t.val / 8) * 1024 + p.val) (hQ : Q.val = (t.val / 4 % 2) * 1024 + q.val) :
    part (F := Ideal) (iblk m c 0 t) (iblk m c 1 t) (ix2 p q) = ∑ k : Fin 2048, term m c P Q ⟨r * 2048 + k.val, by omega⟩ := by
  unfold part
  refine (Ideal.matmul_plain_apply none _ _ _ p q).trans ?_
  refine ((congrArg (· + _) (show (constant S1024x1024 .f32 0x00000000#32 : FVec Ideal S1024x1024 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- The sum of the products of a run, at an index. -/
theorem total_at (n : ℕ) (hn : 4 * n + 3 < cfg0.N) (p q : Fin 1024) (P : Fin 8192) (Q : Fin 2048)
    (hP : P.val = (n / 2) * 1024 + p.val) (hQ : Q.val = (n % 2) * 1024 + q.val) :
    total (F := Ideal) c m n hn (ix2 p q) = ∑ K : Fin 8192, term m c P Q K :=
  sum_four_of (b := 2048) rfl (term m c P Q)
    (part_at m c ⟨4 * n + 0, bound 0 (by decide) hn⟩ p q P Q 0 (by decide) (by dsimp only; omega) (by dsimp only; omega) (by dsimp only; omega))
    (part_at m c ⟨4 * n + 1, bound 1 (by decide) hn⟩ p q P Q 1 (by decide) (by dsimp only; omega) (by dsimp only; omega) (by dsimp only; omega))
    (part_at m c ⟨4 * n + 2, bound 2 (by decide) hn⟩ p q P Q 2 (by decide) (by dsimp only; omega) (by dsimp only; omega) (by dsimp only; omega))
    (part_at m c ⟨4 * n + 3, hn⟩ p q P Q 3 (by decide) (by dsimp only; omega) (by dsimp only; omega) (by dsimp only; omega))

/-- What the last point of a run writes to the first result, at an index. -/
theorem written4_at (n : ℕ) (hn : 4 * n + 3 < cfg0.N) (p q : Fin 1024) (P : Fin 8192) (Q : Fin 2048)
    (hP : P.val = (n / 2) * 1024 + p.val) (hQ : Q.val = (n % 2) * 1024 + q.val) :
    (outsAt0 m c (4 * n + 3) hn).1 (ix2 p q) = resid m c (ix2 P Q) + gate m c (ix1 Q) * ∑ K : Fin 8192, term m c P Q K := by
  rw [written4 c m n hn]
  exact congrArg₂ (· + ·) (resid_at m c ⟨4 * n + 3, hn⟩ p q P Q (by dsimp only; omega) (by dsimp only; omega))
    (congrArg₂ (· * ·) ((broadcastTo_1b_ab_apply _ _ p q).trans (gate_at m c ⟨4 * n + 3, hn⟩ q Q (by dsimp only; omega))) (total_at m c n hn p q P Q hP hQ))

/-- What the last point of a run writes to the second result, at an index. -/
theorem written5_at (n : ℕ) (hn : 4 * n + 3 < cfg0.N) (p q : Fin 1024) (P : Fin 8192) (Q : Fin 2048)
    (hP : P.val = (n / 2) * 1024 + p.val) (hQ : Q.val = (n % 2) * 1024 + q.val) :
    (outsAt0 m c (4 * n + 3) hn).2.1 (ix2 p q) = ∑ K : Fin 8192, term m c P Q K := by
  rw [written5 c m n hn]
  exact total_at m c n hn p q P Q hP hQ

/-- An element of result 4. -/
theorem final4_at (P : Fin 8192) (Q : Fin 2048) : (Value.G4 m c : FVec Ideal S8192x2048 .f32) (ix2 P Q) = resid m c (ix2 P Q) + gate m c (ix1 Q) * ∑ K : Fin 8192, term m c P Q K := by
  have hN : cfg0.N = 64 := N_0
  have hn : Value.run4Of (ix2 P Q) = 2 * (P.val / 1024 - 0) + 1 * (Q.val / 1024 - 0) := rfl
  have hb : Value.pt4Of (ix2 P Q) < cfg0.N := by
    show 4 * Value.run4Of (ix2 P Q) + 3 < _
    omega
  unfold Value.G4
  rw [dif_pos hb, ← Value.outsAt0_sweep m c _ hb]
  have hy : Value.loc4Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written4_at m c _ hb _ _ P Q (by rw [hn]; dsimp only; omega) (by rw [hn]; dsimp only; omega)

/-- An element of result 5. -/
theorem final5_at (P : Fin 8192) (Q : Fin 2048) : (Value.G5 m c : FVec Ideal S8192x2048 .bf16) (ix2 P Q) = ∑ K : Fin 8192, term m c P Q K := by
  have hN : cfg0.N = 64 := N_0
  have hn : Value.run5Of (ix2 P Q) = 2 * (P.val / 1024 - 0) + 1 * (Q.val / 1024 - 0) := rfl
  have hb : Value.pt5Of (ix2 P Q) < cfg0.N := by
    show 4 * Value.run5Of (ix2 P Q) + 3 < _
    omega
  unfold Value.G5
  rw [dif_pos hb, ← Value.outsAt0_sweep m c _ hb]
  have hy : Value.loc5Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written5_at m c _ hb _ _ P Q (by rw [hn]; dsimp only; omega) (by rw [hn]; dsimp only; omega)

/-- An element of the host's product. -/
theorem host_at (P : Fin 8192) (Q : Fin 2048) :
    (Cert.Reference15Ideal.Read.val_main_v2 (F := Ideal) (m (c, main_arg0)) (m (c, main_arg1)) : FVec Ideal S8192x2048 .f32) (ix2 P Q) = ∑ K : Fin 8192, term m c P Q K := by
  refine (Cert.Reference15Ideal.Read.val_main_v2_apply _ _ _).trans ?_
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same4 : (Value.G4 m c : FVec Ideal S8192x2048 .f32) = Cert.Reference15Ideal.Read.val_main_v6 (F := Ideal) (m (c, main_arg0)) (m (c, main_arg1)) (m (c, main_arg2)) (m (c, main_arg3)) := by
  funext y
  rw [eq_ix2 y]
  refine (final4_at m c _ _).trans (Eq.symm ?_)
  refine congrArg (resid m c (ix2 (y 0) (y 1)) + ·) (congrArg₂ (· * ·) ?_ (host_at m c (y 0) (y 1)))
  exact congrArg (gate m c) (by funext a; match a with | ⟨0, _⟩ => rfl)

theorem same5 : (Value.G5 m c : FVec Ideal S8192x2048 .bf16) = Cert.Reference15Ideal.Read.val_main_v7 (F := Ideal) (m (c, main_arg0)) (m (c, main_arg1)) := by
  funext y
  rw [eq_ix2 y]
  exact (final5_at m c _ _).trans (host_at m c _ _).symm

end Read

/-! ## The claims -/

theorem ref_rests : Cert.quiescent_Reference15Ideal (hReference15Ideal := Cert.Reference15Ideal.Gen.facts) := fun m ρ _ =>
  (θ_run Cert.Reference15Ideal.defs _ _).mono
    (fun r h => ⟨fun c => (h c).2.2, sem_eq_zero_of_no_sems (by decide) r.2⟩) (Cert.Reference15Ideal.Value.run m ρ)

theorem same_result : Cert.algebraic_Kernel15Ideal_Reference15Ideal (hKernel15Ideal := Cert.Kernel15Ideal.Gen.facts)
    (hReference15Ideal := Cert.Reference15Ideal.Gen.facts) := by
  intro m ρ m' ρ' _ hargs
  refine ⟨fun c => Cert.Kernel15Ideal.Value.G4 m c, fun c => Cert.Kernel15Ideal.Value.G5 m c, Cert.Kernel15Ideal.Value.run m ρ, ?_⟩
  refine (θ_run Cert.Reference15Ideal.defs _ _).mono (fun r h c => ⟨(h c).1.trans ?_, (h c).2.1.trans ?_, (h c).2.2⟩) (Cert.Reference15Ideal.Value.run m' ρ')
  · refine (Cert.Reference15Ideal.Read.val_main_v6_eq (F := Ideal) _ _ _ _).trans (Eq.trans ?_ (same4 m c).symm)
    rw [(hargs c).1, (hargs c).2.1, (hargs c).2.2.1, (hargs c).2.2.2]
  · refine (Cert.Reference15Ideal.Read.val_main_v7_eq (F := Ideal) _ _).trans (Eq.trans ?_ (same5 m c).symm)
    exact congrArg₂ (fun a b => Cert.Reference15Ideal.Read.val_main_v7 (F := Ideal) a b) (hargs c).1 (hargs c).2.1

end Cert.K15

end
-- ==== Proof.K16.lean ====
/-
  The state-space mixer's input projection, its columns padded: what the call leaves is the host's product.
-/
module

public import proofs.«01_k».proof.Proof.Product
public import proofs.«01_k».proof.Defs
public import Idealize.ShloMosaic.Lib.Quiescent
public import proofs.«01_k».proof.Proof.Gen.Kernel16Ideal.Value
public import proofs.«01_k».proof.Proof.Gen.Reference16Ideal.Read
public import Idealize.ShloMosaic.Lib.Pipeline.ValueKit
public import proofs.«01_k».proof.Proof.Padded

@[expose] public section

set_option maxRecDepth 16384

noncomputable section

namespace Cert.K16

open Idealize.ShloMosaic hiding ix2 ix3 eq_ix2 eq_ix3
open Idealize.ShloMosaic.TcCoe Idealize.SL.Sem Idealize.ShloMosaic.StableHlo Idealize.ShloMosaic.ValueIdx
open Cert.Kernel16Ideal Cert.Kernel16Ideal.Gen Cert.Product

section Body

variable {F : FTy → Type} [FloatOps F]

/-- The product of the two blocks of a point. -/
def part (x : FVec F S1024x2048 .bf16) (w : FVec F S2048x1152 .bf16) : FVec F S1024x1152 .f32 :=
  FloatOps.matmul dot_S1024x2048_S2048x1152_S1024x1152_1_0_0_1_n_n none x w (constant S1024x1152 .f32 0x00000000#32)

theorem out_eq (x : FVec F S1024x2048 .bf16) (w : FVec F S2048x1152 .bf16) : out0_2 x w = part x w := by
  unfold out0_2
  rw [View.canon_unit_zero zero2]
  simp only [View.ld_unit_zero (S := S1024x2048) zero2, View.ld_unit_zero (S := S2048x1152) zero2]
  unfold k0_pay1 part
  simp only [shapeCast_self]

end Body

/-! ## Read at an index -/

section Read

variable (m : (ℓ : Loc nD τ sig) → Buf (Elt Ideal) ℓ) (c : Dev nD)

/-- The left operand before it is rounded. -/
def left : FVec Ideal S8192x2048 .f32 := m (c, main_arg0)

/-- The right operand before it is rounded. -/
def right : FVec Ideal S2048x10368 .f32 := pad S2048x10368 ![0, 0] ![0, 64] ![0, 0] (m (c, main_arg1) : FVec Ideal S2048x10304 .f32) (sitofp .f32 (constantI S_ 32 0#32)) pads_S2048x10304_S2048x10368_000_0640 h_S_

/-- The left operand as the call reads it. -/
theorem V_left : V m c main_v0 = (truncf .bf16 (left m c) bitsLt_bf16_f32 : FVec Ideal S8192x2048 .bf16) := by
  simp only [V, hostOps0, hostOps0_1, hostOps0_2, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v2 = (truncf .bf16 (right m c) bitsLt_bf16_f32 : FVec Ideal S2048x10368 .bf16) := by
  simp only [V, hostOps0, hostOps0_1, hostOps0_2, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 9
    ∧ win0_0.index t (1 : Fin 2) = 0
    ∧ win0_1.index t (0 : Fin 2) = 0
    ∧ win0_1.index t (1 : Fin 2) = t.val % 9
    ∧ win0_2.index t (0 : Fin 2) = t.val / 9
    ∧ win0_2.index t (1 : Fin 2) = t.val % 9 :=
  (by decide +kernel : ∀ t : Fin grid0.N, _)

theorem left_at (t : Fin cfg0.N) (p : Fin 1024) (K : Fin 2048) (P : Fin 8192) (hP : P.val = (t.val / 9) * 1024 + p.val) :
    (iblk m c 0 t : FVec Ideal S1024x2048 .bf16) (ix2 p K) = left m c (ix2 P K) := by
  unfold iblk
  rw [View.read_apply]
  refine (congrFun (V_left m c) (((cfg0.win 0).blk t).view.emb (ix2 p K))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * K.val = K.val; rw [(places t).2.1]; omega

theorem right_at (t : Fin cfg0.N) (q : Fin 1152) (K : Fin 2048) (Q : Fin 10368) (hQ : Q.val = (t.val % 9) * 1152 + q.val) :
    (iblk m c 1 t : FVec Ideal S2048x1152 .bf16) (ix2 K q) = right m c (ix2 K Q) := by
  unfold iblk
  rw [View.read_apply]
  refine (congrFun (V_right m c) (((cfg0.win 1).blk t).view.emb (ix2 K q))).trans ?_
  show right m c _ = _
  congr 1
  funext a
  apply Fin.ext
  match a with
  | ⟨0, _⟩ => show win0_1.index t 0 * 2048 + 1 * K.val = K.val; rw [(places t).2.2.1]; omega
  | ⟨1, _⟩ => show win0_1.index t 1 * 1152 + 1 * q.val = Q.val; rw [(places t).2.2.2.1]; omega

/-- An element of the host's product. -/
def dot (P : Fin 8192) (Q : Fin 10368) : EReal := ∑ K : Fin 2048, left m c (ix2 P K) * right m c (ix2 K Q)

theorem part_at (t : Fin cfg0.N) (p : Fin 1024) (q : Fin 1152) (P : Fin 8192) (Q : Fin 10368)
    (hP : P.val = (t.val / 9) * 1024 + p.val) (hQ : Q.val = (t.val % 9) * 1152 + q.val) :
    part (F := Ideal) (iblk m c 0 t) (iblk m c 1 t) (ix2 p q) = dot m c P Q := by
  unfold part
  refine (Ideal.matmul_plain_apply none _ _ _ p q).trans ?_
  refine ((congrArg (· + _) (show (constant S1024x1152 .f32 0x00000000#32 : FVec Ideal S1024x1152 .f32) (ix2 p q) = 0 from Ideal.ofBits_zero_f32)).trans (zero_add _)).trans ?_
  unfold dot
  refine Finset.sum_congr rfl fun K _ => ?_
  rw [left_at m c t p K P hP, right_at m c t q K Q hQ]

/-- The row of the result that a row of a point's block is. -/
def rowOf (t : Fin cfg0.N) (p : Fin 1024) : Fin 8192 :=
  ⟨(t.val / 9) * 1024 + p.val, by have h := t.isLt; have hN : cfg0.N = 72 := N_0; omega⟩

/-- The column of the result that a column of a point's block is. -/
def colOf (t : Fin cfg0.N) (q : Fin 1152) : Fin 10368 :=
  ⟨(t.val % 9) * 1152 + q.val, by omega⟩

theorem emb2 (t : Fin cfg0.N) (p : Fin 1024) (q : Fin 1152) :
    (((cfg0.win 2).blk t).view.emb (ix2 p q) : S8192x10368.Idx) = ix2 (rowOf t p) (colOf t q) := by
  funext a
  apply Fin.ext
  match a with
  | ⟨0, _⟩ => show win0_2.index t 0 * 1024 + 1 * p.val = (t.val / 9) * 1024 + p.val; rw [(places t).2.2.2.2.1]; omega
  | ⟨1, _⟩ => show win0_2.index t 1 * 1152 + 1 * q.val = (t.val % 9) * 1152 + q.val; rw [(places t).2.2.2.2.2]; omega

theorem right_in (i : Fin 2048) (j : Fin 10368) (hj : j.val < 10304) :
    right m c (ix2 i j) = (m (c, main_arg1) : FVec Ideal S2048x10304 .f32) (ix2 i ⟨j.val, hj⟩) := by
  unfold right
  exact pad_in _ _ _ _ i j hj

theorem right_out (i : Fin 2048) (j : Fin 10368) (hj : ¬j.val < 10304) : right m c (ix2 i j) = 0 := by
  unfold right
  exact (pad_out _ _ _ _ i j hj).trans (zero_word _ _)

/-- An element of the host's result. -/
theorem host_at (P : Fin 8192) (Q : Fin 10368) :
    (Cert.Reference16Ideal.Read.val_main_v1 (F := Ideal) (m (c, main_arg0)) (m (c, main_arg1)) : FVec Ideal S8192x10368 .f32) (ix2 P Q) = dot m c P Q := by
  unfold Cert.Reference16Ideal.Read.val_main_v1 dot
  by_cases hq : Q.val < 10304
  · refine (pad_in _ _ _ _ P Q hq).trans ?_
    refine (Cert.Reference16Ideal.Read.val_main_v0_apply _ _ _).trans ?_
    refine Finset.sum_congr rfl fun K _ => ?_
    refine congrArg₂ (· * ·) (congrArg (left m c) ?_) (Eq.trans (congrArg (m (c, main_arg1) : FVec Ideal S2048x10304 .f32) ?_) (right_in m c K Q hq).symm)
    · funext a; match a with | ⟨0, _⟩ => rfl | ⟨1, _⟩ => rfl
    · funext a; match a with | ⟨0, _⟩ => rfl | ⟨1, _⟩ => rfl
  · refine (pad_out _ _ _ _ P Q hq).trans ((zero_word _ _).trans (Finset.sum_eq_zero fun K _ => ?_).symm)
    exact (congrArg (left m c (ix2 P K) * ·) (right_out m c K Q hq)).trans (mul_zero _)

theorem same : ((dats m 0 c).arrAt 2 cfg0.N : FVec Ideal S8192x10368 .f32)
    = Cert.Reference16Ideal.Read.val_main_v1 (F := Ideal) (m (c, main_arg0)) (m (c, main_arg1)) := by
  refine (dats m 0 c).arrAt_eq_of_covers 2 _ (by decide +kernel) fun t hf y => ?_
  blk_simp
  rw [after0_2, out_eq]
  have hy : y = ix2 (y 0 : Fin 1024) (y 1 : Fin 1152) := eq_ix2 y
  rw [hy]
  refine Eq.trans ?_ (congrArg (Cert.Reference16Ideal.Read.val_main_v1 (F := Ideal) (m (c, main_arg0)) (m (c, main_arg1)) : FVec Ideal S8192x10368 .f32) (emb2 t (y 0) (y 1))).symm
  refine Eq.trans ?_ (host_at m c (rowOf t (y 0)) (colOf t (y 1))).symm
  exact part_at m c t (y 0) (y 1) _ _ rfl rfl

end Read

/-! ## The claims -/

theorem ref_rests : Cert.quiescent_Reference16Ideal (hReference16Ideal := Cert.Reference16Ideal.Gen.facts) := fun m ρ _ =>
  (θ_run Cert.Reference16Ideal.defs _ _).mono
    (fun r h => ⟨fun c => (h c).2, sem_eq_zero_of_no_sems (by decide) r.2⟩) (Cert.Reference16Ideal.Value.run m ρ)

theorem same_result : Cert.algebraic_Kernel16Ideal_Reference16Ideal (hKernel16Ideal := Cert.Kernel16Ideal.Gen.facts)
    (hReference16Ideal := Cert.Reference16Ideal.Gen.facts) := by
  intro m ρ m' ρ' _ hargs
  refine ⟨fun c => (Cert.Kernel16Ideal.Gen.dats m 0 c).arrAt 2 Cert.Kernel16Ideal.cfg0.N, Cert.Kernel16Ideal.Value.run_blocks m ρ, ?_⟩
  refine (θ_run Cert.Reference16Ideal.defs _ _).mono (fun r h c => ⟨(h c).1.trans ?_, (h c).2⟩) (Cert.Reference16Ideal.Value.run m' ρ')
  refine (Cert.Reference16Ideal.Read.val_main_v1_eq (F := Ideal) _ _).trans (Eq.trans ?_ (same m c).symm)
  exact congrArg₂ (fun a b => Cert.Reference16Ideal.Read.val_main_v1 (F := Ideal) a b) (hargs c).1 (hargs c).2

end Cert.K16

end
-- ==== Proof.K17.lean ====
/-
  The state-space mixer's output projection, gated and added to the residual: what the call leaves is what the host computes.
-/
module

public import proofs.«01_k».proof.Proof.Product
public import proofs.«01_k».proof.Defs
public import Idealize.ShloMosaic.Lib.Quiescent
public import proofs.«01_k».proof.Proof.Gen.Kernel17Ideal.Value
public import proofs.«01_k».proof.Proof.Gen.Reference17Ideal.Read
public import Idealize.ShloMosaic.Lib.Tactic
public import Idealize.ShloMosaic.Lib.ValueLayout

@[expose] public section

set_option maxRecDepth 16384

noncomputable section

namespace Cert.K17

open Idealize.ShloMosaic Idealize.ShloMosaic.TcCoe Idealize.SL.Sem Idealize.ShloMosaic.StableHlo Idealize.ShloMosaic.ValueIdx
open Cert.Kernel17Ideal Cert.Kernel17Ideal.Gen Cert.Product

section Body

variable {F : FTy → Type} [FloatOps F]

/-- The product of the two blocks of a point. -/
def part (x : FVec F S1024x2048 .bf16) (w : FVec F S2048x1024 .bf16) : FVec F S1024x1024 .f32 :=
  FloatOps.matmul dot_S1024x2048_S2048x1024_S1024x1024_1_0_0_1_n_n none x w (constant S1024x1024 .f32 0x00000000#32)

/-- The residual's block with the gated sum added. -/
def gated (s u : FVec F S1024x1024 .f32) (g : FVec F S1x1024 .f32) : FVec F S1024x1024 .f32 :=
  addf u (mulf (broadcastTo S1024x1024 g broadcasts_S1x1024_S1024x1024) s)

theorem pay (x : FVec F S1024x2048 .bf16) (w : FVec F S2048x1024 .bf16) : k0_pay1 x w = part x w := by
  unfold k0_pay1 part
  simp only [shapeCast_self]

theorem pay_gated (s u : FVec F S1024x1024 .f32) (g : FVec F S1x1024 .f32) : k0_pay4 s u g = gated s u g := by
  unfold k0_pay4 gated
  simp only [shapeCast_self]

variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x : FVec F S1024x2048 .bf16) (w : FVec F S2048x1024 .bf16) (u : FVec F S1024x1024 .f32) (g : FVec F S1x1024 .f32) (s : FVec F S1024x1024 .f32)

/-- The first point of a run leaves its product. -/
theorem first (hc0 : cond0_0 i) (hc1 : ¬cond0_1 i) (hc2 : ¬cond0_2 i) :
    sout0_A_0 c i a3 h3 a4 h4 a5 h5 a6 h6 a7 h7 a8 h8 a9 h9 hc0 hc1 hc2 x w u g = part x w := by
  unfold sout0_A_0
  rw [View.read_writes_eq_canon _ _ _ (scover0_A_0 c i a3 h3 a4 h4 a5 h5 a6 h6 a7 h7 a8 h8 a9 h9 hc0 hc1 hc2 x w u g)]
  unfold kernelRun0_A
  dsimp only
  rw [View.canon_unit_zero zero2]
  unfold k0_pay2
  simp only [View.readAt_eq_ld, h3.read_unread, h4.read_unread, h5.read_unread, h6.read_unread, h9.read_unread, View.ld_unit_zero (S := S1024x2048) zero2, View.ld_unit_zero (S := S2048x1024) zero2, shapeCast_self, pay]

/-- What the last point writes to result 4. -/
theorem last4 (hc0 : ¬cond0_0 i) (hc1 : cond0_1 i) (hc2 : cond0_2 i) :
    out0_B_4 c i a3 h3 a4 h4 a5 h5 a6 h6 a7 h7 a8 h8 a9 h9 hc0 hc1 hc2 x w u g s = gated (addf s (part x w)) u g := by
  unfold out0_B_4
  rw [View.read_writes_eq_canon _ _ _ (cover0_B_4 c i a3 h3 a4 h4 a5 h5 a6 h6 a7 h7 a8 h8 a9 h9 hc0 hc1 hc2 x w u g s)]
  unfold kernelRun0_B
  dsimp only
  sl_unfold_words
  rw [View.canon_unit_zero zero2, View.readCov_unit_zero (S := S1024x1024) _ zero2]
  unfold k0_pay3
  simp only [View.readAt_eq_ld, h3.read_unread, h4.read_unread, h5.read_unread, h6.read_unread, h9.read_unread, View.ld_unit_zero (S := S1024x2048) zero2, View.ld_unit_zero (S := S2048x1024) zero2, View.ld_unit_zero (S := S1024x1024) zero2, View.ld_unit_zero (S := S1x1024) zero2,
    shapeCast_self, pay, pay_gated]

/-- What the last point writes to result 5. -/
theorem last5 (hc0 : ¬cond0_0 i) (hc1 : cond0_1 i) (hc2 : cond0_2 i) :
    out0_B_5 c i a3 h3 a4 h4 a5 h5 a6 h6 a7 h7 a8 h8 a9 h9 hc0 hc1 hc2 x w u g s = truncf .bf16 (addf s (part x w)) bitsLt_bf16_f32 := by
  unfold out0_B_5
  rw [View.read_writes_eq_canon _ _ _ (cover0_B_5 c i a3 h3 a4 h4 a5 h5 a6 h6 a7 h7 a8 h8 a9 h9 hc0 hc1 hc2 x w u g s)]
  unfold kernelRun0_B
  dsimp only
  sl_unfold_words
  rw [View.canon_unit_zero zero2, View.readCov_unit_zero (S := S1024x1024) _ zero2]
  unfold k0_pay5 k0_pay3
  simp only [View.readAt_eq_ld, h3.read_unread, h4.read_unread, h5.read_unread, h6.read_unread, h9.read_unread, View.ld_unit_zero (S := S1024x2048) zero2, View.ld_unit_zero (S := S2048x1024) zero2, View.ld_unit_zero (S := S1024x1024) zero2, View.ld_unit_zero (S := S1x1024) zero2,
    shapeCast_self, pay, pay_gated]

variable (m : (ℓ : Loc nD τ sig) → Buf (Elt F) ℓ)

theorem carried_first (t : Fin cfg0.N) (h : t.val % 2 = 0) (h1 : ¬t.val % 2 = 1) (h2 : ¬t.val % 2 = 1) :
    (outsAt0 m c t.val t.isLt).2.2 = part (F := F) (iblk m c 0 t) (iblk m c 1 t) := by
  have e := first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) ((hcond0_0 t).mpr h) (fun g => h1 ((hcond0_1 t).mp g)) (fun g => h2 ((hcond0_2 t).mp g))
  rw [← e, outsAt0_A m c t h h1 h2]

theorem carried_last4 (t : Fin cfg0.N) (h : ¬t.val % 2 = 0) (h1 : t.val % 2 = 1) (h2 : t.val % 2 = 1) :
    (outsAt0 m c t.val t.isLt).1 = gated (addf (outsAt0 m c (t.val - 1) (Nat.lt_of_le_of_lt (Nat.sub_le _ _) t.isLt)).2.2 (part (F := F) (iblk m c 0 t) (iblk m c 1 t))) (iblk m c 2 t) (iblk m c 3 t) := by
  have e := last4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (outsAt0 m c (t.val - 1) (Nat.lt_of_le_of_lt (Nat.sub_le _ _) t.isLt)).2.2
    (fun g => h ((hcond0_0 t).mp g)) ((hcond0_1 t).mpr h1) ((hcond0_2 t).mpr h2)
  rw [← e, outsAt0_B m c t h h1 h2]

theorem carried_last5 (t : Fin cfg0.N) (h : ¬t.val % 2 = 0) (h1 : t.val % 2 = 1) (h2 : t.val % 2 = 1) :
    (outsAt0 m c t.val t.isLt).2.1 = truncf .bf16 (addf (outsAt0 m c (t.val - 1) (Nat.lt_of_le_of_lt (Nat.sub_le _ _) t.isLt)).2.2 (part (F := F) (iblk m c 0 t) (iblk m c 1 t))) bitsLt_bf16_f32 := by
  have e := last5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (outsAt0 m c (t.val - 1) (Nat.lt_of_le_of_lt (Nat.sub_le _ _) t.isLt)).2.2
    (fun g => h ((hcond0_0 t).mp g)) ((hcond0_1 t).mpr h1) ((hcond0_2 t).mpr h2)
  rw [← e, outsAt0_B m c t h h1 h2]

/-- The points of a run. -/
theorem bound {n : ℕ} (r : ℕ) (hr : r < 2) (hn : 2 * n + 1 < cfg0.N) : 2 * n + r < cfg0.N := by omega

/-- The sum of the products of a run. -/
def total (n : ℕ) (hn : 2 * n + 1 < cfg0.N) : FVec F S1024x1024 .f32 :=
  addf (part (F := F) (iblk m c 0 ⟨2 * n + 0, bound 0 (by decide) hn⟩) (iblk m c 1 ⟨2 * n + 0, bound 0 (by decide) hn⟩))
        (part (F := F) (iblk m c 0 ⟨2 * n + 1, hn⟩) (iblk m c 1 ⟨2 * n + 1, hn⟩))

/-- What the last point of a run writes back to result 4. -/
theorem written4 (n : ℕ) (hn : 2 * n + 1 < cfg0.N) :
    (outsAt0 m c (2 * n + 1) hn).1 = gated (total c m n hn) (iblk m c 2 ⟨2 * n + 1, hn⟩) (iblk m c 3 ⟨2 * n + 1, hn⟩) := by
  have h2 := carried_last4 c m ⟨2 * n + 1, hn⟩ (by dsimp only; omega) (by dsimp only; omega) (by dsimp only; omega)
  have h1 := carried_first c m ⟨2 * n + 0, bound 0 (by decide) hn⟩ (by dsimp only; omega) (by dsimp only; omega) (by dsimp only; omega)
  unfold total
  rw [← h1]
  refine h2.trans ?_
  rfl

/-- What the last point of a run writes back to result 5. -/
theorem written5 (n : ℕ) (hn : 2 * n + 1 < cfg0.N) :
    (outsAt0 m c (2 * n + 1) hn).2.1 = truncf .bf16 (total c m n hn) bitsLt_bf16_f32 := by
  have h2 := carried_last5 c m ⟨2 * n + 1, hn⟩ (by dsimp only; omega) (by dsimp only; omega) (by dsimp only; omega)
  have h1 := carried_first c m ⟨2 * n + 0, bound 0 (by decide) hn⟩ (by dsimp only; omega) (by dsimp only; omega) (by dsimp only; omega)
  unfold total
  rw [← h1]
  refine h2.trans ?_
  rfl

end Body

/-! ## Read at an index -/

section Read

variable (m : (ℓ : Loc nD τ sig) → Buf (Elt Ideal) ℓ) (c : Dev nD)

/-- The left operand before it is rounded. -/
def left : FVec Ideal S8192x4096 .f32 := m (c, main_arg0)

/-- The right operand before it is rounded. -/
def right : FVec Ideal S4096x2048 .f32 := m (c, main_arg1)

/-- The residual. -/
def resid : FVec Ideal S8192x2048 .f32 := m (c, main_arg2)

/-- The gate. -/
def gate : FVec Ideal S2048 .f32 := m (c, main_arg3)

/-- The left operand as the call reads it. -/
theorem V_left : V m c main_v0 = (truncf .bf16 (left m c) bitsLt_bf16_f32 : FVec Ideal S8192x4096 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S4096x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The residual as the call reads it. -/
theorem V_resid : V m c main_arg2 = resid m c := by
  simp only [V, hostOps0, List.flatten_cons, List.flatten_nil, List.append_nil, List.cons_append,
      List.nil_append, TRef.nullary, TRef.binary, TRef.unary, TRef.toBuf, TRef.ofBuf, cast_eq]
  after_results_simp
  rfl

/-- The gate as the call reads it. -/
theorem V_gate : V m c main_v2 = (shapeCast S1x2048 (gate m c) shapeCasts_S2048_S1x2048 : FVec Ideal S1x2048 .f32) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 4
    ∧ win0_0.index t (1 : Fin 2) = t.val % 2
    ∧ win0_1.index t (0 : Fin 2) = t.val % 2
    ∧ win0_1.index t (1 : Fin 2) = t.val / 2 % 2
    ∧ win0_2.index t (0 : Fin 2) = t.val / 4
    ∧ win0_2.index t (1 : Fin 2) = t.val / 2 % 2
    ∧ win0_3.index t (0 : Fin 2) = 0
    ∧ win0_3.index t (1 : Fin 2) = t.val / 2 % 2 :=
  (by decide +kernel : ∀ t : Fin grid0.N, _)

theorem left_at (t : Fin cfg0.N) (k : Fin 2048) (p : Fin 1024) (K : Fin 4096) (P : Fin 8192)
    (hK : K.val = (t.val % 2) * 2048 + k.val) (hP : P.val = (t.val / 4) * 1024 + p.val) :
    (iblk m c 0 t : FVec Ideal S1024x2048 .bf16) (ix2 p k) = left m c (ix2 P K) := by
  unfold iblk
  rw [View.read_apply]
  refine (congrFun (V_left m c) (((cfg0.win 0).blk t).view.emb (ix2 p k))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * k.val = K.val; rw [(places t).2.1]; omega

theorem right_at (t : Fin cfg0.N) (k : Fin 2048) (q : Fin 1024) (K : Fin 4096) (Q : Fin 2048)
    (hK : K.val = (t.val % 2) * 2048 + k.val) (hQ : Q.val = (t.val / 2 % 2) * 1024 + q.val) :
    (iblk m c 1 t : FVec Ideal S2048x1024 .bf16) (ix2 k q) = right m c (ix2 K Q) := by
  unfold iblk
  rw [View.read_apply]
  refine (congrFun (V_right m c) (((cfg0.win 1).blk t).view.emb (ix2 k q))).trans ?_
  show right m c _ = _
  congr 1
  funext a
  apply Fin.ext
  match a with
  | ⟨0, _⟩ => show win0_1.index t 0 * 2048 + 1 * k.val = K.val; rw [(places t).2.2.1]; omega
  | ⟨1, _⟩ => show win0_1.index t 1 * 1024 + 1 * q.val = Q.val; rw [(places t).2.2.2.1]; omega

theorem resid_at (t : Fin cfg0.N) (p q : Fin 1024) (P : Fin 8192) (Q : Fin 2048)
    (hP : P.val = (t.val / 4) * 1024 + p.val) (hQ : Q.val = (t.val / 2 % 2) * 1024 + q.val) :
    (iblk m c 2 t : FVec Ideal S1024x1024 .f32) (ix2 p q) = resid m c (ix2 P Q) := by
  unfold iblk
  rw [View.read_apply]
  refine (congrFun (V_resid m c) (((cfg0.win 2).blk t).view.emb (ix2 p q))).trans ?_
  show resid m c _ = _
  congr 1
  funext a
  apply Fin.ext
  match a with
  | ⟨0, _⟩ => show win0_2.index t 0 * 1024 + 1 * p.val = P.val; rw [(places t).2.2.2.2.1]; omega
  | ⟨1, _⟩ => show win0_2.index t 1 * 1024 + 1 * q.val = Q.val; rw [(places t).2.2.2.2.2.1]; omega

theorem gate_at (t : Fin cfg0.N) (q : Fin 1024) (Q : Fin 2048) (hQ : Q.val = (t.val / 2 % 2) * 1024 + q.val) :
    (iblk m c 3 t : FVec Ideal S1x1024 .f32) (ix2 (0 : Fin 1) q) = gate m c (ix1 Q) := by
  unfold iblk
  rw [View.read_apply]
  refine (congrFun (V_gate m c) (((cfg0.win 3).blk t).view.emb (ix2 (0 : Fin 1) q))).trans ?_
  refine shapeCast_apply (gate m c) shapeCasts_S2048_S1x2048 _ (ix1 Q) ?_
  rewrite [Shape.rowMajor_val_one, Shape.rowMajor_val_two]
  show Q.val = (win0_3.index t 0 * 1 + 1 * 0) * 2048 + (win0_3.index t 1 * 1024 + 1 * q.val)
  have e : win0_3.index t 1 * 1024 + 1 * q.val = Q.val := by rw [(places t).2.2.2.2.2.2.2]; omega
  rw [(places t).2.2.2.2.2.2.1, e]
  simp only [Nat.zero_mul, Nat.mul_zero, Nat.zero_add, Nat.add_zero]

/-- One term of the host's product. -/
def term (P : Fin 8192) (Q : Fin 2048) (K : Fin 4096) : EReal :=
  left m c (ix2 P K) * right m c (ix2 K Q)

theorem part_at (t : Fin cfg0.N) (p q : Fin 1024) (P : Fin 8192) (Q : Fin 2048) (r : ℕ) (hr : r < 2) (ht : t.val % 2 = r)
    (hP : P.val = (t.val / 4) * 1024 + p.val) (hQ : Q.val = (t.val / 2 % 2) * 1024 + q.val) :
    part (F := Ideal) (iblk m c 0 t) (iblk m c 1 t) (ix2 p q) = ∑ k : Fin 2048, term m c P Q ⟨r * 2048 + k.val, by omega⟩ := by
  unfold part
  refine (Ideal.matmul_plain_apply none _ _ _ p q).trans ?_
  refine ((congrArg (· + _) (show (constant S1024x1024 .f32 0x00000000#32 : FVec Ideal S1024x1024 .f32) (ix2 p q) = 0 from Ideal.ofBits_zero_f32)).trans (zero_add _)).trans ?_
  refine Finset.sum_congr rfl fun k _ => ?_
  rw [left_at m c t k p ⟨r * 2048 + k.val, by omega⟩ P (by rw [ht]) hP, right_at m c t k q ⟨r * 2048 + k.val, by omega⟩ Q (by rw [ht]) hQ]
  rfl

/-- The sum of the products of a run, at an index. -/
theorem total_at (n : ℕ) (hn : 2 * n + 1 < cfg0.N) (p q : Fin 1024) (P : Fin 8192) (Q : Fin 2048)
    (hP : P.val = (n / 2) * 1024 + p.val) (hQ : Q.val = (n % 2) * 1024 + q.val) :
    total (F := Ideal) c m n hn (ix2 p q) = ∑ K : Fin 4096, term m c P Q K :=
  sum_two_of (b := 2048) rfl (term m c P Q)
    (part_at m c ⟨2 * n + 0, bound 0 (by decide) hn⟩ p q P Q 0 (by decide) (by dsimp only; omega) (by dsimp only; omega) (by dsimp only; omega))
    (part_at m c ⟨2 * n + 1, hn⟩ p q P Q 1 (by decide) (by dsimp only; omega) (by dsimp only; omega) (by dsimp only; omega))

/-- What the last point of a run writes to the first result, at an index. -/
theorem written4_at (n : ℕ) (hn : 2 * n + 1 < cfg0.N) (p q : Fin 1024) (P : Fin 8192) (Q : Fin 2048)
    (hP : P.val = (n / 2) * 1024 + p.val) (hQ : Q.val = (n % 2) * 1024 + q.val) :
    (outsAt0 m c (2 * n + 1) hn).1 (ix2 p q) = resid m c (ix2 P Q) + gate m c (ix1 Q) * ∑ K : Fin 4096, term m c P Q K := by
  rw [written4 c m n hn]
  exact congrArg₂ (· + ·) (resid_at m c ⟨2 * n + 1, hn⟩ p q P Q (by dsimp only; omega) (by dsimp only; omega))
    (congrArg₂ (· * ·) ((broadcastTo_1b_ab_apply _ _ p q).trans (gate_at m c ⟨2 * n + 1, hn⟩ q Q (by dsimp only; omega))) (total_at m c n hn p q P Q hP hQ))

/-- What the last point of a run writes to the second result, at an index. -/
theorem written5_at (n : ℕ) (hn : 2 * n + 1 < cfg0.N) (p q : Fin 1024) (P : Fin 8192) (Q : Fin 2048)
    (hP : P.val = (n / 2) * 1024 + p.val) (hQ : Q.val = (n % 2) * 1024 + q.val) :
    (outsAt0 m c (2 * n + 1) hn).2.1 (ix2 p q) = ∑ K : Fin 4096, term m c P Q K := by
  rw [written5 c m n hn]
  exact total_at m c n hn p q P Q hP hQ

/-- An element of result 4. -/
theorem final4_at (P : Fin 8192) (Q : Fin 2048) : (Value.G4 m c : FVec Ideal S8192x2048 .f32) (ix2 P Q) = resid m c (ix2 P Q) + gate m c (ix1 Q) * ∑ K : Fin 4096, term m c P Q K := by
  have hN : cfg0.N = 32 := N_0
  have hn : Value.run4Of (ix2 P Q) = 2 * (P.val / 1024 - 0) + 1 * (Q.val / 1024 - 0) := rfl
  have hb : Value.pt4Of (ix2 P Q) < cfg0.N := by
    show 2 * Value.run4Of (ix2 P Q) + 1 < _
    omega
  unfold Value.G4
  rw [dif_pos hb, ← Value.outsAt0_sweep m c _ hb]
  have hy : Value.loc4Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written4_at m c _ hb _ _ P Q (by rw [hn]; dsimp only; omega) (by rw [hn]; dsimp only; omega)

/-- An element of result 5. -/
theorem final5_at (P : Fin 8192) (Q : Fin 2048) : (Value.G5 m c : FVec Ideal S8192x2048 .bf16) (ix2 P Q) = ∑ K : Fin 4096, term m c P Q K := by
  have hN : cfg0.N = 32 := N_0
  have hn : Value.run5Of (ix2 P Q) = 2 * (P.val / 1024 - 0) + 1 * (Q.val / 1024 - 0) := rfl
  have hb : Value.pt5Of (ix2 P Q) < cfg0.N := by
    show 2 * Value.run5Of (ix2 P Q) + 1 < _
    omega
  unfold Value.G5
  rw [dif_pos hb, ← Value.outsAt0_sweep m c _ hb]
  have hy : Value.loc5Of (ix2 P Q) = ix2 (⟨P.val % 1024, Nat.mod_lt _ (by decide)⟩ : Fin 1024) (⟨Q.val % 1024, Nat.mod_lt _ (by decide)⟩ : Fin 1024) := by
    funext a; match a with | ⟨0, _⟩ => rfl | ⟨1, _⟩ => rfl
  rw [hy]
  exact written5_at m c _ hb _ _ P Q (by rw [hn]; dsimp only; omega) (by rw [hn]; dsimp only; omega)

/-- An element of the host's product. -/
theorem host_at (P : Fin 8192) (Q : Fin 2048) :
    (Cert.Reference17Ideal.Read.val_main_v0 (F := Ideal) (m (c, main_arg0)) (m (c, main_arg1)) : FVec Ideal S8192x2048 .f32) (ix2 P Q) = ∑ K : Fin 4096, term m c P Q K := by
  refine (Cert.Reference17Ideal.Read.val_main_v0_apply _ _ _).trans ?_
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same4 : (Value.G4 m c : FVec Ideal S8192x2048 .f32) = Cert.Reference17Ideal.Read.val_main_v4 (F := Ideal) (m (c, main_arg0)) (m (c, main_arg1)) (m (c, main_arg2)) (m (c, main_arg3)) := by
  funext y
  rw [eq_ix2 y]
  refine (final4_at m c _ _).trans (Eq.symm ?_)
  refine congrArg (resid m c (ix2 (y 0) (y 1)) + ·) (congrArg₂ (· * ·) ?_ (host_at m c (y 0) (y 1)))
  exact congrArg (gate m c) (by funext a; match a with | ⟨0, _⟩ => rfl)

theorem same5 : (Value.G5 m c : FVec Ideal S8192x2048 .bf16) = Cert.Reference17Ideal.Read.val_main_v5 (F := Ideal) (m (c, main_arg0)) (m (c, main_arg1)) := by
  funext y
  rw [eq_ix2 y]
  exact (final5_at m c _ _).trans (host_at m c _ _).symm

end Read

/-! ## The claims -/

theorem ref_rests : Cert.quiescent_Reference17Ideal (hReference17Ideal := Cert.Reference17Ideal.Gen.facts) := fun m ρ _ =>
  (θ_run Cert.Reference17Ideal.defs _ _).mono
    (fun r h => ⟨fun c => (h c).2.2, sem_eq_zero_of_no_sems (by decide) r.2⟩) (Cert.Reference17Ideal.Value.run m ρ)

theorem same_result : Cert.algebraic_Kernel17Ideal_Reference17Ideal (hKernel17Ideal := Cert.Kernel17Ideal.Gen.facts)
    (hReference17Ideal := Cert.Reference17Ideal.Gen.facts) := by
  intro m ρ m' ρ' _ hargs
  refine ⟨fun c => Cert.Kernel17Ideal.Value.G4 m c, fun c => Cert.Kernel17Ideal.Value.G5 m c, Cert.Kernel17Ideal.Value.run m ρ, ?_⟩
  refine (θ_run Cert.Reference17Ideal.defs _ _).mono (fun r h c => ⟨(h c).1.trans ?_, (h c).2.1.trans ?_, (h c).2.2⟩) (Cert.Reference17Ideal.Value.run m' ρ')
  · refine (Cert.Reference17Ideal.Read.val_main_v4_eq (F := Ideal) _ _ _ _).trans (Eq.trans ?_ (same4 m c).symm)
    rw [(hargs c).1, (hargs c).2.1, (hargs c).2.2.1, (hargs c).2.2.2]
  · refine (Cert.Reference17Ideal.Read.val_main_v5_eq (F := Ideal) _ _).trans (Eq.trans ?_ (same5 m c).symm)
    exact congrArg₂ (fun a b => Cert.Reference17Ideal.Read.val_main_v5 (F := Ideal) a b) (hargs c).1 (hargs c).2.1

end Cert.K17

end
-- ==== Proof.K18.lean ====
/-
  The attention and pooling mixer's input projection, laid out by slab: what the call leaves is what the host computes.
-/
module

public import proofs.«01_k».proof.Proof.Product
public import proofs.«01_k».proof.Defs
public import Idealize.ShloMosaic.Lib.Quiescent
public import proofs.«01_k».proof.Proof.Gen.Kernel18Ideal.Value
public import proofs.«01_k».proof.Proof.Gen.Reference18Ideal.Read
public import Idealize.ShloMosaic.Lib.Pipeline.ValueKit
public import proofs.«01_k».proof.Proof.Slab
public import Idealize.ShloMosaic.Lib.ValueLayout

@[expose] public section

set_option maxRecDepth 16384

noncomputable section

namespace Cert.K18

open Idealize.ShloMosaic hiding ix2 ix3 eq_ix2 eq_ix3
open Idealize.ShloMosaic.TcCoe Idealize.SL.Sem Idealize.ShloMosaic.StableHlo Idealize.ShloMosaic.ValueIdx
open Cert.Kernel18Ideal Cert.Kernel18Ideal.Gen Cert.Product

section Body

variable {F : FTy → Type} [FloatOps F]

/-- The product of the two blocks of a point. -/
def part (x : FVec F S1024x2048 .bf16) (w : FVec F S2048x512 .bf16) : FVec F S1024x512 .f32 :=
  FloatOps.matmul dot_S1024x2048_S2048x512_S1024x512_1_0_0_1_n_n none x w (constant S1024x512 .f32 0x00000000#32)

theorem out_eq (x : FVec F S1024x2048 .bf16) (w : FVec F S2048x512 .bf16) : out0_2 x w
    = shapeCast S1x1024x512 (truncf .bf16 (part x w) bitsLt_bf16_f32 : FVec F S1024x512 .bf16) shapeCasts_S1024x512_S1x1024x512 := by
  unfold out0_2
  rw [View.canon_unit_zero zero3]
  simp only [View.ld_unit_zero (S := S1024x2048) zero2, View.ld_unit_zero (S := S2048x512) zero2]
  unfold k0_pay1 part
  simp only [shapeCast_self]

end Body

/-! ## Read at an index -/

section Read

variable (m : (ℓ : Loc nD τ sig) → Buf (Elt Ideal) ℓ) (c : Dev nD)

/-- The left operand before it is rounded. -/
def left : FVec Ideal S8192x2048 .f32 := m (c, main_arg0)

/-- The right operand before it is rounded. -/
def right : FVec Ideal S2048x5120 .f32 := m (c, main_arg1)

/-- The left operand as the call reads it. -/
theorem V_left : V m c main_v0 = (truncf .bf16 (left m c) bitsLt_bf16_f32 : FVec Ideal S8192x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S2048x5120 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 10
    ∧ win0_0.index t (1 : Fin 2) = 0
    ∧ win0_1.index t (0 : Fin 2) = 0
    ∧ win0_1.index t (1 : Fin 2) = t.val % 10 :=
  (by decide +kernel : ∀ t : Fin grid0.N, _)

theorem left_at (t : Fin cfg0.N) (p : Fin 1024) (K : Fin 2048) (P : Fin 8192) (hP : P.val = (t.val / 10) * 1024 + p.val) :
    (iblk m c 0 t : FVec Ideal S1024x2048 .bf16) (ix2 p K) = left m c (ix2 P K) := by
  unfold iblk
  rw [View.read_apply]
  refine (congrFun (V_left m c) (((cfg0.win 0).blk t).view.emb (ix2 p K))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 2048 + 1 * K.val = K.val; rw [(places t).2.1]; omega

theorem right_at (t : Fin cfg0.N) (q : Fin 512) (K : Fin 2048) (Q : Fin 5120) (hQ : Q.val = (t.val % 10) * 512 + q.val) :
    (iblk m c 1 t : FVec Ideal S2048x512 .bf16) (ix2 K q) = right m c (ix2 K Q) := by
  unfold iblk
  rw [View.read_apply]
  refine (congrFun (V_right m c) (((cfg0.win 1).blk t).view.emb (ix2 K q))).trans ?_
  show right m c _ = _
  congr 1
  funext a
  apply Fin.ext
  match a with
  | ⟨0, _⟩ => show win0_1.index t 0 * 2048 + 1 * K.val = K.val; rw [(places t).2.2.1]; omega
  | ⟨1, _⟩ => show win0_1.index t 1 * 512 + 1 * q.val = Q.val; rw [(places t).2.2.2]; omega

/-- An element of the host's product. -/
def dot (P : Fin 8192) (Q : Fin 5120) : EReal := ∑ K : Fin 2048, left m c (ix2 P K) * right m c (ix2 K Q)

theorem part_at (t : Fin cfg0.N) (p : Fin 1024) (q : Fin 512) (P : Fin 8192) (Q : Fin 5120)
    (hP : P.val = (t.val / 10) * 1024 + p.val) (hQ : Q.val = (t.val % 10) * 512 + q.val) :
    part (F := Ideal) (iblk m c 0 t) (iblk m c 1 t) (ix2 p q) = dot m c P Q := by
  unfold part
  refine (Ideal.matmul_plain_apply none _ _ _ p q).trans ?_
  refine ((congrArg (· + _) (show (constant S1024x512 .f32 0x00000000#32 : FVec Ideal S1024x512 .f32) (ix2 p q) = 0 from Ideal.ofBits_zero_f32)).trans (zero_add _)).trans ?_
  unfold dot
  refine Finset.sum_congr rfl fun K _ => ?_
  rw [left_at m c t p K P hP, right_at m c t q K Q hQ]

/-- The row of the result that a row of a point's block is. -/
def rowOf (t : Fin cfg0.N) (p : Fin 1024) : Fin 8192 :=
  ⟨(t.val / 10) * 1024 + p.val, by have h := t.isLt; have hN : cfg0.N = 80 := N_0; omega⟩

/-- The column of the result that a column of a point's block is. -/
def colOf (t : Fin cfg0.N) (q : Fin 512) : Fin 5120 :=
  ⟨(t.val % 10) * 512 + q.val, by omega⟩

theorem out_places : ∀ t : Fin cfg0.N, win0_2.index t (0 : Fin 3) = slab (t.val % 10)
    ∧ win0_2.index t (1 : Fin 3) = t.val / 10 ∧ win0_2.index t (2 : Fin 3) = 0 :=
  (by decide +kernel : ∀ t : Fin grid0.N, _)

/-- The slab a point writes. -/
def slabAt (t : Fin cfg0.N) : Fin 10 := ⟨slab (t.val % 10), slab_lt _⟩

theorem emb2 (t : Fin cfg0.N) (p : Fin 1024) (q : Fin 512) :
    (((cfg0.win 2).blk t).view.emb (ix3 (0 : Fin 1) p q) : S10x8192x512.Idx) = ix3 (slabAt t) (rowOf t p) q := by
  funext a
  apply Fin.ext
  match a with
  | ⟨0, _⟩ => show win0_2.index t 0 * 1 + 1 * 0 = slab (t.val % 10); rw [(out_places t).1]; omega
  | ⟨1, _⟩ => show win0_2.index t 1 * 1024 + 1 * p.val = (t.val / 10) * 1024 + p.val; rw [(out_places t).2.1]; omega
  | ⟨2, _⟩ => show win0_2.index t 2 * 512 + 1 * q.val = q.val; rw [(out_places t).2.2]; omega

/-- An element of the host's product, before it is laid out by slab. -/
theorem host_at (P : Fin 8192) (Q : Fin 5120) :
    (Cert.Reference18Ideal.Read.val_main_v0 (F := Ideal) (m (c, main_arg0)) (m (c, main_arg1)) : FVec Ideal Cert.Reference18Ideal.S8192x5120 .f32) (ix2 P Q) = dot m c P Q := by
  refine (Cert.Reference18Ideal.Read.val_main_v0_apply _ _ _).trans ?_
  unfold dot
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

/-- An element of the host's result. -/
theorem slab_at (s : Fin 10) (P : Fin 8192) (e : Fin 512) :
    (Cert.Reference18Ideal.Read.val_main_v8 (F := Ideal) (m (c, main_arg0)) (m (c, main_arg1)) : FVec Ideal S10x8192x512 .bf16) (ix3 s P e)
      = dot m c P (slabCol s e) := by
  refine (slabs_at (by decide) (Cert.Reference18Ideal.Read.val_main_v0 (F := Ideal) (m (c, main_arg0)) (m (c, main_arg1)) : FVec Ideal Cert.Reference18Ideal.S8192x5120 .f32)
    _ _ _ _ _ _ Cert.Reference18Ideal.Gen.concatenates_S9x8192x512_S1x8192x512_S10x8192x512_d0 s P e).trans ?_
  exact host_at m c P (slabCol s e)

theorem same : ((dats m 0 c).arrAt 2 cfg0.N : FVec Ideal S10x8192x512 .bf16)
    = Cert.Reference18Ideal.Read.val_main_v8 (F := Ideal) (m (c, main_arg0)) (m (c, main_arg1)) := by
  refine (dats m 0 c).arrAt_eq_of_covers 2 _ (by decide +kernel) fun t hf y => ?_
  blk_simp
  rw [after0_2, out_eq]
  have hu : @Eq (Fin 1) (y 0) 0 := Subsingleton.elim (α := Fin 1) _ _
  have hy : y = ix3 (0 : Fin 1) (y 1 : Fin 1024) (y 2 : Fin 512) := (eq_ix3 y).trans (congrArg (fun u : Fin 1 => ix3 u (y 1 : Fin 1024) (y 2 : Fin 512)) hu)
  rw [hy]
  refine Eq.trans ?_ (congrArg (Cert.Reference18Ideal.Read.val_main_v8 (F := Ideal) (m (c, main_arg0)) (m (c, main_arg1)) : FVec Ideal S10x8192x512 .bf16) (emb2 t (y 1) (y 2))).symm
  refine Eq.trans ?_ (slab_at m c (slabAt t) (rowOf t (y 1)) (y 2)).symm
  refine (shapeCast_ab_1ab_apply _ _ _ _ _).trans ?_
  refine (part_at m c t (y 1) (y 2) (rowOf t (y 1)) (colOf t (y 2)) rfl rfl).trans ?_
  exact congrArg (dot m c (rowOf t (y 1))) (slabCol_of (t.val % 10) (Nat.mod_lt _ (by decide)) (y 2) _ rfl).symm

end Read

/-! ## The claims -/

theorem ref_rests : Cert.quiescent_Reference18Ideal (hReference18Ideal := Cert.Reference18Ideal.Gen.facts) := fun m ρ _ =>
  (θ_run Cert.Reference18Ideal.defs _ _).mono
    (fun r h => ⟨fun c => (h c).2, sem_eq_zero_of_no_sems (by decide) r.2⟩) (Cert.Reference18Ideal.Value.run m ρ)

theorem same_result : Cert.algebraic_Kernel18Ideal_Reference18Ideal (hKernel18Ideal := Cert.Kernel18Ideal.Gen.facts)
    (hReference18Ideal := Cert.Reference18Ideal.Gen.facts) := by
  intro m ρ m' ρ' _ hargs
  refine ⟨fun c => (Cert.Kernel18Ideal.Gen.dats m 0 c).arrAt 2 Cert.Kernel18Ideal.cfg0.N, Cert.Kernel18Ideal.Value.run_blocks m ρ, ?_⟩
  refine (θ_run Cert.Reference18Ideal.defs _ _).mono (fun r h c => ⟨(h c).1.trans ?_, (h c).2⟩) (Cert.Reference18Ideal.Value.run m' ρ')
  refine (Cert.Reference18Ideal.Read.val_main_v8_eq (F := Ideal) _ _).trans (Eq.trans ?_ (same m c).symm)
  exact congrArg₂ (fun a b => Cert.Reference18Ideal.Read.val_main_v8 (F := Ideal) a b) (hargs c).1 (hargs c).2

end Cert.K18

end
-- ==== Proof.K19.lean ====
/-
  The attention and pooling mixer's output projection, gated and added to the residual: what the call leaves is what the host computes.
-/
module

public import proofs.«01_k».proof.Proof.Product
public import proofs.«01_k».proof.Defs
public import Idealize.ShloMosaic.Lib.Quiescent
public import proofs.«01_k».proof.Proof.Gen.Kernel19Ideal.Value
public import proofs.«01_k».proof.Proof.Gen.Reference19Ideal.Read
public import Idealize.ShloMosaic.Lib.Pipeline.ValueKit
public import Idealize.ShloMosaic.Lib.ValueLayout

@[expose] public section

set_option maxRecDepth 16384

noncomputable section

namespace Cert.K19

open Idealize.ShloMosaic hiding ix1 ix2 ix3 eq_ix2 eq_ix3
open Idealize.ShloMosaic.TcCoe Idealize.SL.Sem Idealize.ShloMosaic.StableHlo Idealize.ShloMosaic.ValueIdx
open Cert.Kernel19Ideal Cert.Kernel19Ideal.Gen Cert.Product

section Body

variable {F : FTy → Type} [FloatOps F]

/-- The product of the two blocks of a point. -/
def part (x : FVec F S1024x1024 .bf16) (w : FVec F S1024x1024 .bf16) : FVec F S1024x1024 .f32 :=
  FloatOps.matmul dot_S1024x1024_S1024x1024_S1024x1024_1_0_0_1_n_n none x w (constant S1024x1024 .f32 0x00000000#32)

theorem out_eq4 (x w : FVec F S1024x1024 .bf16) (u : FVec F S1024x1024 .f32) (g : FVec F S1x1024 .f32) : out0_4 x w u g
    = addf u (mulf (broadcastTo S1024x1024 g broadcasts_S1x1024_S1024x1024) (part x w)) := by
  unfold out0_4
  rw [View.canon_unit_zero zero2]
  simp only [View.ld_unit_zero (S := S1024x1024) zero2, View.ld_unit_zero (S := S1x1024) zero2]
  unfold k0_pay2 k0_pay1 part
  simp only [shapeCast_self]

theorem out_eq5 (x w : FVec F S1024x1024 .bf16) (u : FVec F S1024x1024 .f32) (g : FVec F S1x1024 .f32) : out0_5 x w u g = truncf .bf16 (part x w) bitsLt_bf16_f32 := by
  unfold out0_5
  rw [View.canon_unit_zero zero2]
  simp only [View.ld_unit_zero (S := S1024x1024) zero2]
  unfold k0_pay3 k0_pay1 part
  simp only [shapeCast_self]

end Body

/-! ## Read at an index -/

section Read

variable (m : (ℓ : Loc nD τ sig) → Buf (Elt Ideal) ℓ) (c : Dev nD)

/-- The left operand before it is rounded. -/
def left : FVec Ideal S8192x1024 .f32 := m (c, main_arg0)

/-- The right operand before it is rounded. -/
def right : FVec Ideal S1024x2048 .f32 := m (c, main_arg1)

/-- The left operand as the call reads it. -/
theorem V_left : V m c main_v0 = (truncf .bf16 (left m c) bitsLt_bf16_f32 : FVec Ideal S8192x1024 .bf16) := by
  simp only [V, hostOps0, List.flatten_cons, List.flatten_nil, List.append_nil, List.cons_append,
      List.nil_append, TRef.nullary, TRef.binary, TRef.unary, TRef.toBuf, TRef.ofBuf, cast_eq]
  after_results_simp
  rfl

/-- The right operand as the call reads it. -/
theorem V_right : V m c main_v1 = (truncf .bf16 (right m c) bitsLt_bf16_f32 : FVec Ideal S1024x2048 .bf16) := by
  simp only [V, hostOps0, List.flatten_cons, List.flatten_nil, List.append_nil, List.cons_append,
      List.nil_append, TRef.nullary, TRef.binary, TRef.unary, TRef.toBuf, TRef.ofBuf, cast_eq]
  after_results_simp
  rfl

theorem places : ∀ t : Fin cfg0.N, win0_0.index t (0 : Fin 2) = t.val / 2
    ∧ win0_0.index t (1 : Fin 2) = 0
    ∧ win0_1.index t (0 : Fin 2) = 0
    ∧ win0_1.index t (1 : Fin 2) = t.val % 2
    ∧ win0_4.index t (0 : Fin 2) = t.val / 2
    ∧ win0_4.index t (1 : Fin 2) = t.val % 2
    ∧ win0_5.index t (0 : Fin 2) = t.val / 2
    ∧ win0_5.index t (1 : Fin 2) = t.val % 2
    ∧ win0_2.index t (0 : Fin 2) = t.val / 2
    ∧ win0_2.index t (1 : Fin 2) = t.val % 2
    ∧ win0_3.index t (0 : Fin 2) = 0
    ∧ win0_3.index t (1 : Fin 2) = t.val % 2 :=
  (by decide +kernel : ∀ t : Fin grid0.N, _)

theorem left_at (t : Fin cfg0.N) (p : Fin 1024) (K : Fin 1024) (P : Fin 8192) (hP : P.val = (t.val / 2) * 1024 + p.val) :
    (iblk m c 0 t : FVec Ideal S1024x1024 .bf16) (ix2 p K) = left m c (ix2 P K) := by
  unfold iblk
  rw [View.read_apply]
  refine (congrFun (V_left m c) (((cfg0.win 0).blk t).view.emb (ix2 p K))).trans ?_
  show left m c _ = _
  congr 1
  funext a
  apply Fin.ext
  match a with
  | ⟨0, _⟩ => show win0_0.index t 0 * 1024 + 1 * p.val = P.val; rw [(places t).1]; omega
  | ⟨1, _⟩ => show win0_0.index t 1 * 1024 + 1 * K.val = K.val; rw [(places t).2.1]; omega

theorem right_at (t : Fin cfg0.N) (q : Fin 1024) (K : Fin 1024) (Q : Fin 2048) (hQ : Q.val = (t.val % 2) * 1024 + q.val) :
    (iblk m c 1 t : FVec Ideal S1024x1024 .bf16) (ix2 K q) = right m c (ix2 K Q) := by
  unfold iblk
  rw [View.read_apply]
  refine (congrFun (V_right m c) (((cfg0.win 1).blk t).view.emb (ix2 K q))).trans ?_
  show right m c _ = _
  congr 1
  funext a
  apply Fin.ext
  match a with
  | ⟨0, _⟩ => show win0_1.index t 0 * 1024 + 1 * K.val = K.val; rw [(places t).2.2.1]; omega
  | ⟨1, _⟩ => show win0_1.index t 1 * 1024 + 1 * q.val = Q.val; rw [(places t).2.2.2.1]; omega

/-- An element of the host's product. -/
def dot (P : Fin 8192) (Q : Fin 2048) : EReal := ∑ K : Fin 1024, left m c (ix2 P K) * right m c (ix2 K Q)

theorem part_at (t : Fin cfg0.N) (p : Fin 1024) (q : Fin 1024) (P : Fin 8192) (Q : Fin 2048)
    (hP : P.val = (t.val / 2) * 1024 + p.val) (hQ : Q.val = (t.val % 2) * 1024 + q.val) :
    part (F := Ideal) (iblk m c 0 t) (iblk m c 1 t) (ix2 p q) = dot m c P Q := by
  unfold part
  refine (Ideal.matmul_plain_apply none _ _ _ p q).trans ?_
  refine ((congrArg (· + _) (show (constant S1024x1024 .f32 0x00000000#32 : FVec Ideal S1024x1024 .f32) (ix2 p q) = 0 from Ideal.ofBits_zero_f32)).trans (zero_add _)).trans ?_
  unfold dot
  refine Finset.sum_congr rfl fun K _ => ?_
  rw [left_at m c t p K P hP, right_at m c t q K Q hQ]

/-- The row of the result that a row of a point's block is. -/
def rowOf (t : Fin cfg0.N) (p : Fin 1024) : Fin 8192 :=
  ⟨(t.val / 2) * 1024 + p.val, by have h := t.isLt; have hN : cfg0.N = 16 := N_0; omega⟩

/-- The column of the result that a column of a point's block is. -/
def colOf (t : Fin cfg0.N) (q : Fin 1024) : Fin 2048 :=
  ⟨(t.val % 2) * 1024 + q.val, by omega⟩

theorem emb4 (t : Fin cfg0.N) (p : Fin 1024) (q : Fin 1024) :
    (((cfg0.win 4).blk t).view.emb (ix2 p q) : S8192x2048.Idx) = ix2 (rowOf t p) (colOf t q) := by
  funext a
  apply Fin.ext
  match a with
  | ⟨0, _⟩ => show win0_4.index t 0 * 1024 + 1 * p.val = (t.val / 2) * 1024 + p.val; rw [(places t).2.2.2.2.1]; omega
  | ⟨1, _⟩ => show win0_4.index t 1 * 1024 + 1 * q.val = (t.val % 2) * 1024 + q.val; rw [(places t).2.2.2.2.2.1]; omega

theorem emb5 (t : Fin cfg0.N) (p : Fin 1024) (q : Fin 1024) :
    (((cfg0.win 5).blk t).view.emb (ix2 p q) : S8192x2048.Idx) = ix2 (rowOf t p) (colOf t q) := by
  funext a
  apply Fin.ext
  match a with
  | ⟨0, _⟩ => show win0_5.index t 0 * 1024 + 1 * p.val = (t.val / 2) * 1024 + p.val; rw [(places t).2.2.2.2.2.2.1]; omega
  | ⟨1, _⟩ => show win0_5.index t 1 * 1024 + 1 * q.val = (t.val % 2) * 1024 + q.val; rw [(places t).2.2.2.2.2.2.2.1]; omega

/-- The residual. -/
def resid : FVec Ideal S8192x2048 .f32 := m (c, main_arg2)

/-- The gate. -/
def gate : FVec Ideal S2048 .f32 := m (c, main_arg3)

theorem V_resid : V m c main_arg2 = resid m c := by
  simp only [V, hostOps0, List.flatten_cons, List.flatten_nil, List.append_nil, List.cons_append,
      List.nil_append, TRef.nullary, TRef.binary, TRef.unary, TRef.toBuf, TRef.ofBuf, cast_eq]
  after_results_simp
  rfl

theorem V_gate : V m c main_v2 = (shapeCast S1x2048 (gate m c) shapeCasts_S2048_S1x2048 : FVec Ideal S1x2048 .f32) := by
  simp only [V, hostOps0, List.flatten_cons, List.flatten_nil, List.append_nil, List.cons_append,
      List.nil_append, TRef.nullary, TRef.binary, TRef.unary, TRef.toBuf, TRef.ofBuf, cast_eq]
  after_results_simp
  rfl

theorem resid_at (t : Fin cfg0.N) (p q : Fin 1024) :
    (iblk m c 2 t : FVec Ideal S1024x1024 .f32) (ix2 p q) = resid m c (ix2 (rowOf t p) (colOf t q)) := by
  unfold iblk
  rw [View.read_apply]
  refine (congrFun (V_resid m c) (((cfg0.win 2).blk t).view.emb (ix2 p q))).trans ?_
  show resid m c _ = _
  congr 1
  funext a
  apply Fin.ext
  match a with
  | ⟨0, _⟩ => show win0_2.index t 0 * 1024 + 1 * p.val = (t.val / 2) * 1024 + p.val; rw [(places t).2.2.2.2.2.2.2.2.1]; omega
  | ⟨1, _⟩ => show win0_2.index t 1 * 1024 + 1 * q.val = (t.val % 2) * 1024 + q.val; rw [(places t).2.2.2.2.2.2.2.2.2.1]; omega

theorem gate_at (t : Fin cfg0.N) (q : Fin 1024) :
    (iblk m c 3 t : FVec Ideal S1x1024 .f32) (ix2 (0 : Fin 1) q) = gate m c (ix1 (colOf t q)) := by
  unfold iblk
  rw [View.read_apply]
  refine (congrFun (V_gate m c) (((cfg0.win 3).blk t).view.emb (ix2 (0 : Fin 1) q))).trans ?_
  refine shapeCast_apply (gate m c) shapeCasts_S2048_S1x2048 _ (ix1 (colOf t q)) ?_
  rewrite [Shape.rowMajor_val_one, Shape.rowMajor_val_two]
  show (t.val % 2) * 1024 + q.val = (win0_3.index t 0 * 1 + 1 * 0) * 2048 + (win0_3.index t 1 * 1024 + 1 * q.val)
  have e : win0_3.index t 1 * 1024 + 1 * q.val = (t.val % 2) * 1024 + q.val := by rw [(places t).2.2.2.2.2.2.2.2.2.2.2]; omega
  rw [(places t).2.2.2.2.2.2.2.2.2.2.1, e]
  simp only [Nat.zero_mul, Nat.mul_zero, Nat.zero_add, Nat.add_zero]

/-- An element of the host's result. -/
theorem host4_at (P : Fin 8192) (Q : Fin 2048) :
    (Cert.Reference19Ideal.Read.val_main_v4 (F := Ideal) (m (c, main_arg0)) (m (c, main_arg1)) (m (c, main_arg2)) (m (c, main_arg3)) : FVec Ideal S8192x2048 .f32) (ix2 P Q) = resid m c (ix2 P Q) + gate m c (ix1 Q) * dot m c P Q := by
  have hd : Cert.Reference19Ideal.Read.val_main_v0 (F := Ideal) (m (c, main_arg0)) (m (c, main_arg1)) (ix2 P Q) = dot m c P Q := by
    refine (Cert.Reference19Ideal.Read.val_main_v0_apply _ _ _).trans ?_
    unfold dot
    refine Finset.sum_congr rfl fun K _ => ?_
    refine congrArg₂ (· * ·) (congrArg (left m c) ?_) (congrArg (right m c) ?_)
    · funext a; match a with | ⟨0, _⟩ => rfl | ⟨1, _⟩ => rfl
    · funext a; match a with | ⟨0, _⟩ => rfl | ⟨1, _⟩ => rfl
  refine congrArg (resid m c (ix2 P Q) + ·) (congrArg₂ (· * ·) ?_ hd)
  exact congrArg (gate m c) (by funext a; match a with | ⟨0, _⟩ => rfl)

theorem same4 : ((dats m 0 c).arrAt 4 cfg0.N : FVec Ideal S8192x2048 .f32)
    = Cert.Reference19Ideal.Read.val_main_v4 (F := Ideal) (m (c, main_arg0)) (m (c, main_arg1)) (m (c, main_arg2)) (m (c, main_arg3)) := by
  refine (dats m 0 c).arrAt_eq_of_covers 4 _ (by decide +kernel) fun t hf y => ?_
  blk_simp
  rw [after0_4, out_eq4]
  have hy : y = ix2 (y 0 : Fin 1024) (y 1 : Fin 1024) := eq_ix2 y
  rw [hy]
  refine Eq.trans ?_ (congrArg (Cert.Reference19Ideal.Read.val_main_v4 (F := Ideal) (m (c, main_arg0)) (m (c, main_arg1)) (m (c, main_arg2)) (m (c, main_arg3)) : FVec Ideal S8192x2048 .f32) (emb4 t (y 0) (y 1))).symm
  refine Eq.trans ?_ (host4_at m c (rowOf t (y 0)) (colOf t (y 1))).symm
  exact congrArg₂ (· + ·) (resid_at m c t (y 0) (y 1))
    (congrArg₂ (· * ·) ((broadcastTo_1b_ab_apply _ _ (y 0) (y 1)).trans (gate_at m c t (y 1))) (part_at m c t (y 0) (y 1) _ _ rfl rfl))
/-- An element of the host's result. -/
theorem host5_at (P : Fin 8192) (Q : Fin 2048) :
    (Cert.Reference19Ideal.Read.val_main_v5 (F := Ideal) (m (c, main_arg0)) (m (c, main_arg1)) : FVec Ideal S8192x2048 .bf16) (ix2 P Q) = dot m c P Q := by
  refine (Cert.Reference19Ideal.Read.val_main_v0_apply _ _ _).trans ?_
  unfold dot
  refine Finset.sum_congr rfl fun K _ => ?_
  refine congrArg₂ (· * ·) (congrArg (left m c) ?_) (congrArg (right m c) ?_)
  · funext a; match a with | ⟨0, _⟩ => rfl | ⟨1, _⟩ => rfl
  · funext a; match a with | ⟨0, _⟩ => rfl | ⟨1, _⟩ => rfl

theorem same5 : ((dats m 0 c).arrAt 5 cfg0.N : FVec Ideal S8192x2048 .bf16)
    = Cert.Reference19Ideal.Read.val_main_v5 (F := Ideal) (m (c, main_arg0)) (m (c, main_arg1)) := by
  refine (dats m 0 c).arrAt_eq_of_covers 5 _ (by decide +kernel) fun t hf y => ?_
  blk_simp
  rw [after0_5, out_eq5]
  have hy : y = ix2 (y 0 : Fin 1024) (y 1 : Fin 1024) := eq_ix2 y
  rw [hy]
  refine Eq.trans ?_ (congrArg (Cert.Reference19Ideal.Read.val_main_v5 (F := Ideal) (m (c, main_arg0)) (m (c, main_arg1)) : FVec Ideal S8192x2048 .bf16) (emb5 t (y 0) (y 1))).symm
  refine Eq.trans ?_ (host5_at m c (rowOf t (y 0)) (colOf t (y 1))).symm
  exact part_at m c t (y 0) (y 1) _ _ rfl rfl

end Read

/-! ## The claims -/

theorem ref_rests : Cert.quiescent_Reference19Ideal (hReference19Ideal := Cert.Reference19Ideal.Gen.facts) := fun m ρ _ =>
  (θ_run Cert.Reference19Ideal.defs _ _).mono
    (fun r h => ⟨fun c => (h c).2.2, sem_eq_zero_of_no_sems (by decide) r.2⟩) (Cert.Reference19Ideal.Value.run m ρ)

theorem same_result : Cert.algebraic_Kernel19Ideal_Reference19Ideal (hKernel19Ideal := Cert.Kernel19Ideal.Gen.facts)
    (hReference19Ideal := Cert.Reference19Ideal.Gen.facts) := by
  intro m ρ m' ρ' _ hargs
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, Cert.Kernel19Ideal.Value.run_blocks m ρ, ?_⟩
  refine (θ_run Cert.Reference19Ideal.defs _ _).mono (fun r h c => ⟨(h c).1.trans ?_, (h c).2.1.trans ?_, (h c).2.2⟩) (Cert.Reference19Ideal.Value.run m' ρ')
  · refine (Cert.Reference19Ideal.Read.val_main_v4_eq (F := Ideal) _ _ _ _).trans (Eq.trans ?_ (same4 m c).symm)
    rw [(hargs c).1, (hargs c).2.1, (hargs c).2.2.1, (hargs c).2.2.2]
  · refine (Cert.Reference19Ideal.Read.val_main_v5_eq (F := Ideal) _ _).trans (Eq.trans ?_ (same5 m c).symm)
    exact congrArg₂ (fun a b => Cert.Reference19Ideal.Read.val_main_v5 (F := Ideal) a b) (hargs c).1 (hargs c).2.1

end Cert.K19

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.AttnFinal
public import Idealize.ShloMosaic.Adequacy
public import Idealize.ShloMosaic.Init
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.K2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.K3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.K4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.K5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.K6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.K7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.K8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.K9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.K10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.K11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.K12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.K13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.K14
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.K15
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.K16
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.K17
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.K18
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.K19

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Attn.finiteFacts, Cert.Attn.kernel_rests,
    Cert.Attn.ideal_rests, Cert.Attn.ideal_rests_pre, Cert.Attn.ref_rests, Cert.Attn.ref_rests_pre,
    fun m ρ _ => Cert.Kernel2.Gen.frame m ρ, fun m ρ _ => Cert.Kernel2Ideal.Gen.frame m ρ, Cert.K2.ref_rests,
    fun m ρ _ => Cert.Kernel3.Gen.frame m ρ, fun m ρ _ => Cert.Kernel3Ideal.Gen.frame m ρ, Cert.K3.ref_rests,
    fun m ρ _ => Cert.Kernel4.Gen.frame m ρ, fun m ρ _ => Cert.Kernel4Ideal.Gen.frame m ρ, Cert.K4.ref_rests,
    fun m ρ _ => Cert.Kernel5.Gen.frame m ρ, fun m ρ _ => Cert.Kernel5Ideal.Gen.frame m ρ, Cert.K5.ref_rests,
    fun m ρ _ => Cert.Kernel6.Gen.frame m ρ, fun m ρ _ => Cert.Kernel6Ideal.Gen.frame m ρ, Cert.K6.ref_rests,
    fun m ρ _ => Cert.Kernel7.Gen.frame m ρ, fun m ρ _ => Cert.Kernel7Ideal.Gen.frame m ρ, Cert.K7.ref_rests,
    fun m ρ _ => Cert.Kernel8.Gen.frame m ρ, fun m ρ _ => Cert.Kernel8Ideal.Gen.frame m ρ, Cert.K8.ref_rests,
    fun m ρ _ => Cert.Kernel9.Gen.frame m ρ, fun m ρ _ => Cert.Kernel9Ideal.Gen.frame m ρ, Cert.K9.ref_rests,
    fun m ρ _ => Cert.Kernel10.Gen.frame m ρ, fun m ρ _ => Cert.Kernel10Ideal.Gen.frame m ρ, Cert.K10.ref_rests,
    fun m ρ _ => Cert.Kernel11.Gen.frame m ρ, fun m ρ _ => Cert.Kernel11Ideal.Gen.frame m ρ, Cert.K11.ref_rests,
    fun m ρ _ => Cert.Kernel12.Gen.frame m ρ, fun m ρ _ => Cert.Kernel12Ideal.Gen.frame m ρ, Cert.K12.ref_rests,
    fun m ρ _ => Cert.Kernel13.Gen.frame m ρ, fun m ρ _ => Cert.Kernel13Ideal.Gen.frame m ρ, Cert.K13.ref_rests,
    fun m ρ _ => Cert.Kernel14.Gen.frame m ρ, fun m ρ _ => Cert.Kernel14Ideal.Gen.frame m ρ, Cert.K14.ref_rests,
    fun m ρ _ => Cert.Kernel15.Gen.frame m ρ, fun m ρ _ => Cert.Kernel15Ideal.Gen.frame m ρ, Cert.K15.ref_rests,
    fun m ρ _ => Cert.Kernel16.Gen.frame m ρ, fun m ρ _ => Cert.Kernel16Ideal.Gen.frame m ρ, Cert.K16.ref_rests,
    fun m ρ _ => Cert.Kernel17.Gen.frame m ρ, fun m ρ _ => Cert.Kernel17Ideal.Gen.frame m ρ, Cert.K17.ref_rests,
    fun m ρ _ => Cert.Kernel18.Gen.frame m ρ, fun m ρ _ => Cert.Kernel18Ideal.Gen.frame m ρ, Cert.K18.ref_rests,
    fun m ρ _ => Cert.Kernel19.Gen.frame m ρ, fun m ρ _ => Cert.Kernel19Ideal.Gen.frame m ρ, Cert.K19.ref_rests,
    Cert.Attn.mask_kept, Cert.Attn.same_gradients, trivial, Cert.K2.same_result, trivial, Cert.K3.same_result,
    trivial, Cert.K4.same_result, trivial, Cert.K5.same_result, trivial, Cert.K6.same_result, trivial,
    Cert.K7.same_result, trivial, Cert.K8.same_result, trivial, Cert.K9.same_result, trivial,
    Cert.K10.same_result, trivial, Cert.K11.same_result, trivial, Cert.K12.same_result, trivial,
    Cert.K13.same_result, trivial, Cert.K14.same_result, trivial, Cert.K15.same_result, trivial,
    Cert.K16.same_result, trivial, Cert.K17.same_result, trivial, Cert.K18.same_result, trivial,
    Cert.K19.same_result⟩

end Cert.Proof

end
